-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x128x128x256 : Shape := ⟨4, ![4, 128, 128, 256]⟩
abbrev S_ : Shape := ⟨0, ![]⟩
abbrev S4x1x128x256 : Shape := ⟨4, ![4, 1, 128, 256]⟩

class Facts : Prop where
  bcast_S_S4x128x128x256 : S_.BroadcastsInDim S4x128x128x256 (![] : Fin 0 → Fin S4x128x128x256.rank)
  reducesTo_S4x128x128x256_S_d0_1_2_3 : S4x128x128x256.ReducesTo [0, 1, 2, 3] S_
  h_S_ : 0 < S_.numel
  bcast_S_S4x1x128x256 : S_.BroadcastsInDim S4x1x128x256 (![] : Fin 0 → Fin S4x1x128x256.rank)
  reducesTo_S4x1x128x256_S_d0_1_2_3 : S4x1x128x256.ReducesTo [0, 1, 2, 3] S_

variable [Facts]

def fn {F : FTy → Type} [FloatOps F] (main_arg0 : FVec F S4x128x128x256 .f32) (main_arg1 : IVec S_ 32) (main_arg2 : FVec F S4x1x128x256 .f32) : IVec S_ 1 :=
  let main_c : IVec S_ 32 := constantI S_ 32 4#32
  let main_v0 : IVec S_ 1 := cmpi .eq main_arg1 main_c
  let main_v1 : FVec F S4x128x128x256 .f32 := Host.absf main_arg0
  let main_cst : FVec F S_ .f32 := constant S_ .f32 0x7F800000#32
  let main_v2 : FVec F S4x128x128x256 .f32 := broadcastInDim S4x128x128x256 ![] bcast_S_S4x128x128x256 main_cst
  let main_v3 : IVec S4x128x128x256 1 := cmpf .olt main_v1 main_v2
  let main_c_0 : IVec S_ 1 := constantI S_ 1 1#1
  let main_v4 : IVec S_ 1 := (fun x v => Host.reduce IntOp.andi x v reducesTo_S4x128x128x256_S_d0_1_2_3 h_S_) main_v3 main_c_0
  let main_v5 : IVec S_ 1 := andi main_v0 main_v4
  let main_cst_1 : FVec F S_ .f32 := constant S_ .f32 0x00000000#32
  let main_v6 : FVec F S4x1x128x256 .f32 := broadcastInDim S4x1x128x256 ![] bcast_S_S4x1x128x256 main_cst_1
  let main_v7 : IVec S4x1x128x256 1 := cmpf .oge main_arg2 main_v6
  let main_c_2 : IVec S_ 1 := constantI S_ 1 1#1
  let main_v8 : IVec S_ 1 := (fun x v => Host.reduce IntOp.andi x v reducesTo_S4x1x128x256_S_d0_1_2_3 h_S_) main_v7 main_c_2
  let main_v9 : IVec S_ 1 := andi main_v5 main_v8
  let main_cst_3 : FVec F S_ .f32 := constant S_ .f32 0x43000000#32
  let main_v10 : FVec F S4x1x128x256 .f32 := broadcastInDim S4x1x128x256 ![] bcast_S_S4x1x128x256 main_cst_3
  let main_v11 : IVec S4x1x128x256 1 := cmpf .olt main_arg2 main_v10
  let main_c_4 : IVec S_ 1 := constantI S_ 1 1#1
  let main_v12 : IVec S_ 1 := (fun x v => Host.reduce IntOp.andi x v reducesTo_S4x1x128x256_S_d0_1_2_3 h_S_) main_v11 main_c_4
  let main_v13 : IVec S_ 1 := andi main_v9 main_v12
  main_v13
-- ==== Kernel.lean ====
abbrev S4x128x128x256 : Shape := ⟨4, ![4, 128, 128, 256]⟩
abbrev S_ : Shape := ⟨0, ![]⟩
abbrev S4x1x128x256 : Shape := ⟨4, ![4, 1, 128, 256]⟩
abbrev S4x27x128x256 : Shape := ⟨4, ![4, 27, 128, 256]⟩
abbrev S128x256 : Shape := ⟨2, ![128, 256]⟩
abbrev S16x256 : Shape := ⟨2, ![16, 256]⟩
abbrev S27x256 : Shape := ⟨2, ![27, 256]⟩
abbrev S1x1x16x256 : Shape := ⟨4, ![1, 1, 16, 256]⟩
abbrev S16 : Shape := ⟨1, ![16]⟩
abbrev S1x128x1x256 : Shape := ⟨4, ![1, 128, 1, 256]⟩
abbrev S1x27x1x256 : Shape := ⟨4, ![1, 27, 1, 256]⟩
abbrev S1x16 : Shape := ⟨2, ![1, 16]⟩

abbrev nBuf : Table → Nat
  | .hbm => 4
  | .local .scVector .vmem => 5
  | _ => 0

abbrev bufTy : (tb : Table) → Fin (nBuf tb) → BufTy
  | .hbm, ⟨0, _⟩ => ⟨S4x128x128x256, .f32⟩
  | .hbm, ⟨1, _⟩ => ⟨S_, .i32⟩
  | .hbm, ⟨2, _⟩ => ⟨S4x1x128x256, .f32⟩
  | .hbm, ⟨3, _⟩ => ⟨S4x27x128x256, .f32⟩
  | .local .scVector .vmem, ⟨0, _⟩ => ⟨S128x256, .f32⟩
  | .local .scVector .vmem, ⟨1, _⟩ => ⟨S128x256, .f32⟩
  | .local .scVector .vmem, ⟨2, _⟩ => ⟨S16x256, .f32⟩
  | .local .scVector .vmem, ⟨3, _⟩ => ⟨S27x256, .f32⟩
  | .local .scVector .vmem, ⟨4, _⟩ => ⟨S27x256, .f32⟩
  | _, _ => ⟨S4x128x128x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_10 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c0_i32_33_r0 : BitVec 32 := 0#32
  ![v18.toNat, 0, v29.toNat, 0]
def k0_off2 (i : grid0.Coords) (c0_i32_11 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_12 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let v31 : BitVec 32 := Scalar.addi v29 c0_i32_11
  let c0_i32_13 : BitVec 32 := 0#32
  ![v18.toNat, 0, v31.toNat, 0]
@[reducible] def k0_t1_loop : Scf.Loop 32 :=
  let c0_i32_21 : BitVec 32 := 0#32
  let c8_i32_22 : BitVec 32 := 8#32
  let v41 : BitVec 32 := Scalar.addi c0_i32_21 c8_i32_22
  let c1_i32_23 : BitVec 32 := 1#32
  ⟨c0_i32_21, v41, c1_i32_23⟩
def k0_off3 (i : grid0.Coords) (k0_t1 : Fin k0_t1_loop.trips) (c0_i32_35 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_36 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c0_i32_34 : BitVec 32 := 0#32
  let c0_i32_21 : BitVec 32 := 0#32
  let c1_i32_23 : BitVec 32 := 1#32
  let arg14 : BitVec 32 := Scf.iv c0_i32_21 c1_i32_23 k0_t1
  let c2_i32_33 : BitVec 32 := 2#32
  let v52 : BitVec 32 := Scalar.muli arg14 c2_i32_33
  let v53 : BitVec 32 := Scalar.addi c0_i32_34 v52
  let v54 : BitVec 32 := Scalar.addi v53 c0_i32_35
  let v55 : BitVec 32 := Scalar.addi v29 v54
  let c0_i32_37 : BitVec 32 := 0#32
  ![v18.toNat, 0, v55.toNat, 0]
def k0_cond1 (k0_t1 : Fin k0_t1_loop.trips) : BitVec 1 :=
  let c0_i32_34 : BitVec 32 := 0#32
  let c0_i32_21 : BitVec 32 := 0#32
  let c1_i32_23 : BitVec 32 := 1#32
  let arg14 : BitVec 32 := Scf.iv c0_i32_21 c1_i32_23 k0_t1
  let c2_i32_33 : BitVec 32 := 2#32
  let v52 : BitVec 32 := Scalar.muli arg14 c2_i32_33
  let v53 : BitVec 32 := Scalar.addi c0_i32_34 v52
  let c0_i32_35 : BitVec 32 := 0#32
  let v54 : BitVec 32 := Scalar.addi v53 c0_i32_35
  let c2_i32_40 : BitVec 32 := 2#32
  let v60 : BitVec 1 := Scalar.cmpi .sge v54 c2_i32_40
  let v61 : BitVec 32 := Scalar.extui v60
  let c0_i32_41 : BitVec 32 := 0#32
  let v62 : BitVec 1 := Scalar.cmpi .ne v61 c0_i32_41
  v62

def k0_off4 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_72 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c0_i32_34 : BitVec 32 := 0#32
  let c0_i32_21 : BitVec 32 := 0#32
  let c1_i32_23 : BitVec 32 := 1#32
  let arg14 : BitVec 32 := Scf.iv c0_i32_21 c1_i32_23 k0_t1
  let c2_i32_33 : BitVec 32 := 2#32
  let v52 : BitVec 32 := Scalar.muli arg14 c2_i32_33
  let v53 : BitVec 32 := Scalar.addi c0_i32_34 v52
  let c0_i32_35 : BitVec 32 := 0#32
  let v54 : BitVec 32 := Scalar.addi v53 c0_i32_35
  let c2_i32_71 : BitVec 32 := 2#32
  let v92 : BitVec 32 := Scalar.subi v54 c2_i32_71
  let v93 : BitVec 32 := Scalar.addi v29 v92
  let c0_i32_73 : BitVec 32 := 0#32
  ![v18.toNat, 0, v93.toNat, 0]
@[reducible] def k0_t2_loop : Scf.Loop 32 :=
  let c0_i32_42 : BitVec 32 := 0#32
  let c16_i32_43 : BitVec 32 := 16#32
  let v63 : BitVec 32 := Scalar.addi c0_i32_42 c16_i32_43
  let c1_i32_44 : BitVec 32 := 1#32
  ⟨c0_i32_42, v63, c1_i32_44⟩
def k0_off5 (k0_t1 : Fin k0_t1_loop.trips) (k0_t2 : Fin k0_t2_loop.trips) : Fin 2 → Nat :=
  let c0_i32_34 : BitVec 32 := 0#32
  let c0_i32_21 : BitVec 32 := 0#32
  let c1_i32_23 : BitVec 32 := 1#32
  let arg14 : BitVec 32 := Scf.iv c0_i32_21 c1_i32_23 k0_t1
  let c2_i32_33 : BitVec 32 := 2#32
  let v52 : BitVec 32 := Scalar.muli arg14 c2_i32_33
  let v53 : BitVec 32 := Scalar.addi c0_i32_34 v52
  let c0_i32_35 : BitVec 32 := 0#32
  let v54 : BitVec 32 := Scalar.addi v53 c0_i32_35
  let v98 : Index := Scalar.indexCast v54
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_74 : BitVec 32 := 16#32
  let v97 : BitVec 32 := Scalar.muli v93 c16_i32_74
  let v99 : Index := Scalar.indexCast v97
  ![v98.toNat, v99.toNat]

def k0_chk1 (v96 : IVec S16 32) (v113 : IVec S16 32) : Prop :=
  (∀ a x, ((![v113, v96] : Fin 2 → IVec S16 32) a x).toNat < S128x256.size a)
theorem k0_idx1_inb : ∀ (v96 : IVec S16 32) (v113 : IVec S16 32) (k0_hw1 : k0_chk1 v96 v113), ∀ a x, ((![v113, v96] : Fin 2 → IVec S16 32) a x).toNat < S128x256.size a := fun v96 v113 k0_hw1 => k0_hw1

def k0_chk2 (v96 : IVec S16 32) (v120 : IVec S16 32) : Prop :=
  (∀ a x, ((![v120, v96] : Fin 2 → IVec S16 32) a x).toNat < S128x256.size a)
theorem k0_idx2_inb : ∀ (v96 : IVec S16 32) (v120 : IVec S16 32) (k0_hw2 : k0_chk2 v96 v120), ∀ a x, ((![v120, v96] : Fin 2 → IVec S16 32) a x).toNat < S128x256.size a := fun v96 v120 k0_hw2 => k0_hw2
def k0_off6 (k0_t2 : Fin k0_t2_loop.trips) : Fin 2 → Nat :=
  let c0_i32_81 : BitVec 32 := 0#32
  let v126 : Index := Scalar.indexCast c0_i32_81
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_80 : BitVec 32 := 16#32
  let v125 : BitVec 32 := Scalar.muli v93 c16_i32_80
  let v127 : Index := Scalar.indexCast v125
  ![0, v127.toNat]

def k0_chk3 (v96 : IVec S16 32) (v134 : IVec S16 32) : Prop :=
  (∀ a x, ((![v134, v96] : Fin 2 → IVec S16 32) a x).toNat < S128x256.size a)
theorem k0_idx3_inb : ∀ (v96 : IVec S16 32) (v134 : IVec S16 32) (k0_hw3 : k0_chk3 v96 v134), ∀ a x, ((![v134, v96] : Fin 2 → IVec S16 32) a x).toNat < S128x256.size a := fun v96 v134 k0_hw3 => k0_hw3
def k0_off7 (k0_t2 : Fin k0_t2_loop.trips) : Fin 2 → Nat :=
  let c1_i32_86 : BitVec 32 := 1#32
  let v140 : Index := Scalar.indexCast c1_i32_86
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_85 : BitVec 32 := 16#32
  let v139 : BitVec 32 := Scalar.muli v93 c16_i32_85
  let v141 : Index := Scalar.indexCast v139
  ![1, v141.toNat]

def k0_chk4 (v96 : IVec S16 32) (v148 : IVec S16 32) : Prop :=
  (∀ a x, ((![v148, v96] : Fin 2 → IVec S16 32) a x).toNat < S128x256.size a)
theorem k0_idx4_inb : ∀ (v96 : IVec S16 32) (v148 : IVec S16 32) (k0_hw4 : k0_chk4 v96 v148), ∀ a x, ((![v148, v96] : Fin 2 → IVec S16 32) a x).toNat < S128x256.size a := fun v96 v148 k0_hw4 => k0_hw4
def k0_off8 (k0_t2 : Fin k0_t2_loop.trips) : Fin 2 → Nat :=
  let c2_i32_90 : BitVec 32 := 2#32
  let v154 : Index := Scalar.indexCast c2_i32_90
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_89 : BitVec 32 := 16#32
  let v153 : BitVec 32 := Scalar.muli v93 c16_i32_89
  let v155 : Index := Scalar.indexCast v153
  ![2, v155.toNat]

def k0_chk5 (v96 : IVec S16 32) (v162 : IVec S16 32) : Prop :=
  (∀ a x, ((![v162, v96] : Fin 2 → IVec S16 32) a x).toNat < S128x256.size a)
theorem k0_idx5_inb : ∀ (v96 : IVec S16 32) (v162 : IVec S16 32) (k0_hw5 : k0_chk5 v96 v162), ∀ a x, ((![v162, v96] : Fin 2 → IVec S16 32) a x).toNat < S128x256.size a := fun v96 v162 k0_hw5 => k0_hw5
def k0_off9 (k0_t2 : Fin k0_t2_loop.trips) : Fin 2 → Nat :=
  let c3_i32_95 : BitVec 32 := 3#32
  let v168 : Index := Scalar.indexCast c3_i32_95
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_94 : BitVec 32 := 16#32
  let v167 : BitVec 32 := Scalar.muli v93 c16_i32_94
  let v169 : Index := Scalar.indexCast v167
  ![3, v169.toNat]

def k0_chk6 (v96 : IVec S16 32) (v176 : IVec S16 32) : Prop :=
  (∀ a x, ((![v176, v96] : Fin 2 → IVec S16 32) a x).toNat < S128x256.size a)
theorem k0_idx6_inb : ∀ (v96 : IVec S16 32) (v176 : IVec S16 32) (k0_hw6 : k0_chk6 v96 v176), ∀ a x, ((![v176, v96] : Fin 2 → IVec S16 32) a x).toNat < S128x256.size a := fun v96 v176 k0_hw6 => k0_hw6
def k0_off10 (k0_t2 : Fin k0_t2_loop.trips) : Fin 2 → Nat :=
  let c4_i32_99 : BitVec 32 := 4#32
  let v182 : Index := Scalar.indexCast c4_i32_99
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_98 : BitVec 32 := 16#32
  let v181 : BitVec 32 := Scalar.muli v93 c16_i32_98
  let v183 : Index := Scalar.indexCast v181
  ![4, v183.toNat]

def k0_chk7 (v96 : IVec S16 32) (v190 : IVec S16 32) : Prop :=
  (∀ a x, ((![v190, v96] : Fin 2 → IVec S16 32) a x).toNat < S128x256.size a)
theorem k0_idx7_inb : ∀ (v96 : IVec S16 32) (v190 : IVec S16 32) (k0_hw7 : k0_chk7 v96 v190), ∀ a x, ((![v190, v96] : Fin 2 → IVec S16 32) a x).toNat < S128x256.size a := fun v96 v190 k0_hw7 => k0_hw7
def k0_off11 (k0_t2 : Fin k0_t2_loop.trips) : Fin 2 → Nat :=
  let c5_i32_103 : BitVec 32 := 5#32
  let v196 : Index := Scalar.indexCast c5_i32_103
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_102 : BitVec 32 := 16#32
  let v195 : BitVec 32 := Scalar.muli v93 c16_i32_102
  let v197 : Index := Scalar.indexCast v195
  ![5, v197.toNat]

def k0_chk8 (v96 : IVec S16 32) (v204 : IVec S16 32) : Prop :=
  (∀ a x, ((![v204, v96] : Fin 2 → IVec S16 32) a x).toNat < S128x256.size a)
theorem k0_idx8_inb : ∀ (v96 : IVec S16 32) (v204 : IVec S16 32) (k0_hw8 : k0_chk8 v96 v204), ∀ a x, ((![v204, v96] : Fin 2 → IVec S16 32) a x).toNat < S128x256.size a := fun v96 v204 k0_hw8 => k0_hw8
def k0_off12 (k0_t2 : Fin k0_t2_loop.trips) : Fin 2 → Nat :=
  let c6_i32_107 : BitVec 32 := 6#32
  let v210 : Index := Scalar.indexCast c6_i32_107
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_106 : BitVec 32 := 16#32
  let v209 : BitVec 32 := Scalar.muli v93 c16_i32_106
  let v211 : Index := Scalar.indexCast v209
  ![6, v211.toNat]

def k0_chk9 (v96 : IVec S16 32) (v218 : IVec S16 32) : Prop :=
  (∀ a x, ((![v218, v96] : Fin 2 → IVec S16 32) a x).toNat < S128x256.size a)
theorem k0_idx9_inb : ∀ (v96 : IVec S16 32) (v218 : IVec S16 32) (k0_hw9 : k0_chk9 v96 v218), ∀ a x, ((![v218, v96] : Fin 2 → IVec S16 32) a x).toNat < S128x256.size a := fun v96 v218 k0_hw9 => k0_hw9
def k0_off13 (k0_t2 : Fin k0_t2_loop.trips) : Fin 2 → Nat :=
  let c7_i32_112 : BitVec 32 := 7#32
  let v224 : Index := Scalar.indexCast c7_i32_112
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_111 : BitVec 32 := 16#32
  let v223 : BitVec 32 := Scalar.muli v93 c16_i32_111
  let v225 : Index := Scalar.indexCast v223
  ![7, v225.toNat]

def k0_chk10 (v96 : IVec S16 32) (v232 : IVec S16 32) : Prop :=
  (∀ a x, ((![v232, v96] : Fin 2 → IVec S16 32) a x).toNat < S128x256.size a)
theorem k0_idx10_inb : ∀ (v96 : IVec S16 32) (v232 : IVec S16 32) (k0_hw10 : k0_chk10 v96 v232), ∀ a x, ((![v232, v96] : Fin 2 → IVec S16 32) a x).toNat < S128x256.size a := fun v96 v232 k0_hw10 => k0_hw10
def k0_off14 (k0_t2 : Fin k0_t2_loop.trips) : Fin 2 → Nat :=
  let c8_i32_116 : BitVec 32 := 8#32
  let v238 : Index := Scalar.indexCast c8_i32_116
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_115 : BitVec 32 := 16#32
  let v237 : BitVec 32 := Scalar.muli v93 c16_i32_115
  let v239 : Index := Scalar.indexCast v237
  ![8, v239.toNat]

def k0_chk11 (v96 : IVec S16 32) (v267 : IVec S16 32) : Prop :=
  (∀ a x, ((![v267, v96] : Fin 2 → IVec S16 32) a x).toNat < S128x256.size a)
theorem k0_idx11_inb : ∀ (v96 : IVec S16 32) (v267 : IVec S16 32) (k0_hw11 : k0_chk11 v96 v267), ∀ a x, ((![v267, v96] : Fin 2 → IVec S16 32) a x).toNat < S128x256.size a := fun v96 v267 k0_hw11 => k0_hw11

def k0_chk12 (v96 : IVec S16 32) (v270 : IVec S16 32) : Prop :=
  (∀ a x, ((![v270, v96] : Fin 2 → IVec S16 32) a x).toNat < S128x256.size a)
theorem k0_idx12_inb : ∀ (v96 : IVec S16 32) (v270 : IVec S16 32) (k0_hw12 : k0_chk12 v96 v270), ∀ a x, ((![v270, v96] : Fin 2 → IVec S16 32) a x).toNat < S128x256.size a := fun v96 v270 k0_hw12 => k0_hw12

def k0_chk13 (v96 : IVec S16 32) (v280 : IVec S16 32) : Prop :=
  (∀ a x, ((![v280, v96] : Fin 2 → IVec S16 32) a x).toNat < S128x256.size a)
theorem k0_idx13_inb : ∀ (v96 : IVec S16 32) (v280 : IVec S16 32) (k0_hw13 : k0_chk13 v96 v280), ∀ a x, ((![v280, v96] : Fin 2 → IVec S16 32) a x).toNat < S128x256.size a := fun v96 v280 k0_hw13 => k0_hw13

def k0_chk14 (v96 : IVec S16 32) (v283 : IVec S16 32) : Prop :=
  (∀ a x, ((![v283, v96] : Fin 2 → IVec S16 32) a x).toNat < S128x256.size a)
theorem k0_idx14_inb : ∀ (v96 : IVec S16 32) (v283 : IVec S16 32) (k0_hw14 : k0_chk14 v96 v283), ∀ a x, ((![v283, v96] : Fin 2 → IVec S16 32) a x).toNat < S128x256.size a := fun v96 v283 k0_hw14 => k0_hw14

def k0_chk15 (v96 : IVec S16 32) (v293 : IVec S16 32) : Prop :=
  (∀ a x, ((![v293, v96] : Fin 2 → IVec S16 32) a x).toNat < S128x256.size a)
theorem k0_idx15_inb : ∀ (v96 : IVec S16 32) (v293 : IVec S16 32) (k0_hw15 : k0_chk15 v96 v293), ∀ a x, ((![v293, v96] : Fin 2 → IVec S16 32) a x).toNat < S128x256.size a := fun v96 v293 k0_hw15 => k0_hw15

def k0_chk16 (v96 : IVec S16 32) (v296 : IVec S16 32) : Prop :=
  (∀ a x, ((![v296, v96] : Fin 2 → IVec S16 32) a x).toNat < S128x256.size a)
theorem k0_idx16_inb : ∀ (v96 : IVec S16 32) (v296 : IVec S16 32) (k0_hw16 : k0_chk16 v96 v296), ∀ a x, ((![v296, v96] : Fin 2 → IVec S16 32) a x).toNat < S128x256.size a := fun v96 v296 k0_hw16 => k0_hw16

def k0_chk17 (v96 : IVec S16 32) (v306 : IVec S16 32) : Prop :=
  (∀ a x, ((![v306, v96] : Fin 2 → IVec S16 32) a x).toNat < S128x256.size a)
theorem k0_idx17_inb : ∀ (v96 : IVec S16 32) (v306 : IVec S16 32) (k0_hw17 : k0_chk17 v96 v306), ∀ a x, ((![v306, v96] : Fin 2 → IVec S16 32) a x).toNat < S128x256.size a := fun v96 v306 k0_hw17 => k0_hw17

def k0_chk18 (v96 : IVec S16 32) (v309 : IVec S16 32) : Prop :=
  (∀ a x, ((![v309, v96] : Fin 2 → IVec S16 32) a x).toNat < S128x256.size a)
theorem k0_idx18_inb : ∀ (v96 : IVec S16 32) (v309 : IVec S16 32) (k0_hw18 : k0_chk18 v96 v309), ∀ a x, ((![v309, v96] : Fin 2 → IVec S16 32) a x).toNat < S128x256.size a := fun v96 v309 k0_hw18 => k0_hw18

def k0_chk19 (v96 : IVec S16 32) (v319 : IVec S16 32) : Prop :=
  (∀ a x, ((![v319, v96] : Fin 2 → IVec S16 32) a x).toNat < S128x256.size a)
theorem k0_idx19_inb : ∀ (v96 : IVec S16 32) (v319 : IVec S16 32) (k0_hw19 : k0_chk19 v96 v319), ∀ a x, ((![v319, v96] : Fin 2 → IVec S16 32) a x).toNat < S128x256.size a := fun v96 v319 k0_hw19 => k0_hw19

def k0_chk20 (v96 : IVec S16 32) (v322 : IVec S16 32) : Prop :=
  (∀ a x, ((![v322, v96] : Fin 2 → IVec S16 32) a x).toNat < S128x256.size a)
theorem k0_idx20_inb : ∀ (v96 : IVec S16 32) (v322 : IVec S16 32) (k0_hw20 : k0_chk20 v96 v322), ∀ a x, ((![v322, v96] : Fin 2 → IVec S16 32) a x).toNat < S128x256.size a := fun v96 v322 k0_hw20 => k0_hw20

def k0_chk21 (v96 : IVec S16 32) (v332 : IVec S16 32) : Prop :=
  (∀ a x, ((![v332, v96] : Fin 2 → IVec S16 32) a x).toNat < S128x256.size a)
theorem k0_idx21_inb : ∀ (v96 : IVec S16 32) (v332 : IVec S16 32) (k0_hw21 : k0_chk21 v96 v332), ∀ a x, ((![v332, v96] : Fin 2 → IVec S16 32) a x).toNat < S128x256.size a := fun v96 v332 k0_hw21 => k0_hw21

def k0_chk22 (v96 : IVec S16 32) (v335 : IVec S16 32) : Prop :=
  (∀ a x, ((![v335, v96] : Fin 2 → IVec S16 32) a x).toNat < S128x256.size a)
theorem k0_idx22_inb : ∀ (v96 : IVec S16 32) (v335 : IVec S16 32) (k0_hw22 : k0_chk22 v96 v335), ∀ a x, ((![v335, v96] : Fin 2 → IVec S16 32) a x).toNat < S128x256.size a := fun v96 v335 k0_hw22 => k0_hw22

def k0_chk23 (v96 : IVec S16 32) (v345 : IVec S16 32) : Prop :=
  (∀ a x, ((![v345, v96] : Fin 2 → IVec S16 32) a x).toNat < S128x256.size a)
theorem k0_idx23_inb : ∀ (v96 : IVec S16 32) (v345 : IVec S16 32) (k0_hw23 : k0_chk23 v96 v345), ∀ a x, ((![v345, v96] : Fin 2 → IVec S16 32) a x).toNat < S128x256.size a := fun v96 v345 k0_hw23 => k0_hw23

def k0_chk24 (v96 : IVec S16 32) (v348 : IVec S16 32) : Prop :=
  (∀ a x, ((![v348, v96] : Fin 2 → IVec S16 32) a x).toNat < S128x256.size a)
theorem k0_idx24_inb : ∀ (v96 : IVec S16 32) (v348 : IVec S16 32) (k0_hw24 : k0_chk24 v96 v348), ∀ a x, ((![v348, v96] : Fin 2 → IVec S16 32) a x).toNat < S128x256.size a := fun v96 v348 k0_hw24 => k0_hw24

def k0_chk25 (v96 : IVec S16 32) (v358 : IVec S16 32) : Prop :=
  (∀ a x, ((![v358, v96] : Fin 2 → IVec S16 32) a x).toNat < S128x256.size a)
theorem k0_idx25_inb : ∀ (v96 : IVec S16 32) (v358 : IVec S16 32) (k0_hw25 : k0_chk25 v96 v358), ∀ a x, ((![v358, v96] : Fin 2 → IVec S16 32) a x).toNat < S128x256.size a := fun v96 v358 k0_hw25 => k0_hw25

def k0_chk26 (v96 : IVec S16 32) (v361 : IVec S16 32) : Prop :=
  (∀ a x, ((![v361, v96] : Fin 2 → IVec S16 32) a x).toNat < S128x256.size a)
theorem k0_idx26_inb : ∀ (v96 : IVec S16 32) (v361 : IVec S16 32) (k0_hw26 : k0_chk26 v96 v361), ∀ a x, ((![v361, v96] : Fin 2 → IVec S16 32) a x).toNat < S128x256.size a := fun v96 v361 k0_hw26 => k0_hw26

def k0_chk27 (v96 : IVec S16 32) (v371 : IVec S16 32) : Prop :=
  (∀ a x, ((![v371, v96] : Fin 2 → IVec S16 32) a x).toNat < S128x256.size a)
theorem k0_idx27_inb : ∀ (v96 : IVec S16 32) (v371 : IVec S16 32) (k0_hw27 : k0_chk27 v96 v371), ∀ a x, ((![v371, v96] : Fin 2 → IVec S16 32) a x).toNat < S128x256.size a := fun v96 v371 k0_hw27 => k0_hw27

def k0_chk28 (v96 : IVec S16 32) (v374 : IVec S16 32) : Prop :=
  (∀ a x, ((![v374, v96] : Fin 2 → IVec S16 32) a x).toNat < S128x256.size a)
theorem k0_idx28_inb : ∀ (v96 : IVec S16 32) (v374 : IVec S16 32) (k0_hw28 : k0_chk28 v96 v374), ∀ a x, ((![v374, v96] : Fin 2 → IVec S16 32) a x).toNat < S128x256.size a := fun v96 v374 k0_hw28 => k0_hw28

def k0_chk29 (v96 : IVec S16 32) (v384 : IVec S16 32) : Prop :=
  (∀ a x, ((![v384, v96] : Fin 2 → IVec S16 32) a x).toNat < S128x256.size a)
theorem k0_idx29_inb : ∀ (v96 : IVec S16 32) (v384 : IVec S16 32) (k0_hw29 : k0_chk29 v96 v384), ∀ a x, ((![v384, v96] : Fin 2 → IVec S16 32) a x).toNat < S128x256.size a := fun v96 v384 k0_hw29 => k0_hw29

def k0_chk30 (v96 : IVec S16 32) (v387 : IVec S16 32) : Prop :=
  (∀ a x, ((![v387, v96] : Fin 2 → IVec S16 32) a x).toNat < S128x256.size a)
theorem k0_idx30_inb : ∀ (v96 : IVec S16 32) (v387 : IVec S16 32) (k0_hw30 : k0_chk30 v96 v387), ∀ a x, ((![v387, v96] : Fin 2 → IVec S16 32) a x).toNat < S128x256.size a := fun v96 v387 k0_hw30 => k0_hw30

def k0_chk31 (v96 : IVec S16 32) (v397 : IVec S16 32) : Prop :=
  (∀ a x, ((![v397, v96] : Fin 2 → IVec S16 32) a x).toNat < S128x256.size a)
theorem k0_idx31_inb : ∀ (v96 : IVec S16 32) (v397 : IVec S16 32) (k0_hw31 : k0_chk31 v96 v397), ∀ a x, ((![v397, v96] : Fin 2 → IVec S16 32) a x).toNat < S128x256.size a := fun v96 v397 k0_hw31 => k0_hw31

def k0_chk32 (v96 : IVec S16 32) (v400 : IVec S16 32) : Prop :=
  (∀ a x, ((![v400, v96] : Fin 2 → IVec S16 32) a x).toNat < S128x256.size a)
theorem k0_idx32_inb : ∀ (v96 : IVec S16 32) (v400 : IVec S16 32) (k0_hw32 : k0_chk32 v96 v400), ∀ a x, ((![v400, v96] : Fin 2 → IVec S16 32) a x).toNat < S128x256.size a := fun v96 v400 k0_hw32 => k0_hw32

def k0_chk33 (v96 : IVec S16 32) (v410 : IVec S16 32) : Prop :=
  (∀ a x, ((![v410, v96] : Fin 2 → IVec S16 32) a x).toNat < S128x256.size a)
theorem k0_idx33_inb : ∀ (v96 : IVec S16 32) (v410 : IVec S16 32) (k0_hw33 : k0_chk33 v96 v410), ∀ a x, ((![v410, v96] : Fin 2 → IVec S16 32) a x).toNat < S128x256.size a := fun v96 v410 k0_hw33 => k0_hw33

def k0_chk34 (v96 : IVec S16 32) (v413 : IVec S16 32) : Prop :=
  (∀ a x, ((![v413, v96] : Fin 2 → IVec S16 32) a x).toNat < S128x256.size a)
theorem k0_idx34_inb : ∀ (v96 : IVec S16 32) (v413 : IVec S16 32) (k0_hw34 : k0_chk34 v96 v413), ∀ a x, ((![v413, v96] : Fin 2 → IVec S16 32) a x).toNat < S128x256.size a := fun v96 v413 k0_hw34 => k0_hw34

def k0_chk35 (v96 : IVec S16 32) (v423 : IVec S16 32) : Prop :=
  (∀ a x, ((![v423, v96] : Fin 2 → IVec S16 32) a x).toNat < S128x256.size a)
theorem k0_idx35_inb : ∀ (v96 : IVec S16 32) (v423 : IVec S16 32) (k0_hw35 : k0_chk35 v96 v423), ∀ a x, ((![v423, v96] : Fin 2 → IVec S16 32) a x).toNat < S128x256.size a := fun v96 v423 k0_hw35 => k0_hw35

def k0_chk36 (v96 : IVec S16 32) (v426 : IVec S16 32) : Prop :=
  (∀ a x, ((![v426, v96] : Fin 2 → IVec S16 32) a x).toNat < S128x256.size a)
theorem k0_idx36_inb : ∀ (v96 : IVec S16 32) (v426 : IVec S16 32) (k0_hw36 : k0_chk36 v96 v426), ∀ a x, ((![v426, v96] : Fin 2 → IVec S16 32) a x).toNat < S128x256.size a := fun v96 v426 k0_hw36 => k0_hw36

def k0_chk37 (v96 : IVec S16 32) (v436 : IVec S16 32) : Prop :=
  (∀ a x, ((![v436, v96] : Fin 2 → IVec S16 32) a x).toNat < S128x256.size a)
theorem k0_idx37_inb : ∀ (v96 : IVec S16 32) (v436 : IVec S16 32) (k0_hw37 : k0_chk37 v96 v436), ∀ a x, ((![v436, v96] : Fin 2 → IVec S16 32) a x).toNat < S128x256.size a := fun v96 v436 k0_hw37 => k0_hw37

def k0_chk38 (v96 : IVec S16 32) (v439 : IVec S16 32) : Prop :=
  (∀ a x, ((![v439, v96] : Fin 2 → IVec S16 32) a x).toNat < S128x256.size a)
theorem k0_idx38_inb : ∀ (v96 : IVec S16 32) (v439 : IVec S16 32) (k0_hw38 : k0_chk38 v96 v439), ∀ a x, ((![v439, v96] : Fin 2 → IVec S16 32) a x).toNat < S128x256.size a := fun v96 v439 k0_hw38 => k0_hw38

def k0_chk39 (v96 : IVec S16 32) (v449 : IVec S16 32) : Prop :=
  (∀ a x, ((![v449, v96] : Fin 2 → IVec S16 32) a x).toNat < S128x256.size a)
theorem k0_idx39_inb : ∀ (v96 : IVec S16 32) (v449 : IVec S16 32) (k0_hw39 : k0_chk39 v96 v449), ∀ a x, ((![v449, v96] : Fin 2 → IVec S16 32) a x).toNat < S128x256.size a := fun v96 v449 k0_hw39 => k0_hw39

def k0_chk40 (v96 : IVec S16 32) (v452 : IVec S16 32) : Prop :=
  (∀ a x, ((![v452, v96] : Fin 2 → IVec S16 32) a x).toNat < S128x256.size a)
theorem k0_idx40_inb : ∀ (v96 : IVec S16 32) (v452 : IVec S16 32) (k0_hw40 : k0_chk40 v96 v452), ∀ a x, ((![v452, v96] : Fin 2 → IVec S16 32) a x).toNat < S128x256.size a := fun v96 v452 k0_hw40 => k0_hw40

def k0_chk41 (v96 : IVec S16 32) (v462 : IVec S16 32) : Prop :=
  (∀ a x, ((![v462, v96] : Fin 2 → IVec S16 32) a x).toNat < S128x256.size a)
theorem k0_idx41_inb : ∀ (v96 : IVec S16 32) (v462 : IVec S16 32) (k0_hw41 : k0_chk41 v96 v462), ∀ a x, ((![v462, v96] : Fin 2 → IVec S16 32) a x).toNat < S128x256.size a := fun v96 v462 k0_hw41 => k0_hw41

def k0_chk42 (v96 : IVec S16 32) (v465 : IVec S16 32) : Prop :=
  (∀ a x, ((![v465, v96] : Fin 2 → IVec S16 32) a x).toNat < S128x256.size a)
theorem k0_idx42_inb : ∀ (v96 : IVec S16 32) (v465 : IVec S16 32) (k0_hw42 : k0_chk42 v96 v465), ∀ a x, ((![v465, v96] : Fin 2 → IVec S16 32) a x).toNat < S128x256.size a := fun v96 v465 k0_hw42 => k0_hw42

def k0_chk43 (v96 : IVec S16 32) (v475 : IVec S16 32) : Prop :=
  (∀ a x, ((![v475, v96] : Fin 2 → IVec S16 32) a x).toNat < S128x256.size a)
theorem k0_idx43_inb : ∀ (v96 : IVec S16 32) (v475 : IVec S16 32) (k0_hw43 : k0_chk43 v96 v475), ∀ a x, ((![v475, v96] : Fin 2 → IVec S16 32) a x).toNat < S128x256.size a := fun v96 v475 k0_hw43 => k0_hw43

def k0_chk44 (v96 : IVec S16 32) (v478 : IVec S16 32) : Prop :=
  (∀ a x, ((![v478, v96] : Fin 2 → IVec S16 32) a x).toNat < S128x256.size a)
theorem k0_idx44_inb : ∀ (v96 : IVec S16 32) (v478 : IVec S16 32) (k0_hw44 : k0_chk44 v96 v478), ∀ a x, ((![v478, v96] : Fin 2 → IVec S16 32) a x).toNat < S128x256.size a := fun v96 v478 k0_hw44 => k0_hw44

def k0_chk45 (v96 : IVec S16 32) (v488 : IVec S16 32) : Prop :=
  (∀ a x, ((![v488, v96] : Fin 2 → IVec S16 32) a x).toNat < S128x256.size a)
theorem k0_idx45_inb : ∀ (v96 : IVec S16 32) (v488 : IVec S16 32) (k0_hw45 : k0_chk45 v96 v488), ∀ a x, ((![v488, v96] : Fin 2 → IVec S16 32) a x).toNat < S128x256.size a := fun v96 v488 k0_hw45 => k0_hw45

def k0_chk46 (v96 : IVec S16 32) (v491 : IVec S16 32) : Prop :=
  (∀ a x, ((![v491, v96] : Fin 2 → IVec S16 32) a x).toNat < S128x256.size a)
theorem k0_idx46_inb : ∀ (v96 : IVec S16 32) (v491 : IVec S16 32) (k0_hw46 : k0_chk46 v96 v491), ∀ a x, ((![v491, v96] : Fin 2 → IVec S16 32) a x).toNat < S128x256.size a := fun v96 v491 k0_hw46 => k0_hw46

def k0_chk47 (v96 : IVec S16 32) (v501 : IVec S16 32) : Prop :=
  (∀ a x, ((![v501, v96] : Fin 2 → IVec S16 32) a x).toNat < S128x256.size a)
theorem k0_idx47_inb : ∀ (v96 : IVec S16 32) (v501 : IVec S16 32) (k0_hw47 : k0_chk47 v96 v501), ∀ a x, ((![v501, v96] : Fin 2 → IVec S16 32) a x).toNat < S128x256.size a := fun v96 v501 k0_hw47 => k0_hw47

def k0_chk48 (v96 : IVec S16 32) (v504 : IVec S16 32) : Prop :=
  (∀ a x, ((![v504, v96] : Fin 2 → IVec S16 32) a x).toNat < S128x256.size a)
theorem k0_idx48_inb : ∀ (v96 : IVec S16 32) (v504 : IVec S16 32) (k0_hw48 : k0_chk48 v96 v504), ∀ a x, ((![v504, v96] : Fin 2 → IVec S16 32) a x).toNat < S128x256.size a := fun v96 v504 k0_hw48 => k0_hw48

def k0_chk49 (v96 : IVec S16 32) (v514 : IVec S16 32) : Prop :=
  (∀ a x, ((![v514, v96] : Fin 2 → IVec S16 32) a x).toNat < S128x256.size a)
theorem k0_idx49_inb : ∀ (v96 : IVec S16 32) (v514 : IVec S16 32) (k0_hw49 : k0_chk49 v96 v514), ∀ a x, ((![v514, v96] : Fin 2 → IVec S16 32) a x).toNat < S128x256.size a := fun v96 v514 k0_hw49 => k0_hw49

def k0_chk50 (v96 : IVec S16 32) (v517 : IVec S16 32) : Prop :=
  (∀ a x, ((![v517, v96] : Fin 2 → IVec S16 32) a x).toNat < S128x256.size a)
theorem k0_idx50_inb : ∀ (v96 : IVec S16 32) (v517 : IVec S16 32) (k0_hw50 : k0_chk50 v96 v517), ∀ a x, ((![v517, v96] : Fin 2 → IVec S16 32) a x).toNat < S128x256.size a := fun v96 v517 k0_hw50 => k0_hw50

def k0_chk51 (v96 : IVec S16 32) (v520 : IVec S16 32) : Prop :=
  (∀ a x, ((![v520, v96] : Fin 2 → IVec S16 32) a x).toNat < S128x256.size a)
theorem k0_idx51_inb : ∀ (v96 : IVec S16 32) (v520 : IVec S16 32) (k0_hw51 : k0_chk51 v96 v520), ∀ a x, ((![v520, v96] : Fin 2 → IVec S16 32) a x).toNat < S128x256.size a := fun v96 v520 k0_hw51 => k0_hw51

def k0_chk52 (v96 : IVec S16 32) (v522 : IVec S16 32) : Prop :=
  (∀ a x, ((![v522, v96] : Fin 2 → IVec S16 32) a x).toNat < S128x256.size a)
theorem k0_idx52_inb : ∀ (v96 : IVec S16 32) (v522 : IVec S16 32) (k0_hw52 : k0_chk52 v96 v522), ∀ a x, ((![v522, v96] : Fin 2 → IVec S16 32) a x).toNat < S128x256.size a := fun v96 v522 k0_hw52 => k0_hw52

def k0_chk53 (v96 : IVec S16 32) (v525 : IVec S16 32) : Prop :=
  (∀ a x, ((![v525, v96] : Fin 2 → IVec S16 32) a x).toNat < S128x256.size a)
theorem k0_idx53_inb : ∀ (v96 : IVec S16 32) (v525 : IVec S16 32) (k0_hw53 : k0_chk53 v96 v525), ∀ a x, ((![v525, v96] : Fin 2 → IVec S16 32) a x).toNat < S128x256.size a := fun v96 v525 k0_hw53 => k0_hw53

def k0_chk54 (v96 : IVec S16 32) (v527 : IVec S16 32) : Prop :=
  (∀ a x, ((![v527, v96] : Fin 2 → IVec S16 32) a x).toNat < S128x256.size a)
theorem k0_idx54_inb : ∀ (v96 : IVec S16 32) (v527 : IVec S16 32) (k0_hw54 : k0_chk54 v96 v527), ∀ a x, ((![v527, v96] : Fin 2 → IVec S16 32) a x).toNat < S128x256.size a := fun v96 v527 k0_hw54 => k0_hw54
def k0_off15 (k0_t2 : Fin k0_t2_loop.trips) : Fin 2 → Nat :=
  let c9_i32_220 : BitVec 32 := 9#32
  let v540 : Index := Scalar.indexCast c9_i32_220
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_219 : BitVec 32 := 16#32
  let v539 : BitVec 32 := Scalar.muli v93 c16_i32_219
  let v541 : Index := Scalar.indexCast v539
  ![9, v541.toNat]
def k0_off16 (k0_t2 : Fin k0_t2_loop.trips) : Fin 2 → Nat :=
  let c10_i32_222 : BitVec 32 := 10#32
  let v548 : Index := Scalar.indexCast c10_i32_222
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_221 : BitVec 32 := 16#32
  let v547 : BitVec 32 := Scalar.muli v93 c16_i32_221
  let v549 : Index := Scalar.indexCast v547
  ![10, v549.toNat]
def k0_off17 (k0_t2 : Fin k0_t2_loop.trips) : Fin 2 → Nat :=
  let c11_i32_224 : BitVec 32 := 11#32
  let v556 : Index := Scalar.indexCast c11_i32_224
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_223 : BitVec 32 := 16#32
  let v555 : BitVec 32 := Scalar.muli v93 c16_i32_223
  let v557 : Index := Scalar.indexCast v555
  ![11, v557.toNat]
def k0_off18 (k0_t2 : Fin k0_t2_loop.trips) : Fin 2 → Nat :=
  let c12_i32_226 : BitVec 32 := 12#32
  let v564 : Index := Scalar.indexCast c12_i32_226
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_225 : BitVec 32 := 16#32
  let v563 : BitVec 32 := Scalar.muli v93 c16_i32_225
  let v565 : Index := Scalar.indexCast v563
  ![12, v565.toNat]
def k0_off19 (k0_t2 : Fin k0_t2_loop.trips) : Fin 2 → Nat :=
  let c13_i32_228 : BitVec 32 := 13#32
  let v572 : Index := Scalar.indexCast c13_i32_228
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_227 : BitVec 32 := 16#32
  let v571 : BitVec 32 := Scalar.muli v93 c16_i32_227
  let v573 : Index := Scalar.indexCast v571
  ![13, v573.toNat]
def k0_off20 (k0_t2 : Fin k0_t2_loop.trips) : Fin 2 → Nat :=
  let c14_i32_230 : BitVec 32 := 14#32
  let v580 : Index := Scalar.indexCast c14_i32_230
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_229 : BitVec 32 := 16#32
  let v579 : BitVec 32 := Scalar.muli v93 c16_i32_229
  let v581 : Index := Scalar.indexCast v579
  ![14, v581.toNat]
def k0_off21 (k0_t2 : Fin k0_t2_loop.trips) : Fin 2 → Nat :=
  let c15_i32_232 : BitVec 32 := 15#32
  let v588 : Index := Scalar.indexCast c15_i32_232
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_231 : BitVec 32 := 16#32
  let v587 : BitVec 32 := Scalar.muli v93 c16_i32_231
  let v589 : Index := Scalar.indexCast v587
  ![15, v589.toNat]
def k0_off22 (k0_t2 : Fin k0_t2_loop.trips) : Fin 2 → Nat :=
  let c16_i32_234 : BitVec 32 := 16#32
  let v596 : Index := Scalar.indexCast c16_i32_234
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_233 : BitVec 32 := 16#32
  let v595 : BitVec 32 := Scalar.muli v93 c16_i32_233
  let v597 : Index := Scalar.indexCast v595
  ![16, v597.toNat]
def k0_off23 (k0_t2 : Fin k0_t2_loop.trips) : Fin 2 → Nat :=
  let c17_i32_236 : BitVec 32 := 17#32
  let v604 : Index := Scalar.indexCast c17_i32_236
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_235 : BitVec 32 := 16#32
  let v603 : BitVec 32 := Scalar.muli v93 c16_i32_235
  let v605 : Index := Scalar.indexCast v603
  ![17, v605.toNat]
def k0_off24 (k0_t2 : Fin k0_t2_loop.trips) : Fin 2 → Nat :=
  let c18_i32_240 : BitVec 32 := 18#32
  let v623 : Index := Scalar.indexCast c18_i32_240
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_239 : BitVec 32 := 16#32
  let v622 : BitVec 32 := Scalar.muli v93 c16_i32_239
  let v624 : Index := Scalar.indexCast v622
  ![18, v624.toNat]
def k0_off25 (k0_t2 : Fin k0_t2_loop.trips) : Fin 2 → Nat :=
  let c19_i32_242 : BitVec 32 := 19#32
  let v634 : Index := Scalar.indexCast c19_i32_242
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_241 : BitVec 32 := 16#32
  let v633 : BitVec 32 := Scalar.muli v93 c16_i32_241
  let v635 : Index := Scalar.indexCast v633
  ![19, v635.toNat]
def k0_off26 (k0_t2 : Fin k0_t2_loop.trips) : Fin 2 → Nat :=
  let c20_i32 : BitVec 32 := 20#32
  let v645 : Index := Scalar.indexCast c20_i32
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_243 : BitVec 32 := 16#32
  let v644 : BitVec 32 := Scalar.muli v93 c16_i32_243
  let v646 : Index := Scalar.indexCast v644
  ![20, v646.toNat]
def k0_off27 (k0_t2 : Fin k0_t2_loop.trips) : Fin 2 → Nat :=
  let c21_i32 : BitVec 32 := 21#32
  let v653 : Index := Scalar.indexCast c21_i32
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_244 : BitVec 32 := 16#32
  let v652 : BitVec 32 := Scalar.muli v93 c16_i32_244
  let v654 : Index := Scalar.indexCast v652
  ![21, v654.toNat]
def k0_off28 (k0_t2 : Fin k0_t2_loop.trips) : Fin 2 → Nat :=
  let c22_i32 : BitVec 32 := 22#32
  let v664 : Index := Scalar.indexCast c22_i32
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_245 : BitVec 32 := 16#32
  let v663 : BitVec 32 := Scalar.muli v93 c16_i32_245
  let v665 : Index := Scalar.indexCast v663
  ![22, v665.toNat]
def k0_off29 (k0_t2 : Fin k0_t2_loop.trips) : Fin 2 → Nat :=
  let c23_i32 : BitVec 32 := 23#32
  let v675 : Index := Scalar.indexCast c23_i32
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_246 : BitVec 32 := 16#32
  let v674 : BitVec 32 := Scalar.muli v93 c16_i32_246
  let v676 : Index := Scalar.indexCast v674
  ![23, v676.toNat]
def k0_off30 (k0_t2 : Fin k0_t2_loop.trips) : Fin 2 → Nat :=
  let c24_i32 : BitVec 32 := 24#32
  let v686 : Index := Scalar.indexCast c24_i32
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_247 : BitVec 32 := 16#32
  let v685 : BitVec 32 := Scalar.muli v93 c16_i32_247
  let v687 : Index := Scalar.indexCast v685
  ![24, v687.toNat]
def k0_off31 (k0_t2 : Fin k0_t2_loop.trips) : Fin 2 → Nat :=
  let c25_i32 : BitVec 32 := 25#32
  let v697 : Index := Scalar.indexCast c25_i32
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_248 : BitVec 32 := 16#32
  let v696 : BitVec 32 := Scalar.muli v93 c16_i32_248
  let v698 : Index := Scalar.indexCast v696
  ![25, v698.toNat]
def k0_off32 (k0_t2 : Fin k0_t2_loop.trips) : Fin 2 → Nat :=
  let c26_i32 : BitVec 32 := 26#32
  let v708 : Index := Scalar.indexCast c26_i32
  let c0_i32_72 : BitVec 32 := 0#32
  let c0_i32_42 : BitVec 32 := 0#32
  let c1_i32_44 : BitVec 32 := 1#32
  let arg15 : BitVec 32 := Scf.iv c0_i32_42 c1_i32_44 k0_t2
  let c1_i32_71 : BitVec 32 := 1#32
  let v92 : BitVec 32 := Scalar.muli arg15 c1_i32_71
  let v93 : BitVec 32 := Scalar.addi c0_i32_72 v92
  let c16_i32_249 : BitVec 32 := 16#32
  let v707 : BitVec 32 := Scalar.muli v93 c16_i32_249
  let v709 : Index := Scalar.indexCast v707
  ![26, v709.toNat]
def k0_off33 (i : grid0.Coords) (k0_t1 : Fin k0_t1_loop.trips) (c0_i32_35 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_46 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c0_i32_34 : BitVec 32 := 0#32
  let c0_i32_21 : BitVec 32 := 0#32
  let c1_i32_23 : BitVec 32 := 1#32
  let arg14 : BitVec 32 := Scf.iv c0_i32_21 c1_i32_23 k0_t1
  let c2_i32_33 : BitVec 32 := 2#32
  let v52 : BitVec 32 := Scalar.muli arg14 c2_i32_33
  let v53 : BitVec 32 := Scalar.addi c0_i32_34 v52
  let v54 : BitVec 32 := Scalar.addi v53 c0_i32_35
  let v64 : BitVec 32 := Scalar.addi v29 v54
  let c0_i32_47 : BitVec 32 := 0#32
  ![v18.toNat, 0, v64.toNat, 0]
def k0_cond2 (k0_t1 : Fin k0_t1_loop.trips) : BitVec 1 :=
  let c0_i32_34 : BitVec 32 := 0#32
  let c0_i32_21 : BitVec 32 := 0#32
  let c1_i32_23 : BitVec 32 := 1#32
  let arg14 : BitVec 32 := Scf.iv c0_i32_21 c1_i32_23 k0_t1
  let c2_i32_33 : BitVec 32 := 2#32
  let v52 : BitVec 32 := Scalar.muli arg14 c2_i32_33
  let v53 : BitVec 32 := Scalar.addi c0_i32_34 v52
  let c0_i32_35 : BitVec 32 := 0#32
  let v54 : BitVec 32 := Scalar.addi v53 c0_i32_35
  let c2_i32_50 : BitVec 32 := 2#32
  let v69 : BitVec 32 := Scalar.addi v54 c2_i32_50
  let c16_i32_51 : BitVec 32 := 16#32
  let v70 : BitVec 1 := Scalar.cmpi .slt v69 c16_i32_51
  let v71 : BitVec 32 := Scalar.extui v70
  let c0_i32_52 : BitVec 32 := 0#32
  let v72 : BitVec 1 := Scalar.cmpi .ne v71 c0_i32_52
  v72

def k0_off34 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_72 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c0_i32_34 : BitVec 32 := 0#32
  let c0_i32_21 : BitVec 32 := 0#32
  let c1_i32_23 : BitVec 32 := 1#32
  let arg14 : BitVec 32 := Scf.iv c0_i32_21 c1_i32_23 k0_t1
  let c2_i32_33 : BitVec 32 := 2#32
  let v52 : BitVec 32 := Scalar.muli arg14 c2_i32_33
  let v53 : BitVec 32 := Scalar.addi c0_i32_34 v52
  let c0_i32_35 : BitVec 32 := 0#32
  let v54 : BitVec 32 := Scalar.addi v53 c0_i32_35
  let c2_i32_71 : BitVec 32 := 2#32
  let v92 : BitVec 32 := Scalar.addi v54 c2_i32_71
  let v93 : BitVec 32 := Scalar.addi v29 v92
  let c0_i32_73 : BitVec 32 := 0#32
  ![v18.toNat, 0, v93.toNat, 0]
def k0_cond3 (k0_t1 : Fin k0_t1_loop.trips) : BitVec 1 :=
  let c0_i32_34 : BitVec 32 := 0#32
  let c0_i32_21 : BitVec 32 := 0#32
  let c1_i32_23 : BitVec 32 := 1#32
  let arg14 : BitVec 32 := Scf.iv c0_i32_21 c1_i32_23 k0_t1
  let c2_i32_33 : BitVec 32 := 2#32
  let v52 : BitVec 32 := Scalar.muli arg14 c2_i32_33
  let v53 : BitVec 32 := Scalar.addi c0_i32_34 v52
  let c1_i32_53 : BitVec 32 := 1#32
  let v73 : BitVec 32 := Scalar.addi v53 c1_i32_53
  let c2_i32_58 : BitVec 32 := 2#32
  let v79 : BitVec 1 := Scalar.cmpi .sge v73 c2_i32_58
  let v80 : BitVec 32 := Scalar.extui v79
  let c0_i32_59 : BitVec 32 := 0#32
  let v81 : BitVec 1 := Scalar.cmpi .ne v80 c0_i32_59
  v81

def k0_off35 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_72 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c0_i32_34 : BitVec 32 := 0#32
  let c0_i32_21 : BitVec 32 := 0#32
  let c1_i32_23 : BitVec 32 := 1#32
  let arg14 : BitVec 32 := Scf.iv c0_i32_21 c1_i32_23 k0_t1
  let c2_i32_33 : BitVec 32 := 2#32
  let v52 : BitVec 32 := Scalar.muli arg14 c2_i32_33
  let v53 : BitVec 32 := Scalar.addi c0_i32_34 v52
  let c1_i32_53 : BitVec 32 := 1#32
  let v73 : BitVec 32 := Scalar.addi v53 c1_i32_53
  let c2_i32_71 : BitVec 32 := 2#32
  let v92 : BitVec 32 := Scalar.subi v73 c2_i32_71
  let v93 : BitVec 32 := Scalar.addi v29 v92
  let c0_i32_73 : BitVec 32 := 0#32
  ![v18.toNat, 0, v93.toNat, 0]
@[reducible] def k0_t3_loop : Scf.Loop 32 :=
  let c0_i32_60 : BitVec 32 := 0#32
  let c16_i32_61 : BitVec 32 := 16#32
  let v82 : BitVec 32 := Scalar.addi c0_i32_60 c16_i32_61
  let c1_i32_62 : BitVec 32 := 1#32
  ⟨c0_i32_60, v82, c1_i32_62⟩
def k0_off36 (k0_t1 : Fin k0_t1_loop.trips) (k0_t3 : Fin k0_t3_loop.trips) : Fin 2 → Nat :=
  let c0_i32_34 : BitVec 32 := 0#32
  let c0_i32_21 : BitVec 32 := 0#32
  let c1_i32_23 : BitVec 32 := 1#32
  let arg14 : BitVec 32 := Scf.iv c0_i32_21 c1_i32_23 k0_t1
  let c2_i32_33 : BitVec 32 := 2#32
  let v52 : BitVec 32 := Scalar.muli arg14 c2_i32_33
  let v53 : BitVec 32 := Scalar.addi c0_i32_34 v52
  let c1_i32_53 : BitVec 32 := 1#32
  let v73 : BitVec 32 := Scalar.addi v53 c1_i32_53
  let v98 : Index := Scalar.indexCast v73
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_74 : BitVec 32 := 16#32
  let v97 : BitVec 32 := Scalar.muli v93 c16_i32_74
  let v99 : Index := Scalar.indexCast v97
  ![v98.toNat, v99.toNat]

def k0_chk55 (v96 : IVec S16 32) (v113 : IVec S16 32) : Prop :=
  (∀ a x, ((![v113, v96] : Fin 2 → IVec S16 32) a x).toNat < S128x256.size a)
theorem k0_idx55_inb : ∀ (v96 : IVec S16 32) (v113 : IVec S16 32) (k0_hw55 : k0_chk55 v96 v113), ∀ a x, ((![v113, v96] : Fin 2 → IVec S16 32) a x).toNat < S128x256.size a := fun v96 v113 k0_hw55 => k0_hw55

def k0_chk56 (v96 : IVec S16 32) (v120 : IVec S16 32) : Prop :=
  (∀ a x, ((![v120, v96] : Fin 2 → IVec S16 32) a x).toNat < S128x256.size a)
theorem k0_idx56_inb : ∀ (v96 : IVec S16 32) (v120 : IVec S16 32) (k0_hw56 : k0_chk56 v96 v120), ∀ a x, ((![v120, v96] : Fin 2 → IVec S16 32) a x).toNat < S128x256.size a := fun v96 v120 k0_hw56 => k0_hw56
def k0_off37 (k0_t3 : Fin k0_t3_loop.trips) : Fin 2 → Nat :=
  let c0_i32_81 : BitVec 32 := 0#32
  let v126 : Index := Scalar.indexCast c0_i32_81
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_80 : BitVec 32 := 16#32
  let v125 : BitVec 32 := Scalar.muli v93 c16_i32_80
  let v127 : Index := Scalar.indexCast v125
  ![0, v127.toNat]

def k0_chk57 (v96 : IVec S16 32) (v134 : IVec S16 32) : Prop :=
  (∀ a x, ((![v134, v96] : Fin 2 → IVec S16 32) a x).toNat < S128x256.size a)
theorem k0_idx57_inb : ∀ (v96 : IVec S16 32) (v134 : IVec S16 32) (k0_hw57 : k0_chk57 v96 v134), ∀ a x, ((![v134, v96] : Fin 2 → IVec S16 32) a x).toNat < S128x256.size a := fun v96 v134 k0_hw57 => k0_hw57
def k0_off38 (k0_t3 : Fin k0_t3_loop.trips) : Fin 2 → Nat :=
  let c1_i32_86 : BitVec 32 := 1#32
  let v140 : Index := Scalar.indexCast c1_i32_86
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_85 : BitVec 32 := 16#32
  let v139 : BitVec 32 := Scalar.muli v93 c16_i32_85
  let v141 : Index := Scalar.indexCast v139
  ![1, v141.toNat]

def k0_chk58 (v96 : IVec S16 32) (v148 : IVec S16 32) : Prop :=
  (∀ a x, ((![v148, v96] : Fin 2 → IVec S16 32) a x).toNat < S128x256.size a)
theorem k0_idx58_inb : ∀ (v96 : IVec S16 32) (v148 : IVec S16 32) (k0_hw58 : k0_chk58 v96 v148), ∀ a x, ((![v148, v96] : Fin 2 → IVec S16 32) a x).toNat < S128x256.size a := fun v96 v148 k0_hw58 => k0_hw58
def k0_off39 (k0_t3 : Fin k0_t3_loop.trips) : Fin 2 → Nat :=
  let c2_i32_90 : BitVec 32 := 2#32
  let v154 : Index := Scalar.indexCast c2_i32_90
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_89 : BitVec 32 := 16#32
  let v153 : BitVec 32 := Scalar.muli v93 c16_i32_89
  let v155 : Index := Scalar.indexCast v153
  ![2, v155.toNat]

def k0_chk59 (v96 : IVec S16 32) (v162 : IVec S16 32) : Prop :=
  (∀ a x, ((![v162, v96] : Fin 2 → IVec S16 32) a x).toNat < S128x256.size a)
theorem k0_idx59_inb : ∀ (v96 : IVec S16 32) (v162 : IVec S16 32) (k0_hw59 : k0_chk59 v96 v162), ∀ a x, ((![v162, v96] : Fin 2 → IVec S16 32) a x).toNat < S128x256.size a := fun v96 v162 k0_hw59 => k0_hw59
def k0_off40 (k0_t3 : Fin k0_t3_loop.trips) : Fin 2 → Nat :=
  let c3_i32_95 : BitVec 32 := 3#32
  let v168 : Index := Scalar.indexCast c3_i32_95
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_94 : BitVec 32 := 16#32
  let v167 : BitVec 32 := Scalar.muli v93 c16_i32_94
  let v169 : Index := Scalar.indexCast v167
  ![3, v169.toNat]

def k0_chk60 (v96 : IVec S16 32) (v176 : IVec S16 32) : Prop :=
  (∀ a x, ((![v176, v96] : Fin 2 → IVec S16 32) a x).toNat < S128x256.size a)
theorem k0_idx60_inb : ∀ (v96 : IVec S16 32) (v176 : IVec S16 32) (k0_hw60 : k0_chk60 v96 v176), ∀ a x, ((![v176, v96] : Fin 2 → IVec S16 32) a x).toNat < S128x256.size a := fun v96 v176 k0_hw60 => k0_hw60
def k0_off41 (k0_t3 : Fin k0_t3_loop.trips) : Fin 2 → Nat :=
  let c4_i32_99 : BitVec 32 := 4#32
  let v182 : Index := Scalar.indexCast c4_i32_99
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_98 : BitVec 32 := 16#32
  let v181 : BitVec 32 := Scalar.muli v93 c16_i32_98
  let v183 : Index := Scalar.indexCast v181
  ![4, v183.toNat]

def k0_chk61 (v96 : IVec S16 32) (v190 : IVec S16 32) : Prop :=
  (∀ a x, ((![v190, v96] : Fin 2 → IVec S16 32) a x).toNat < S128x256.size a)
theorem k0_idx61_inb : ∀ (v96 : IVec S16 32) (v190 : IVec S16 32) (k0_hw61 : k0_chk61 v96 v190), ∀ a x, ((![v190, v96] : Fin 2 → IVec S16 32) a x).toNat < S128x256.size a := fun v96 v190 k0_hw61 => k0_hw61
def k0_off42 (k0_t3 : Fin k0_t3_loop.trips) : Fin 2 → Nat :=
  let c5_i32_103 : BitVec 32 := 5#32
  let v196 : Index := Scalar.indexCast c5_i32_103
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_102 : BitVec 32 := 16#32
  let v195 : BitVec 32 := Scalar.muli v93 c16_i32_102
  let v197 : Index := Scalar.indexCast v195
  ![5, v197.toNat]

def k0_chk62 (v96 : IVec S16 32) (v204 : IVec S16 32) : Prop :=
  (∀ a x, ((![v204, v96] : Fin 2 → IVec S16 32) a x).toNat < S128x256.size a)
theorem k0_idx62_inb : ∀ (v96 : IVec S16 32) (v204 : IVec S16 32) (k0_hw62 : k0_chk62 v96 v204), ∀ a x, ((![v204, v96] : Fin 2 → IVec S16 32) a x).toNat < S128x256.size a := fun v96 v204 k0_hw62 => k0_hw62
def k0_off43 (k0_t3 : Fin k0_t3_loop.trips) : Fin 2 → Nat :=
  let c6_i32_107 : BitVec 32 := 6#32
  let v210 : Index := Scalar.indexCast c6_i32_107
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_106 : BitVec 32 := 16#32
  let v209 : BitVec 32 := Scalar.muli v93 c16_i32_106
  let v211 : Index := Scalar.indexCast v209
  ![6, v211.toNat]

def k0_chk63 (v96 : IVec S16 32) (v218 : IVec S16 32) : Prop :=
  (∀ a x, ((![v218, v96] : Fin 2 → IVec S16 32) a x).toNat < S128x256.size a)
theorem k0_idx63_inb : ∀ (v96 : IVec S16 32) (v218 : IVec S16 32) (k0_hw63 : k0_chk63 v96 v218), ∀ a x, ((![v218, v96] : Fin 2 → IVec S16 32) a x).toNat < S128x256.size a := fun v96 v218 k0_hw63 => k0_hw63
def k0_off44 (k0_t3 : Fin k0_t3_loop.trips) : Fin 2 → Nat :=
  let c7_i32_112 : BitVec 32 := 7#32
  let v224 : Index := Scalar.indexCast c7_i32_112
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_111 : BitVec 32 := 16#32
  let v223 : BitVec 32 := Scalar.muli v93 c16_i32_111
  let v225 : Index := Scalar.indexCast v223
  ![7, v225.toNat]

def k0_chk64 (v96 : IVec S16 32) (v232 : IVec S16 32) : Prop :=
  (∀ a x, ((![v232, v96] : Fin 2 → IVec S16 32) a x).toNat < S128x256.size a)
theorem k0_idx64_inb : ∀ (v96 : IVec S16 32) (v232 : IVec S16 32) (k0_hw64 : k0_chk64 v96 v232), ∀ a x, ((![v232, v96] : Fin 2 → IVec S16 32) a x).toNat < S128x256.size a := fun v96 v232 k0_hw64 => k0_hw64
def k0_off45 (k0_t3 : Fin k0_t3_loop.trips) : Fin 2 → Nat :=
  let c8_i32_116 : BitVec 32 := 8#32
  let v238 : Index := Scalar.indexCast c8_i32_116
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_115 : BitVec 32 := 16#32
  let v237 : BitVec 32 := Scalar.muli v93 c16_i32_115
  let v239 : Index := Scalar.indexCast v237
  ![8, v239.toNat]

def k0_chk65 (v96 : IVec S16 32) (v267 : IVec S16 32) : Prop :=
  (∀ a x, ((![v267, v96] : Fin 2 → IVec S16 32) a x).toNat < S128x256.size a)
theorem k0_idx65_inb : ∀ (v96 : IVec S16 32) (v267 : IVec S16 32) (k0_hw65 : k0_chk65 v96 v267), ∀ a x, ((![v267, v96] : Fin 2 → IVec S16 32) a x).toNat < S128x256.size a := fun v96 v267 k0_hw65 => k0_hw65

def k0_chk66 (v96 : IVec S16 32) (v270 : IVec S16 32) : Prop :=
  (∀ a x, ((![v270, v96] : Fin 2 → IVec S16 32) a x).toNat < S128x256.size a)
theorem k0_idx66_inb : ∀ (v96 : IVec S16 32) (v270 : IVec S16 32) (k0_hw66 : k0_chk66 v96 v270), ∀ a x, ((![v270, v96] : Fin 2 → IVec S16 32) a x).toNat < S128x256.size a := fun v96 v270 k0_hw66 => k0_hw66

def k0_chk67 (v96 : IVec S16 32) (v280 : IVec S16 32) : Prop :=
  (∀ a x, ((![v280, v96] : Fin 2 → IVec S16 32) a x).toNat < S128x256.size a)
theorem k0_idx67_inb : ∀ (v96 : IVec S16 32) (v280 : IVec S16 32) (k0_hw67 : k0_chk67 v96 v280), ∀ a x, ((![v280, v96] : Fin 2 → IVec S16 32) a x).toNat < S128x256.size a := fun v96 v280 k0_hw67 => k0_hw67

def k0_chk68 (v96 : IVec S16 32) (v283 : IVec S16 32) : Prop :=
  (∀ a x, ((![v283, v96] : Fin 2 → IVec S16 32) a x).toNat < S128x256.size a)
theorem k0_idx68_inb : ∀ (v96 : IVec S16 32) (v283 : IVec S16 32) (k0_hw68 : k0_chk68 v96 v283), ∀ a x, ((![v283, v96] : Fin 2 → IVec S16 32) a x).toNat < S128x256.size a := fun v96 v283 k0_hw68 => k0_hw68

def k0_chk69 (v96 : IVec S16 32) (v293 : IVec S16 32) : Prop :=
  (∀ a x, ((![v293, v96] : Fin 2 → IVec S16 32) a x).toNat < S128x256.size a)
theorem k0_idx69_inb : ∀ (v96 : IVec S16 32) (v293 : IVec S16 32) (k0_hw69 : k0_chk69 v96 v293), ∀ a x, ((![v293, v96] : Fin 2 → IVec S16 32) a x).toNat < S128x256.size a := fun v96 v293 k0_hw69 => k0_hw69

def k0_chk70 (v96 : IVec S16 32) (v296 : IVec S16 32) : Prop :=
  (∀ a x, ((![v296, v96] : Fin 2 → IVec S16 32) a x).toNat < S128x256.size a)
theorem k0_idx70_inb : ∀ (v96 : IVec S16 32) (v296 : IVec S16 32) (k0_hw70 : k0_chk70 v96 v296), ∀ a x, ((![v296, v96] : Fin 2 → IVec S16 32) a x).toNat < S128x256.size a := fun v96 v296 k0_hw70 => k0_hw70

def k0_chk71 (v96 : IVec S16 32) (v306 : IVec S16 32) : Prop :=
  (∀ a x, ((![v306, v96] : Fin 2 → IVec S16 32) a x).toNat < S128x256.size a)
theorem k0_idx71_inb : ∀ (v96 : IVec S16 32) (v306 : IVec S16 32) (k0_hw71 : k0_chk71 v96 v306), ∀ a x, ((![v306, v96] : Fin 2 → IVec S16 32) a x).toNat < S128x256.size a := fun v96 v306 k0_hw71 => k0_hw71

def k0_chk72 (v96 : IVec S16 32) (v309 : IVec S16 32) : Prop :=
  (∀ a x, ((![v309, v96] : Fin 2 → IVec S16 32) a x).toNat < S128x256.size a)
theorem k0_idx72_inb : ∀ (v96 : IVec S16 32) (v309 : IVec S16 32) (k0_hw72 : k0_chk72 v96 v309), ∀ a x, ((![v309, v96] : Fin 2 → IVec S16 32) a x).toNat < S128x256.size a := fun v96 v309 k0_hw72 => k0_hw72

def k0_chk73 (v96 : IVec S16 32) (v319 : IVec S16 32) : Prop :=
  (∀ a x, ((![v319, v96] : Fin 2 → IVec S16 32) a x).toNat < S128x256.size a)
theorem k0_idx73_inb : ∀ (v96 : IVec S16 32) (v319 : IVec S16 32) (k0_hw73 : k0_chk73 v96 v319), ∀ a x, ((![v319, v96] : Fin 2 → IVec S16 32) a x).toNat < S128x256.size a := fun v96 v319 k0_hw73 => k0_hw73

def k0_chk74 (v96 : IVec S16 32) (v322 : IVec S16 32) : Prop :=
  (∀ a x, ((![v322, v96] : Fin 2 → IVec S16 32) a x).toNat < S128x256.size a)
theorem k0_idx74_inb : ∀ (v96 : IVec S16 32) (v322 : IVec S16 32) (k0_hw74 : k0_chk74 v96 v322), ∀ a x, ((![v322, v96] : Fin 2 → IVec S16 32) a x).toNat < S128x256.size a := fun v96 v322 k0_hw74 => k0_hw74

def k0_chk75 (v96 : IVec S16 32) (v332 : IVec S16 32) : Prop :=
  (∀ a x, ((![v332, v96] : Fin 2 → IVec S16 32) a x).toNat < S128x256.size a)
theorem k0_idx75_inb : ∀ (v96 : IVec S16 32) (v332 : IVec S16 32) (k0_hw75 : k0_chk75 v96 v332), ∀ a x, ((![v332, v96] : Fin 2 → IVec S16 32) a x).toNat < S128x256.size a := fun v96 v332 k0_hw75 => k0_hw75

def k0_chk76 (v96 : IVec S16 32) (v335 : IVec S16 32) : Prop :=
  (∀ a x, ((![v335, v96] : Fin 2 → IVec S16 32) a x).toNat < S128x256.size a)
theorem k0_idx76_inb : ∀ (v96 : IVec S16 32) (v335 : IVec S16 32) (k0_hw76 : k0_chk76 v96 v335), ∀ a x, ((![v335, v96] : Fin 2 → IVec S16 32) a x).toNat < S128x256.size a := fun v96 v335 k0_hw76 => k0_hw76

def k0_chk77 (v96 : IVec S16 32) (v345 : IVec S16 32) : Prop :=
  (∀ a x, ((![v345, v96] : Fin 2 → IVec S16 32) a x).toNat < S128x256.size a)
theorem k0_idx77_inb : ∀ (v96 : IVec S16 32) (v345 : IVec S16 32) (k0_hw77 : k0_chk77 v96 v345), ∀ a x, ((![v345, v96] : Fin 2 → IVec S16 32) a x).toNat < S128x256.size a := fun v96 v345 k0_hw77 => k0_hw77

def k0_chk78 (v96 : IVec S16 32) (v348 : IVec S16 32) : Prop :=
  (∀ a x, ((![v348, v96] : Fin 2 → IVec S16 32) a x).toNat < S128x256.size a)
theorem k0_idx78_inb : ∀ (v96 : IVec S16 32) (v348 : IVec S16 32) (k0_hw78 : k0_chk78 v96 v348), ∀ a x, ((![v348, v96] : Fin 2 → IVec S16 32) a x).toNat < S128x256.size a := fun v96 v348 k0_hw78 => k0_hw78

def k0_chk79 (v96 : IVec S16 32) (v358 : IVec S16 32) : Prop :=
  (∀ a x, ((![v358, v96] : Fin 2 → IVec S16 32) a x).toNat < S128x256.size a)
theorem k0_idx79_inb : ∀ (v96 : IVec S16 32) (v358 : IVec S16 32) (k0_hw79 : k0_chk79 v96 v358), ∀ a x, ((![v358, v96] : Fin 2 → IVec S16 32) a x).toNat < S128x256.size a := fun v96 v358 k0_hw79 => k0_hw79

def k0_chk80 (v96 : IVec S16 32) (v361 : IVec S16 32) : Prop :=
  (∀ a x, ((![v361, v96] : Fin 2 → IVec S16 32) a x).toNat < S128x256.size a)
theorem k0_idx80_inb : ∀ (v96 : IVec S16 32) (v361 : IVec S16 32) (k0_hw80 : k0_chk80 v96 v361), ∀ a x, ((![v361, v96] : Fin 2 → IVec S16 32) a x).toNat < S128x256.size a := fun v96 v361 k0_hw80 => k0_hw80

def k0_chk81 (v96 : IVec S16 32) (v371 : IVec S16 32) : Prop :=
  (∀ a x, ((![v371, v96] : Fin 2 → IVec S16 32) a x).toNat < S128x256.size a)
theorem k0_idx81_inb : ∀ (v96 : IVec S16 32) (v371 : IVec S16 32) (k0_hw81 : k0_chk81 v96 v371), ∀ a x, ((![v371, v96] : Fin 2 → IVec S16 32) a x).toNat < S128x256.size a := fun v96 v371 k0_hw81 => k0_hw81

def k0_chk82 (v96 : IVec S16 32) (v374 : IVec S16 32) : Prop :=
  (∀ a x, ((![v374, v96] : Fin 2 → IVec S16 32) a x).toNat < S128x256.size a)
theorem k0_idx82_inb : ∀ (v96 : IVec S16 32) (v374 : IVec S16 32) (k0_hw82 : k0_chk82 v96 v374), ∀ a x, ((![v374, v96] : Fin 2 → IVec S16 32) a x).toNat < S128x256.size a := fun v96 v374 k0_hw82 => k0_hw82

def k0_chk83 (v96 : IVec S16 32) (v384 : IVec S16 32) : Prop :=
  (∀ a x, ((![v384, v96] : Fin 2 → IVec S16 32) a x).toNat < S128x256.size a)
theorem k0_idx83_inb : ∀ (v96 : IVec S16 32) (v384 : IVec S16 32) (k0_hw83 : k0_chk83 v96 v384), ∀ a x, ((![v384, v96] : Fin 2 → IVec S16 32) a x).toNat < S128x256.size a := fun v96 v384 k0_hw83 => k0_hw83

def k0_chk84 (v96 : IVec S16 32) (v387 : IVec S16 32) : Prop :=
  (∀ a x, ((![v387, v96] : Fin 2 → IVec S16 32) a x).toNat < S128x256.size a)
theorem k0_idx84_inb : ∀ (v96 : IVec S16 32) (v387 : IVec S16 32) (k0_hw84 : k0_chk84 v96 v387), ∀ a x, ((![v387, v96] : Fin 2 → IVec S16 32) a x).toNat < S128x256.size a := fun v96 v387 k0_hw84 => k0_hw84

def k0_chk85 (v96 : IVec S16 32) (v397 : IVec S16 32) : Prop :=
  (∀ a x, ((![v397, v96] : Fin 2 → IVec S16 32) a x).toNat < S128x256.size a)
theorem k0_idx85_inb : ∀ (v96 : IVec S16 32) (v397 : IVec S16 32) (k0_hw85 : k0_chk85 v96 v397), ∀ a x, ((![v397, v96] : Fin 2 → IVec S16 32) a x).toNat < S128x256.size a := fun v96 v397 k0_hw85 => k0_hw85

def k0_chk86 (v96 : IVec S16 32) (v400 : IVec S16 32) : Prop :=
  (∀ a x, ((![v400, v96] : Fin 2 → IVec S16 32) a x).toNat < S128x256.size a)
theorem k0_idx86_inb : ∀ (v96 : IVec S16 32) (v400 : IVec S16 32) (k0_hw86 : k0_chk86 v96 v400), ∀ a x, ((![v400, v96] : Fin 2 → IVec S16 32) a x).toNat < S128x256.size a := fun v96 v400 k0_hw86 => k0_hw86

def k0_chk87 (v96 : IVec S16 32) (v410 : IVec S16 32) : Prop :=
  (∀ a x, ((![v410, v96] : Fin 2 → IVec S16 32) a x).toNat < S128x256.size a)
theorem k0_idx87_inb : ∀ (v96 : IVec S16 32) (v410 : IVec S16 32) (k0_hw87 : k0_chk87 v96 v410), ∀ a x, ((![v410, v96] : Fin 2 → IVec S16 32) a x).toNat < S128x256.size a := fun v96 v410 k0_hw87 => k0_hw87

def k0_chk88 (v96 : IVec S16 32) (v413 : IVec S16 32) : Prop :=
  (∀ a x, ((![v413, v96] : Fin 2 → IVec S16 32) a x).toNat < S128x256.size a)
theorem k0_idx88_inb : ∀ (v96 : IVec S16 32) (v413 : IVec S16 32) (k0_hw88 : k0_chk88 v96 v413), ∀ a x, ((![v413, v96] : Fin 2 → IVec S16 32) a x).toNat < S128x256.size a := fun v96 v413 k0_hw88 => k0_hw88

def k0_chk89 (v96 : IVec S16 32) (v423 : IVec S16 32) : Prop :=
  (∀ a x, ((![v423, v96] : Fin 2 → IVec S16 32) a x).toNat < S128x256.size a)
theorem k0_idx89_inb : ∀ (v96 : IVec S16 32) (v423 : IVec S16 32) (k0_hw89 : k0_chk89 v96 v423), ∀ a x, ((![v423, v96] : Fin 2 → IVec S16 32) a x).toNat < S128x256.size a := fun v96 v423 k0_hw89 => k0_hw89

def k0_chk90 (v96 : IVec S16 32) (v426 : IVec S16 32) : Prop :=
  (∀ a x, ((![v426, v96] : Fin 2 → IVec S16 32) a x).toNat < S128x256.size a)
theorem k0_idx90_inb : ∀ (v96 : IVec S16 32) (v426 : IVec S16 32) (k0_hw90 : k0_chk90 v96 v426), ∀ a x, ((![v426, v96] : Fin 2 → IVec S16 32) a x).toNat < S128x256.size a := fun v96 v426 k0_hw90 => k0_hw90

def k0_chk91 (v96 : IVec S16 32) (v436 : IVec S16 32) : Prop :=
  (∀ a x, ((![v436, v96] : Fin 2 → IVec S16 32) a x).toNat < S128x256.size a)
theorem k0_idx91_inb : ∀ (v96 : IVec S16 32) (v436 : IVec S16 32) (k0_hw91 : k0_chk91 v96 v436), ∀ a x, ((![v436, v96] : Fin 2 → IVec S16 32) a x).toNat < S128x256.size a := fun v96 v436 k0_hw91 => k0_hw91

def k0_chk92 (v96 : IVec S16 32) (v439 : IVec S16 32) : Prop :=
  (∀ a x, ((![v439, v96] : Fin 2 → IVec S16 32) a x).toNat < S128x256.size a)
theorem k0_idx92_inb : ∀ (v96 : IVec S16 32) (v439 : IVec S16 32) (k0_hw92 : k0_chk92 v96 v439), ∀ a x, ((![v439, v96] : Fin 2 → IVec S16 32) a x).toNat < S128x256.size a := fun v96 v439 k0_hw92 => k0_hw92

def k0_chk93 (v96 : IVec S16 32) (v449 : IVec S16 32) : Prop :=
  (∀ a x, ((![v449, v96] : Fin 2 → IVec S16 32) a x).toNat < S128x256.size a)
theorem k0_idx93_inb : ∀ (v96 : IVec S16 32) (v449 : IVec S16 32) (k0_hw93 : k0_chk93 v96 v449), ∀ a x, ((![v449, v96] : Fin 2 → IVec S16 32) a x).toNat < S128x256.size a := fun v96 v449 k0_hw93 => k0_hw93

def k0_chk94 (v96 : IVec S16 32) (v452 : IVec S16 32) : Prop :=
  (∀ a x, ((![v452, v96] : Fin 2 → IVec S16 32) a x).toNat < S128x256.size a)
theorem k0_idx94_inb : ∀ (v96 : IVec S16 32) (v452 : IVec S16 32) (k0_hw94 : k0_chk94 v96 v452), ∀ a x, ((![v452, v96] : Fin 2 → IVec S16 32) a x).toNat < S128x256.size a := fun v96 v452 k0_hw94 => k0_hw94

def k0_chk95 (v96 : IVec S16 32) (v462 : IVec S16 32) : Prop :=
  (∀ a x, ((![v462, v96] : Fin 2 → IVec S16 32) a x).toNat < S128x256.size a)
theorem k0_idx95_inb : ∀ (v96 : IVec S16 32) (v462 : IVec S16 32) (k0_hw95 : k0_chk95 v96 v462), ∀ a x, ((![v462, v96] : Fin 2 → IVec S16 32) a x).toNat < S128x256.size a := fun v96 v462 k0_hw95 => k0_hw95

def k0_chk96 (v96 : IVec S16 32) (v465 : IVec S16 32) : Prop :=
  (∀ a x, ((![v465, v96] : Fin 2 → IVec S16 32) a x).toNat < S128x256.size a)
theorem k0_idx96_inb : ∀ (v96 : IVec S16 32) (v465 : IVec S16 32) (k0_hw96 : k0_chk96 v96 v465), ∀ a x, ((![v465, v96] : Fin 2 → IVec S16 32) a x).toNat < S128x256.size a := fun v96 v465 k0_hw96 => k0_hw96

def k0_chk97 (v96 : IVec S16 32) (v475 : IVec S16 32) : Prop :=
  (∀ a x, ((![v475, v96] : Fin 2 → IVec S16 32) a x).toNat < S128x256.size a)
theorem k0_idx97_inb : ∀ (v96 : IVec S16 32) (v475 : IVec S16 32) (k0_hw97 : k0_chk97 v96 v475), ∀ a x, ((![v475, v96] : Fin 2 → IVec S16 32) a x).toNat < S128x256.size a := fun v96 v475 k0_hw97 => k0_hw97

def k0_chk98 (v96 : IVec S16 32) (v478 : IVec S16 32) : Prop :=
  (∀ a x, ((![v478, v96] : Fin 2 → IVec S16 32) a x).toNat < S128x256.size a)
theorem k0_idx98_inb : ∀ (v96 : IVec S16 32) (v478 : IVec S16 32) (k0_hw98 : k0_chk98 v96 v478), ∀ a x, ((![v478, v96] : Fin 2 → IVec S16 32) a x).toNat < S128x256.size a := fun v96 v478 k0_hw98 => k0_hw98

def k0_chk99 (v96 : IVec S16 32) (v488 : IVec S16 32) : Prop :=
  (∀ a x, ((![v488, v96] : Fin 2 → IVec S16 32) a x).toNat < S128x256.size a)
theorem k0_idx99_inb : ∀ (v96 : IVec S16 32) (v488 : IVec S16 32) (k0_hw99 : k0_chk99 v96 v488), ∀ a x, ((![v488, v96] : Fin 2 → IVec S16 32) a x).toNat < S128x256.size a := fun v96 v488 k0_hw99 => k0_hw99

def k0_chk100 (v96 : IVec S16 32) (v491 : IVec S16 32) : Prop :=
  (∀ a x, ((![v491, v96] : Fin 2 → IVec S16 32) a x).toNat < S128x256.size a)
theorem k0_idx100_inb : ∀ (v96 : IVec S16 32) (v491 : IVec S16 32) (k0_hw100 : k0_chk100 v96 v491), ∀ a x, ((![v491, v96] : Fin 2 → IVec S16 32) a x).toNat < S128x256.size a := fun v96 v491 k0_hw100 => k0_hw100

def k0_chk101 (v96 : IVec S16 32) (v501 : IVec S16 32) : Prop :=
  (∀ a x, ((![v501, v96] : Fin 2 → IVec S16 32) a x).toNat < S128x256.size a)
theorem k0_idx101_inb : ∀ (v96 : IVec S16 32) (v501 : IVec S16 32) (k0_hw101 : k0_chk101 v96 v501), ∀ a x, ((![v501, v96] : Fin 2 → IVec S16 32) a x).toNat < S128x256.size a := fun v96 v501 k0_hw101 => k0_hw101

def k0_chk102 (v96 : IVec S16 32) (v504 : IVec S16 32) : Prop :=
  (∀ a x, ((![v504, v96] : Fin 2 → IVec S16 32) a x).toNat < S128x256.size a)
theorem k0_idx102_inb : ∀ (v96 : IVec S16 32) (v504 : IVec S16 32) (k0_hw102 : k0_chk102 v96 v504), ∀ a x, ((![v504, v96] : Fin 2 → IVec S16 32) a x).toNat < S128x256.size a := fun v96 v504 k0_hw102 => k0_hw102

def k0_chk103 (v96 : IVec S16 32) (v514 : IVec S16 32) : Prop :=
  (∀ a x, ((![v514, v96] : Fin 2 → IVec S16 32) a x).toNat < S128x256.size a)
theorem k0_idx103_inb : ∀ (v96 : IVec S16 32) (v514 : IVec S16 32) (k0_hw103 : k0_chk103 v96 v514), ∀ a x, ((![v514, v96] : Fin 2 → IVec S16 32) a x).toNat < S128x256.size a := fun v96 v514 k0_hw103 => k0_hw103

def k0_chk104 (v96 : IVec S16 32) (v517 : IVec S16 32) : Prop :=
  (∀ a x, ((![v517, v96] : Fin 2 → IVec S16 32) a x).toNat < S128x256.size a)
theorem k0_idx104_inb : ∀ (v96 : IVec S16 32) (v517 : IVec S16 32) (k0_hw104 : k0_chk104 v96 v517), ∀ a x, ((![v517, v96] : Fin 2 → IVec S16 32) a x).toNat < S128x256.size a := fun v96 v517 k0_hw104 => k0_hw104

def k0_chk105 (v96 : IVec S16 32) (v520 : IVec S16 32) : Prop :=
  (∀ a x, ((![v520, v96] : Fin 2 → IVec S16 32) a x).toNat < S128x256.size a)
theorem k0_idx105_inb : ∀ (v96 : IVec S16 32) (v520 : IVec S16 32) (k0_hw105 : k0_chk105 v96 v520), ∀ a x, ((![v520, v96] : Fin 2 → IVec S16 32) a x).toNat < S128x256.size a := fun v96 v520 k0_hw105 => k0_hw105

def k0_chk106 (v96 : IVec S16 32) (v522 : IVec S16 32) : Prop :=
  (∀ a x, ((![v522, v96] : Fin 2 → IVec S16 32) a x).toNat < S128x256.size a)
theorem k0_idx106_inb : ∀ (v96 : IVec S16 32) (v522 : IVec S16 32) (k0_hw106 : k0_chk106 v96 v522), ∀ a x, ((![v522, v96] : Fin 2 → IVec S16 32) a x).toNat < S128x256.size a := fun v96 v522 k0_hw106 => k0_hw106

def k0_chk107 (v96 : IVec S16 32) (v525 : IVec S16 32) : Prop :=
  (∀ a x, ((![v525, v96] : Fin 2 → IVec S16 32) a x).toNat < S128x256.size a)
theorem k0_idx107_inb : ∀ (v96 : IVec S16 32) (v525 : IVec S16 32) (k0_hw107 : k0_chk107 v96 v525), ∀ a x, ((![v525, v96] : Fin 2 → IVec S16 32) a x).toNat < S128x256.size a := fun v96 v525 k0_hw107 => k0_hw107

def k0_chk108 (v96 : IVec S16 32) (v527 : IVec S16 32) : Prop :=
  (∀ a x, ((![v527, v96] : Fin 2 → IVec S16 32) a x).toNat < S128x256.size a)
theorem k0_idx108_inb : ∀ (v96 : IVec S16 32) (v527 : IVec S16 32) (k0_hw108 : k0_chk108 v96 v527), ∀ a x, ((![v527, v96] : Fin 2 → IVec S16 32) a x).toNat < S128x256.size a := fun v96 v527 k0_hw108 => k0_hw108
def k0_off46 (k0_t3 : Fin k0_t3_loop.trips) : Fin 2 → Nat :=
  let c9_i32_220 : BitVec 32 := 9#32
  let v540 : Index := Scalar.indexCast c9_i32_220
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_219 : BitVec 32 := 16#32
  let v539 : BitVec 32 := Scalar.muli v93 c16_i32_219
  let v541 : Index := Scalar.indexCast v539
  ![9, v541.toNat]
def k0_off47 (k0_t3 : Fin k0_t3_loop.trips) : Fin 2 → Nat :=
  let c10_i32_222 : BitVec 32 := 10#32
  let v548 : Index := Scalar.indexCast c10_i32_222
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_221 : BitVec 32 := 16#32
  let v547 : BitVec 32 := Scalar.muli v93 c16_i32_221
  let v549 : Index := Scalar.indexCast v547
  ![10, v549.toNat]
def k0_off48 (k0_t3 : Fin k0_t3_loop.trips) : Fin 2 → Nat :=
  let c11_i32_224 : BitVec 32 := 11#32
  let v556 : Index := Scalar.indexCast c11_i32_224
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_223 : BitVec 32 := 16#32
  let v555 : BitVec 32 := Scalar.muli v93 c16_i32_223
  let v557 : Index := Scalar.indexCast v555
  ![11, v557.toNat]
def k0_off49 (k0_t3 : Fin k0_t3_loop.trips) : Fin 2 → Nat :=
  let c12_i32_226 : BitVec 32 := 12#32
  let v564 : Index := Scalar.indexCast c12_i32_226
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_225 : BitVec 32 := 16#32
  let v563 : BitVec 32 := Scalar.muli v93 c16_i32_225
  let v565 : Index := Scalar.indexCast v563
  ![12, v565.toNat]
def k0_off50 (k0_t3 : Fin k0_t3_loop.trips) : Fin 2 → Nat :=
  let c13_i32_228 : BitVec 32 := 13#32
  let v572 : Index := Scalar.indexCast c13_i32_228
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_227 : BitVec 32 := 16#32
  let v571 : BitVec 32 := Scalar.muli v93 c16_i32_227
  let v573 : Index := Scalar.indexCast v571
  ![13, v573.toNat]
def k0_off51 (k0_t3 : Fin k0_t3_loop.trips) : Fin 2 → Nat :=
  let c14_i32_230 : BitVec 32 := 14#32
  let v580 : Index := Scalar.indexCast c14_i32_230
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_229 : BitVec 32 := 16#32
  let v579 : BitVec 32 := Scalar.muli v93 c16_i32_229
  let v581 : Index := Scalar.indexCast v579
  ![14, v581.toNat]
def k0_off52 (k0_t3 : Fin k0_t3_loop.trips) : Fin 2 → Nat :=
  let c15_i32_232 : BitVec 32 := 15#32
  let v588 : Index := Scalar.indexCast c15_i32_232
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_231 : BitVec 32 := 16#32
  let v587 : BitVec 32 := Scalar.muli v93 c16_i32_231
  let v589 : Index := Scalar.indexCast v587
  ![15, v589.toNat]
def k0_off53 (k0_t3 : Fin k0_t3_loop.trips) : Fin 2 → Nat :=
  let c16_i32_234 : BitVec 32 := 16#32
  let v596 : Index := Scalar.indexCast c16_i32_234
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_233 : BitVec 32 := 16#32
  let v595 : BitVec 32 := Scalar.muli v93 c16_i32_233
  let v597 : Index := Scalar.indexCast v595
  ![16, v597.toNat]
def k0_off54 (k0_t3 : Fin k0_t3_loop.trips) : Fin 2 → Nat :=
  let c17_i32_236 : BitVec 32 := 17#32
  let v604 : Index := Scalar.indexCast c17_i32_236
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_235 : BitVec 32 := 16#32
  let v603 : BitVec 32 := Scalar.muli v93 c16_i32_235
  let v605 : Index := Scalar.indexCast v603
  ![17, v605.toNat]
def k0_off55 (k0_t3 : Fin k0_t3_loop.trips) : Fin 2 → Nat :=
  let c18_i32_240 : BitVec 32 := 18#32
  let v623 : Index := Scalar.indexCast c18_i32_240
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_239 : BitVec 32 := 16#32
  let v622 : BitVec 32 := Scalar.muli v93 c16_i32_239
  let v624 : Index := Scalar.indexCast v622
  ![18, v624.toNat]
def k0_off56 (k0_t3 : Fin k0_t3_loop.trips) : Fin 2 → Nat :=
  let c19_i32_242 : BitVec 32 := 19#32
  let v634 : Index := Scalar.indexCast c19_i32_242
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_241 : BitVec 32 := 16#32
  let v633 : BitVec 32 := Scalar.muli v93 c16_i32_241
  let v635 : Index := Scalar.indexCast v633
  ![19, v635.toNat]
def k0_off57 (k0_t3 : Fin k0_t3_loop.trips) : Fin 2 → Nat :=
  let c20_i32 : BitVec 32 := 20#32
  let v645 : Index := Scalar.indexCast c20_i32
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_243 : BitVec 32 := 16#32
  let v644 : BitVec 32 := Scalar.muli v93 c16_i32_243
  let v646 : Index := Scalar.indexCast v644
  ![20, v646.toNat]
def k0_off58 (k0_t3 : Fin k0_t3_loop.trips) : Fin 2 → Nat :=
  let c21_i32 : BitVec 32 := 21#32
  let v653 : Index := Scalar.indexCast c21_i32
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_244 : BitVec 32 := 16#32
  let v652 : BitVec 32 := Scalar.muli v93 c16_i32_244
  let v654 : Index := Scalar.indexCast v652
  ![21, v654.toNat]
def k0_off59 (k0_t3 : Fin k0_t3_loop.trips) : Fin 2 → Nat :=
  let c22_i32 : BitVec 32 := 22#32
  let v664 : Index := Scalar.indexCast c22_i32
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_245 : BitVec 32 := 16#32
  let v663 : BitVec 32 := Scalar.muli v93 c16_i32_245
  let v665 : Index := Scalar.indexCast v663
  ![22, v665.toNat]
def k0_off60 (k0_t3 : Fin k0_t3_loop.trips) : Fin 2 → Nat :=
  let c23_i32 : BitVec 32 := 23#32
  let v675 : Index := Scalar.indexCast c23_i32
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_246 : BitVec 32 := 16#32
  let v674 : BitVec 32 := Scalar.muli v93 c16_i32_246
  let v676 : Index := Scalar.indexCast v674
  ![23, v676.toNat]
def k0_off61 (k0_t3 : Fin k0_t3_loop.trips) : Fin 2 → Nat :=
  let c24_i32 : BitVec 32 := 24#32
  let v686 : Index := Scalar.indexCast c24_i32
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_247 : BitVec 32 := 16#32
  let v685 : BitVec 32 := Scalar.muli v93 c16_i32_247
  let v687 : Index := Scalar.indexCast v685
  ![24, v687.toNat]
def k0_off62 (k0_t3 : Fin k0_t3_loop.trips) : Fin 2 → Nat :=
  let c25_i32 : BitVec 32 := 25#32
  let v697 : Index := Scalar.indexCast c25_i32
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_248 : BitVec 32 := 16#32
  let v696 : BitVec 32 := Scalar.muli v93 c16_i32_248
  let v698 : Index := Scalar.indexCast v696
  ![25, v698.toNat]
def k0_off63 (k0_t3 : Fin k0_t3_loop.trips) : Fin 2 → Nat :=
  let c26_i32 : BitVec 32 := 26#32
  let v708 : Index := Scalar.indexCast c26_i32
  let c0_i32_72 : BitVec 32 := 0#32
  let c0_i32_60 : BitVec 32 := 0#32
  let c1_i32_62 : BitVec 32 := 1#32
  let arg15 : BitVec 32 := Scf.iv c0_i32_60 c1_i32_62 k0_t3
  let c1_i32_71 : BitVec 32 := 1#32
  let v92 : BitVec 32 := Scalar.muli arg15 c1_i32_71
  let v93 : BitVec 32 := Scalar.addi c0_i32_72 v92
  let c16_i32_249 : BitVec 32 := 16#32
  let v707 : BitVec 32 := Scalar.muli v93 c16_i32_249
  let v709 : Index := Scalar.indexCast v707
  ![26, v709.toNat]
def k0_cond4 (k0_t1 : Fin k0_t1_loop.trips) : BitVec 1 :=
  let c0_i32_34 : BitVec 32 := 0#32
  let c0_i32_21 : BitVec 32 := 0#32
  let c1_i32_23 : BitVec 32 := 1#32
  let arg14 : BitVec 32 := Scf.iv c0_i32_21 c1_i32_23 k0_t1
  let c2_i32_33 : BitVec 32 := 2#32
  let v52 : BitVec 32 := Scalar.muli arg14 c2_i32_33
  let v53 : BitVec 32 := Scalar.addi c0_i32_34 v52
  let c1_i32_53 : BitVec 32 := 1#32
  let v73 : BitVec 32 := Scalar.addi v53 c1_i32_53
  let c2_i32_68 : BitVec 32 := 2#32
  let v88 : BitVec 32 := Scalar.addi v73 c2_i32_68
  let c16_i32_69 : BitVec 32 := 16#32
  let v89 : BitVec 1 := Scalar.cmpi .slt v88 c16_i32_69
  let v90 : BitVec 32 := Scalar.extui v89
  let c0_i32_70 : BitVec 32 := 0#32
  let v91 : BitVec 1 := Scalar.cmpi .ne v90 c0_i32_70
  v91

def k0_off64 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_72 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c0_i32_34 : BitVec 32 := 0#32
  let c0_i32_21 : BitVec 32 := 0#32
  let c1_i32_23 : BitVec 32 := 1#32
  let arg14 : BitVec 32 := Scf.iv c0_i32_21 c1_i32_23 k0_t1
  let c2_i32_33 : BitVec 32 := 2#32
  let v52 : BitVec 32 := Scalar.muli arg14 c2_i32_33
  let v53 : BitVec 32 := Scalar.addi c0_i32_34 v52
  let c1_i32_53 : BitVec 32 := 1#32
  let v73 : BitVec 32 := Scalar.addi v53 c1_i32_53
  let c2_i32_71 : BitVec 32 := 2#32
  let v92 : BitVec 32 := Scalar.addi v73 c2_i32_71
  let v93 : BitVec 32 := Scalar.addi v29 v92
  let c0_i32_73 : BitVec 32 := 0#32
  ![v18.toNat, 0, v93.toNat, 0]
def k0_off65 (i : grid0.Coords) (c14_i32 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c0_i32_25 : BitVec 32 := 0#32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let v42 : BitVec 32 := Scalar.addi v29 c14_i32
  let c0_i32_26 : BitVec 32 := 0#32
  ![v18.toNat, 0, v42.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x128x128x256 : Shape := ⟨4, ![4, 128, 128, 256]⟩
abbrev S_ : Shape := ⟨0, ![]⟩
abbrev S4x1x128x256 : Shape := ⟨4, ![4, 1, 128, 256]⟩
abbrev S4x64x2x128x256 : Shape := ⟨5, ![4, 64, 2, 128, 256]⟩
abbrev S4x64x128x256 : Shape := ⟨4, ![4, 64, 128, 256]⟩
abbrev S4x32x2x128x256 : Shape := ⟨5, ![4, 32, 2, 128, 256]⟩
abbrev S4x32x128x256 : Shape := ⟨4, ![4, 32, 128, 256]⟩
abbrev S9 : Shape := ⟨1, ![9]⟩
abbrev S1x9x1x1 : Shape := ⟨4, ![1, 9, 1, 1]⟩
abbrev S4x9x128x256 : Shape := ⟨4, ![4, 9, 128, 256]⟩
abbrev S4x9x128x256x1 : Shape := ⟨5, ![4, 9, 128, 256, 1]⟩
abbrev S1 : Shape := ⟨1, ![1]⟩
abbrev S1x1x1x1x1 : Shape := ⟨5, ![1, 1, 1, 1, 1]⟩
abbrev S4x27x128x256 : Shape := ⟨4, ![4, 27, 128, 256]⟩

abbrev nBuf : Space → Nat
  | .hbm => 319
  | .vmem => 0
  | .smem => 0
  | _ => 0

abbrev hbmTy0_0 (i : Nat) : BufTy := match i % 128 with
  | 0 => ⟨S4x128x128x256, .f32⟩
  | 1 => ⟨S_, .i32⟩
  | 2 => ⟨S4x1x128x256, .f32⟩
  | 3 => ⟨S4x64x2x128x256, .f32⟩
  | 4 => ⟨S_, .f32⟩
  | 5 => ⟨S4x64x128x256, .f32⟩
  | 6 => ⟨S_, .f32⟩
  | 7 => ⟨S4x64x128x256, .f32⟩
  | 8 => ⟨S4x64x128x256, .f32⟩
  | 9 => ⟨S4x32x2x128x256, .f32⟩
  | 10 => ⟨S_, .f32⟩
  | 11 => ⟨S4x32x128x256, .f32⟩
  | 12 => ⟨S_, .f32⟩
  | 13 => ⟨S4x32x128x256, .f32⟩
  | 14 => ⟨S4x32x128x256, .f32⟩
  | 15 => ⟨S_, .f32⟩
  | 16 => ⟨S4x1x128x256, .f32⟩
  | 17 => ⟨S4x1x128x256, .f32⟩
  | 18 => ⟨S_, .f32⟩
  | 19 => ⟨S4x1x128x256, .f32⟩
  | 20 => ⟨S4x1x128x256, .f32⟩
  | 21 => ⟨S_, .f32⟩
  | 22 => ⟨S4x1x128x256, .f32⟩
  | 23 => ⟨S4x1x128x256, .f32⟩
  | 24 => ⟨S_, .f32⟩
  | 25 => ⟨S4x1x128x256, .f32⟩
  | 26 => ⟨S4x1x128x256, .f32⟩
  | 27 => ⟨S4x1x128x256, .f32⟩
  | 28 => ⟨S_, .f32⟩
  | 29 => ⟨S4x1x128x256, .f32⟩
  | 30 => ⟨S4x1x128x256, .f32⟩
  | 31 => ⟨S_, .f32⟩
  | 32 => ⟨S4x1x128x256, .f32⟩
  | 33 => ⟨S4x1x128x256, .f32⟩
  | 34 => ⟨S9, .f32⟩
  | 35 => ⟨S1x9x1x1, .f32⟩
  | 36 => ⟨S4x9x128x256, .f32⟩
  | 37 => ⟨S4x9x128x256, .f32⟩
  | 38 => ⟨S4x9x128x256, .f32⟩
  | 39 => ⟨S4x9x128x256, .f32⟩
  | 40 => ⟨S4x9x128x256, .f32⟩
  | 41 => ⟨S4x9x128x256, .f32⟩
  | 42 => ⟨S4x9x128x256, .f32⟩
  | 43 => ⟨S4x9x128x256, .f32⟩
  | 44 => ⟨S_, .i32⟩
  | 45 => ⟨S_, .i32⟩
  | 46 => ⟨S_, .f32⟩
  | 47 => ⟨S4x9x128x256, .f32⟩
  | 48 => ⟨S4x9x128x256, .f32⟩
  | 49 => ⟨S_, .f32⟩
  | 50 => ⟨S4x9x128x256, .f32⟩
  | 51 => ⟨S4x9x128x256, .f32⟩
  | 52 => ⟨S4x9x128x256, .f32⟩
  | 53 => ⟨S4x9x128x256, .f32⟩
  | 54 => ⟨S4x9x128x256, .f32⟩
  | 55 => ⟨S_, .i32⟩
  | 56 => ⟨S_, .i32⟩
  | 57 => ⟨S_, .f32⟩
  | 58 => ⟨S4x9x128x256, .f32⟩
  | 59 => ⟨S4x9x128x256, .f32⟩
  | 60 => ⟨S_, .f32⟩
  | 61 => ⟨S4x9x128x256, .f32⟩
  | 62 => ⟨S4x9x128x256, .f32⟩
  | 63 => ⟨S4x9x128x256, .f32⟩
  | 64 => ⟨S_, .f32⟩
  | 65 => ⟨S4x9x128x256, .f32⟩
  | 66 => ⟨S4x9x128x256, .f32⟩
  | 67 => ⟨S4x9x128x256, .i32⟩
  | 68 => ⟨S4x9x128x256, .i32⟩
  | 69 => ⟨S_, .i32⟩
  | 70 => ⟨S4x9x128x256, .i32⟩
  | 71 => ⟨S4x9x128x256, .i1⟩
  | 72 => ⟨S_, .i32⟩
  | 73 => ⟨S4x9x128x256, .i32⟩
  | 74 => ⟨S4x9x128x256, .i32⟩
  | 75 => ⟨S4x9x128x256, .i32⟩
  | 76 => ⟨S4x9x128x256x1, .i32⟩
  | 77 => ⟨S1, .i32⟩
  | 78 => ⟨S_, .i32⟩
  | 79 => ⟨S4x9x128x256x1, .i32⟩
  | 80 => ⟨S4x9x128x256x1, .i1⟩
  | 81 => ⟨S1x1x1x1x1, .i32⟩
  | 82 => ⟨S4x9x128x256x1, .i32⟩
  | 83 => ⟨S4x9x128x256x1, .i1⟩
  | 84 => ⟨S4x9x128x256x1, .i1⟩
  | 85 => ⟨S_, .i1⟩
  | 86 => ⟨S4x9x128x256, .i1⟩
  | 87 => ⟨S4x9x128x256, .f32⟩
  | 88 => ⟨S_, .f32⟩
  | 89 => ⟨S4x9x128x256, .f32⟩
  | 90 => ⟨S4x9x128x256, .f32⟩
  | 91 => ⟨S_, .i32⟩
  | 92 => ⟨S4x9x128x256, .i32⟩
  | 93 => ⟨S4x9x128x256, .i1⟩
  | 94 => ⟨S_, .i32⟩
  | 95 => ⟨S4x9x128x256, .i32⟩
  | 96 => ⟨S4x9x128x256, .i32⟩
  | 97 => ⟨S4x9x128x256, .i32⟩
  | 98 => ⟨S4x9x128x256x1, .i32⟩
  | 99 => ⟨S1, .i32⟩
  | 100 => ⟨S_, .i32⟩
  | 101 => ⟨S4x9x128x256x1, .i32⟩
  | 102 => ⟨S4x9x128x256x1, .i1⟩
  | 103 => ⟨S1x1x1x1x1, .i32⟩
  | 104 => ⟨S4x9x128x256x1, .i32⟩
  | 105 => ⟨S4x9x128x256x1, .i1⟩
  | 106 => ⟨S4x9x128x256x1, .i1⟩
  | 107 => ⟨S_, .i1⟩
  | 108 => ⟨S4x9x128x256, .i1⟩
  | 109 => ⟨S4x9x128x256, .f32⟩
  | 110 => ⟨S_, .f32⟩
  | 111 => ⟨S4x9x128x256, .f32⟩
  | 112 => ⟨S4x9x128x256, .f32⟩
  | 113 => ⟨S4x9x128x256, .f32⟩
  | 114 => ⟨S4x9x128x256, .f32⟩
  | 115 => ⟨S4x9x128x256, .f32⟩
  | 116 => ⟨S_, .f32⟩
  | 117 => ⟨S4x1x128x256, .f32⟩
  | 118 => ⟨S4x1x128x256, .f32⟩
  | 119 => ⟨S_, .f32⟩
  | 120 => ⟨S4x1x128x256, .f32⟩
  | 121 => ⟨S4x1x128x256, .f32⟩
  | 122 => ⟨S_, .f32⟩
  | 123 => ⟨S4x1x128x256, .f32⟩
  | 124 => ⟨S4x1x128x256, .f32⟩
  | 125 => ⟨S_, .f32⟩
  | 126 => ⟨S4x1x128x256, .f32⟩
  | 127 => ⟨S4x1x128x256, .f32⟩
  | _ => ⟨S4x128x128x256, .f32⟩

abbrev hbmTy0_1 (i : Nat) : BufTy := match i % 128 with
  | 0 => ⟨S4x1x128x256, .f32⟩
  | 1 => ⟨S_, .f32⟩
  | 2 => ⟨S4x1x128x256, .f32⟩
  | 3 => ⟨S4x1x128x256, .f32⟩
  | 4 => ⟨S_, .f32⟩
  | 5 => ⟨S4x1x128x256, .f32⟩
  | 6 => ⟨S4x1x128x256, .f32⟩
  | 7 => ⟨S9, .f32⟩
  | 8 => ⟨S1x9x1x1, .f32⟩
  | 9 => ⟨S4x9x128x256, .f32⟩
  | 10 => ⟨S4x9x128x256, .f32⟩
  | 11 => ⟨S4x9x128x256, .f32⟩
  | 12 => ⟨S4x9x128x256, .f32⟩
  | 13 => ⟨S4x9x128x256, .f32⟩
  | 14 => ⟨S4x9x128x256, .f32⟩
  | 15 => ⟨S4x9x128x256, .f32⟩
  | 16 => ⟨S4x9x128x256, .f32⟩
  | 17 => ⟨S_, .i32⟩
  | 18 => ⟨S_, .i32⟩
  | 19 => ⟨S_, .f32⟩
  | 20 => ⟨S4x9x128x256, .f32⟩
  | 21 => ⟨S4x9x128x256, .f32⟩
  | 22 => ⟨S_, .f32⟩
  | 23 => ⟨S4x9x128x256, .f32⟩
  | 24 => ⟨S4x9x128x256, .f32⟩
  | 25 => ⟨S4x9x128x256, .f32⟩
  | 26 => ⟨S4x9x128x256, .f32⟩
  | 27 => ⟨S4x9x128x256, .f32⟩
  | 28 => ⟨S_, .i32⟩
  | 29 => ⟨S_, .i32⟩
  | 30 => ⟨S_, .f32⟩
  | 31 => ⟨S4x9x128x256, .f32⟩
  | 32 => ⟨S4x9x128x256, .f32⟩
  | 33 => ⟨S_, .f32⟩
  | 34 => ⟨S4x9x128x256, .f32⟩
  | 35 => ⟨S4x9x128x256, .f32⟩
  | 36 => ⟨S4x9x128x256, .f32⟩
  | 37 => ⟨S_, .f32⟩
  | 38 => ⟨S4x9x128x256, .f32⟩
  | 39 => ⟨S4x9x128x256, .f32⟩
  | 40 => ⟨S4x9x128x256, .i32⟩
  | 41 => ⟨S4x9x128x256, .i32⟩
  | 42 => ⟨S_, .i32⟩
  | 43 => ⟨S4x9x128x256, .i32⟩
  | 44 => ⟨S4x9x128x256, .i1⟩
  | 45 => ⟨S_, .i32⟩
  | 46 => ⟨S4x9x128x256, .i32⟩
  | 47 => ⟨S4x9x128x256, .i32⟩
  | 48 => ⟨S4x9x128x256, .i32⟩
  | 49 => ⟨S4x9x128x256x1, .i32⟩
  | 50 => ⟨S1, .i32⟩
  | 51 => ⟨S_, .i32⟩
  | 52 => ⟨S4x9x128x256x1, .i32⟩
  | 53 => ⟨S4x9x128x256x1, .i1⟩
  | 54 => ⟨S1x1x1x1x1, .i32⟩
  | 55 => ⟨S4x9x128x256x1, .i32⟩
  | 56 => ⟨S4x9x128x256x1, .i1⟩
  | 57 => ⟨S4x9x128x256x1, .i1⟩
  | 58 => ⟨S_, .i1⟩
  | 59 => ⟨S4x9x128x256, .i1⟩
  | 60 => ⟨S4x9x128x256, .f32⟩
  | 61 => ⟨S_, .f32⟩
  | 62 => ⟨S4x9x128x256, .f32⟩
  | 63 => ⟨S4x9x128x256, .f32⟩
  | 64 => ⟨S_, .i32⟩
  | 65 => ⟨S4x9x128x256, .i32⟩
  | 66 => ⟨S4x9x128x256, .i1⟩
  | 67 => ⟨S_, .i32⟩
  | 68 => ⟨S4x9x128x256, .i32⟩
  | 69 => ⟨S4x9x128x256, .i32⟩
  | 70 => ⟨S4x9x128x256, .i32⟩
  | 71 => ⟨S4x9x128x256x1, .i32⟩
  | 72 => ⟨S1, .i32⟩
  | 73 => ⟨S_, .i32⟩
  | 74 => ⟨S4x9x128x256x1, .i32⟩
  | 75 => ⟨S4x9x128x256x1, .i1⟩
  | 76 => ⟨S1x1x1x1x1, .i32⟩
  | 77 => ⟨S4x9x128x256x1, .i32⟩
  | 78 => ⟨S4x9x128x256x1, .i1⟩
  | 79 => ⟨S4x9x128x256x1, .i1⟩
  | 80 => ⟨S_, .i1⟩
  | 81 => ⟨S4x9x128x256, .i1⟩
  | 82 => ⟨S4x9x128x256, .f32⟩
  | 83 => ⟨S_, .f32⟩
  | 84 => ⟨S4x9x128x256, .f32⟩
  | 85 => ⟨S4x9x128x256, .f32⟩
  | 86 => ⟨S4x9x128x256, .f32⟩
  | 87 => ⟨S4x9x128x256, .f32⟩
  | 88 => ⟨S4x9x128x256, .f32⟩
  | 89 => ⟨S_, .f32⟩
  | 90 => ⟨S4x1x128x256, .f32⟩
  | 91 => ⟨S4x1x128x256, .f32⟩
  | 92 => ⟨S_, .f32⟩
  | 93 => ⟨S4x1x128x256, .f32⟩
  | 94 => ⟨S4x1x128x256, .f32⟩
  | 95 => ⟨S_, .f32⟩
  | 96 => ⟨S4x1x128x256, .f32⟩
  | 97 => ⟨S4x1x128x256, .f32⟩
  | 98 => ⟨S_, .f32⟩
  | 99 => ⟨S4x1x128x256, .f32⟩
  | 100 => ⟨S4x1x128x256, .f32⟩
  | 101 => ⟨S4x1x128x256, .f32⟩
  | 102 => ⟨S_, .f32⟩
  | 103 => ⟨S4x1x128x256, .f32⟩
  | 104 => ⟨S4x1x128x256, .f32⟩
  | 105 => ⟨S_, .f32⟩
  | 106 => ⟨S4x1x128x256, .f32⟩
  | 107 => ⟨S4x1x128x256, .f32⟩
  | 108 => ⟨S9, .f32⟩
  | 109 => ⟨S1x9x1x1, .f32⟩
  | 110 => ⟨S4x9x128x256, .f32⟩
  | 111 => ⟨S4x9x128x256, .f32⟩
  | 112 => ⟨S4x9x128x256, .f32⟩
  | 113 => ⟨S4x9x128x256, .f32⟩
  | 114 => ⟨S4x9x128x256, .f32⟩
  | 115 => ⟨S4x9x128x256, .f32⟩
  | 116 => ⟨S4x9x128x256, .f32⟩
  | 117 => ⟨S4x9x128x256, .f32⟩
  | 118 => ⟨S_, .i32⟩
  | 119 => ⟨S_, .i32⟩
  | 120 => ⟨S_, .f32⟩
  | 121 => ⟨S4x9x128x256, .f32⟩
  | 122 => ⟨S4x9x128x256, .f32⟩
  | 123 => ⟨S_, .f32⟩
  | 124 => ⟨S4x9x128x256, .f32⟩
  | 125 => ⟨S4x9x128x256, .f32⟩
  | 126 => ⟨S4x9x128x256, .f32⟩
  | 127 => ⟨S4x9x128x256, .f32⟩
  | _ => ⟨S4x128x128x256, .f32⟩

abbrev hbmTy0_2 (i : Nat) : BufTy := match i % 128 with
  | 0 => ⟨S4x9x128x256, .f32⟩
  | 1 => ⟨S_, .i32⟩
  | 2 => ⟨S_, .i32⟩
  | 3 => ⟨S_, .f32⟩
  | 4 => ⟨S4x9x128x256, .f32⟩
  | 5 => ⟨S4x9x128x256, .f32⟩
  | 6 => ⟨S_, .f32⟩
  | 7 => ⟨S4x9x128x256, .f32⟩
  | 8 => ⟨S4x9x128x256, .f32⟩
  | 9 => ⟨S4x9x128x256, .f32⟩
  | 10 => ⟨S_, .f32⟩
  | 11 => ⟨S4x9x128x256, .f32⟩
  | 12 => ⟨S4x9x128x256, .f32⟩
  | 13 => ⟨S4x9x128x256, .i32⟩
  | 14 => ⟨S4x9x128x256, .i32⟩
  | 15 => ⟨S_, .i32⟩
  | 16 => ⟨S4x9x128x256, .i32⟩
  | 17 => ⟨S4x9x128x256, .i1⟩
  | 18 => ⟨S_, .i32⟩
  | 19 => ⟨S4x9x128x256, .i32⟩
  | 20 => ⟨S4x9x128x256, .i32⟩
  | 21 => ⟨S4x9x128x256, .i32⟩
  | 22 => ⟨S4x9x128x256x1, .i32⟩
  | 23 => ⟨S1, .i32⟩
  | 24 => ⟨S_, .i32⟩
  | 25 => ⟨S4x9x128x256x1, .i32⟩
  | 26 => ⟨S4x9x128x256x1, .i1⟩
  | 27 => ⟨S1x1x1x1x1, .i32⟩
  | 28 => ⟨S4x9x128x256x1, .i32⟩
  | 29 => ⟨S4x9x128x256x1, .i1⟩
  | 30 => ⟨S4x9x128x256x1, .i1⟩
  | 31 => ⟨S_, .i1⟩
  | 32 => ⟨S4x9x128x256, .i1⟩
  | 33 => ⟨S4x9x128x256, .f32⟩
  | 34 => ⟨S_, .f32⟩
  | 35 => ⟨S4x9x128x256, .f32⟩
  | 36 => ⟨S4x9x128x256, .f32⟩
  | 37 => ⟨S_, .i32⟩
  | 38 => ⟨S4x9x128x256, .i32⟩
  | 39 => ⟨S4x9x128x256, .i1⟩
  | 40 => ⟨S_, .i32⟩
  | 41 => ⟨S4x9x128x256, .i32⟩
  | 42 => ⟨S4x9x128x256, .i32⟩
  | 43 => ⟨S4x9x128x256, .i32⟩
  | 44 => ⟨S4x9x128x256x1, .i32⟩
  | 45 => ⟨S1, .i32⟩
  | 46 => ⟨S_, .i32⟩
  | 47 => ⟨S4x9x128x256x1, .i32⟩
  | 48 => ⟨S4x9x128x256x1, .i1⟩
  | 49 => ⟨S1x1x1x1x1, .i32⟩
  | 50 => ⟨S4x9x128x256x1, .i32⟩
  | 51 => ⟨S4x9x128x256x1, .i1⟩
  | 52 => ⟨S4x9x128x256x1, .i1⟩
  | 53 => ⟨S_, .i1⟩
  | 54 => ⟨S4x9x128x256, .i1⟩
  | 55 => ⟨S4x9x128x256, .f32⟩
  | 56 => ⟨S_, .f32⟩
  | 57 => ⟨S4x9x128x256, .f32⟩
  | 58 => ⟨S4x9x128x256, .f32⟩
  | 59 => ⟨S4x9x128x256, .f32⟩
  | 60 => ⟨S4x9x128x256, .f32⟩
  | 61 => ⟨S4x9x128x256, .f32⟩
  | 62 => ⟨S4x27x128x256, .f32⟩
  | _ => ⟨S4x128x128x256, .f32⟩

abbrev hbmTy (i : Nat) : BufTy := match i / 128 with
  | 0 => hbmTy0_0 i
  | 1 => hbmTy0_1 i
  | 2 => hbmTy0_2 i
  | _ => ⟨S4x128x128x256, .f32⟩

abbrev bufTy : (tb : Table) → Fin (tcTables nBuf tb) → BufTy
  | .hbm, ⟨i, _⟩ => hbmTy i
  | _, _ => ⟨S4x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c : Ref sig .tc := ⟨.hbm, 44, rfl⟩
abbrev main_c_7 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_c_9 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v37 : Ref sig .tc := ⟨.hbm, 62, rfl⟩
abbrev main_v38 : Ref sig .tc := ⟨.hbm, 63, rfl⟩
abbrev main_cst_10 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_cst : Ref sig .tc := ⟨.hbm, 88, rfl⟩
abbrev main_call2_v14 : Ref sig .tc := ⟨.hbm, 89, rfl⟩
abbrev main_v43 : Ref sig .tc := ⟨.hbm, 90, rfl⟩
abbrev main_call3_c : Ref sig .tc := ⟨.hbm, 91, rfl⟩
abbrev main_call3_v0 : Ref sig .tc := ⟨.hbm, 92, rfl⟩
abbrev main_call3_v1 : Ref sig .tc := ⟨.hbm, 93, rfl⟩
abbrev main_call3_c_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_c_1 : Ref sig .tc := ⟨.hbm, 99, rfl⟩
abbrev main_call3_c_2 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_3 : Ref sig .tc := ⟨.hbm, 107, rfl⟩
abbrev main_call3_v12 : Ref sig .tc := ⟨.hbm, 108, rfl⟩
abbrev main_call3_v13 : Ref sig .tc := ⟨.hbm, 109, rfl⟩
abbrev main_call3_cst : Ref sig .tc := ⟨.hbm, 110, rfl⟩
abbrev main_call3_v14 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_cst_11 : Ref sig .tc := ⟨.hbm, 116, rfl⟩
abbrev main_v48 : Ref sig .tc := ⟨.hbm, 117, rfl⟩
abbrev main_v49 : Ref sig .tc := ⟨.hbm, 118, rfl⟩
abbrev main_cst_12 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_13 : Ref sig .tc := ⟨.hbm, 129, rfl⟩
abbrev main_v59 : Ref sig .tc := ⟨.hbm, 130, rfl⟩
abbrev main_v60 : Ref sig .tc := ⟨.hbm, 131, rfl⟩
abbrev main_cst_14 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_c_15 : Ref sig .tc := ⟨.hbm, 145, rfl⟩
abbrev main_c_16 : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_c_17 : Ref sig .tc := ⟨.hbm, 156, rfl⟩
abbrev main_c_18 : Ref sig .tc := ⟨.hbm, 157, rfl⟩
abbrev main_call5_v0 : Ref sig .tc := ⟨.hbm, 158, rfl⟩
abbrev main_call5_v1 : Ref sig .tc := ⟨.hbm, 159, rfl⟩
abbrev main_call5_v2 : Ref sig .tc := ⟨.hbm, 160, rfl⟩
abbrev main_call5_v3 : Ref sig .tc := ⟨.hbm, 161, rfl⟩
abbrev main_call5_v4 : Ref sig .tc := ⟨.hbm, 162, rfl⟩
abbrev main_v77 : Ref sig .tc := ⟨.hbm, 163, rfl⟩
abbrev main_v78 : Ref sig .tc := ⟨.hbm, 164, rfl⟩
abbrev main_cst_19 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_call6_c : Ref sig .tc := ⟨.hbm, 170, rfl⟩
abbrev main_call6_v0 : Ref sig .tc := ⟨.hbm, 171, rfl⟩
abbrev main_call6_v1 : Ref sig .tc := ⟨.hbm, 172, rfl⟩
abbrev main_call6_c_0 : Ref sig .tc := ⟨.hbm, 173, rfl⟩
abbrev main_call6_v2 : Ref sig .tc := ⟨.hbm, 174, rfl⟩
abbrev main_call6_v3 : Ref sig .tc := ⟨.hbm, 175, rfl⟩
abbrev main_call6_v4 : Ref sig .tc := ⟨.hbm, 176, rfl⟩
abbrev main_call6_v5 : Ref sig .tc := ⟨.hbm, 177, rfl⟩
abbrev main_call6_c_1 : Ref sig .tc := ⟨.hbm, 178, rfl⟩
abbrev main_call6_c_2 : Ref sig .tc := ⟨.hbm, 179, rfl⟩
abbrev main_call6_v6 : Ref sig .tc := ⟨.hbm, 180, rfl⟩
abbrev main_call6_v7 : Ref sig .tc := ⟨.hbm, 181, rfl⟩
abbrev main_call6_v8 : Ref sig .tc := ⟨.hbm, 182, rfl⟩
abbrev main_call6_v9 : Ref sig .tc := ⟨.hbm, 183, rfl⟩
abbrev main_call6_v10 : Ref sig .tc := ⟨.hbm, 184, rfl⟩
abbrev main_call6_v11 : Ref sig .tc := ⟨.hbm, 185, rfl⟩
abbrev main_call6_c_3 : Ref sig .tc := ⟨.hbm, 186, rfl⟩
abbrev main_call6_v12 : Ref sig .tc := ⟨.hbm, 187, rfl⟩
abbrev main_call6_v13 : Ref sig .tc := ⟨.hbm, 188, rfl⟩
abbrev main_call6_cst : Ref sig .tc := ⟨.hbm, 189, rfl⟩
abbrev main_call6_v14 : Ref sig .tc := ⟨.hbm, 190, rfl⟩
abbrev main_v83 : Ref sig .tc := ⟨.hbm, 191, rfl⟩
abbrev main_call7_c : Ref sig .tc := ⟨.hbm, 192, rfl⟩
abbrev main_call7_v0 : Ref sig .tc := ⟨.hbm, 193, rfl⟩
abbrev main_call7_v1 : Ref sig .tc := ⟨.hbm, 194, rfl⟩
abbrev main_call7_c_0 : Ref sig .tc := ⟨.hbm, 195, rfl⟩
abbrev main_call7_v2 : Ref sig .tc := ⟨.hbm, 196, rfl⟩
abbrev main_call7_v3 : Ref sig .tc := ⟨.hbm, 197, rfl⟩
abbrev main_call7_v4 : Ref sig .tc := ⟨.hbm, 198, rfl⟩
abbrev main_call7_v5 : Ref sig .tc := ⟨.hbm, 199, rfl⟩
abbrev main_call7_c_1 : Ref sig .tc := ⟨.hbm, 200, rfl⟩
abbrev main_call7_c_2 : Ref sig .tc := ⟨.hbm, 201, rfl⟩
abbrev main_call7_v6 : Ref sig .tc := ⟨.hbm, 202, rfl⟩
abbrev main_call7_v7 : Ref sig .tc := ⟨.hbm, 203, rfl⟩
abbrev main_call7_v8 : Ref sig .tc := ⟨.hbm, 204, rfl⟩
abbrev main_call7_v9 : Ref sig .tc := ⟨.hbm, 205, rfl⟩
abbrev main_call7_v10 : Ref sig .tc := ⟨.hbm, 206, rfl⟩
abbrev main_call7_v11 : Ref sig .tc := ⟨.hbm, 207, rfl⟩
abbrev main_call7_c_3 : Ref sig .tc := ⟨.hbm, 208, rfl⟩
abbrev main_call7_v12 : Ref sig .tc := ⟨.hbm, 209, rfl⟩
abbrev main_call7_v13 : Ref sig .tc := ⟨.hbm, 210, rfl⟩
abbrev main_call7_cst : Ref sig .tc := ⟨.hbm, 211, rfl⟩
abbrev main_call7_v14 : Ref sig .tc := ⟨.hbm, 212, rfl⟩
abbrev main_v84 : Ref sig .tc := ⟨.hbm, 213, rfl⟩
abbrev main_v85 : Ref sig .tc := ⟨.hbm, 214, rfl⟩
abbrev main_v86 : Ref sig .tc := ⟨.hbm, 215, rfl⟩
abbrev main_v87 : Ref sig .tc := ⟨.hbm, 216, rfl⟩
abbrev main_cst_20 : Ref sig .tc := ⟨.hbm, 217, rfl⟩
abbrev main_v88 : Ref sig .tc := ⟨.hbm, 218, rfl⟩
abbrev main_v89 : Ref sig .tc := ⟨.hbm, 219, rfl⟩
abbrev main_cst_21 : Ref sig .tc := ⟨.hbm, 220, rfl⟩
abbrev main_v90 : Ref sig .tc := ⟨.hbm, 221, rfl⟩
abbrev main_v91 : Ref sig .tc := ⟨.hbm, 222, rfl⟩
abbrev main_v92 : Ref sig .tc := ⟨.hbm, 223, rfl⟩
abbrev main_v93 : Ref sig .tc := ⟨.hbm, 224, rfl⟩
abbrev main_v94 : Ref sig .tc := ⟨.hbm, 225, rfl⟩
abbrev main_v95 : Ref sig .tc := ⟨.hbm, 226, rfl⟩
abbrev main_v96 : Ref sig .tc := ⟨.hbm, 227, rfl⟩
abbrev main_v97 : Ref sig .tc := ⟨.hbm, 228, rfl⟩
abbrev main_v98 : Ref sig .tc := ⟨.hbm, 229, rfl⟩
abbrev main_cst_22 : Ref sig .tc := ⟨.hbm, 230, rfl⟩
abbrev main_v99 : Ref sig .tc := ⟨.hbm, 231, rfl⟩
abbrev main_v100 : Ref sig .tc := ⟨.hbm, 232, rfl⟩
abbrev main_cst_23 : Ref sig .tc := ⟨.hbm, 233, rfl⟩
abbrev main_v101 : Ref sig .tc := ⟨.hbm, 234, rfl⟩
abbrev main_v102 : Ref sig .tc := ⟨.hbm, 235, rfl⟩
abbrev main_v103 : Ref sig .tc := ⟨.hbm, 236, rfl⟩
abbrev main_v104 : Ref sig .tc := ⟨.hbm, 237, rfl⟩
abbrev main_v105 : Ref sig .tc := ⟨.hbm, 238, rfl⟩
abbrev main_v106 : Ref sig .tc := ⟨.hbm, 239, rfl⟩
abbrev main_v107 : Ref sig .tc := ⟨.hbm, 240, rfl⟩
abbrev main_v108 : Ref sig .tc := ⟨.hbm, 241, rfl⟩
abbrev main_v109 : Ref sig .tc := ⟨.hbm, 242, rfl⟩
abbrev main_v110 : Ref sig .tc := ⟨.hbm, 243, rfl⟩
abbrev main_v111 : Ref sig .tc := ⟨.hbm, 244, rfl⟩
abbrev main_v112 : Ref sig .tc := ⟨.hbm, 245, rfl⟩
abbrev main_c_24 : Ref sig .tc := ⟨.hbm, 246, rfl⟩
abbrev main_c_25 : Ref sig .tc := ⟨.hbm, 247, rfl⟩
abbrev main_call8_v0 : Ref sig .tc := ⟨.hbm, 248, rfl⟩
abbrev main_call8_v1 : Ref sig .tc := ⟨.hbm, 249, rfl⟩
abbrev main_call8_v2 : Ref sig .tc := ⟨.hbm, 250, rfl⟩
abbrev main_call8_v3 : Ref sig .tc := ⟨.hbm, 251, rfl⟩
abbrev main_call8_v4 : Ref sig .tc := ⟨.hbm, 252, rfl⟩
abbrev main_v113 : Ref sig .tc := ⟨.hbm, 253, rfl⟩
abbrev main_v114 : Ref sig .tc := ⟨.hbm, 254, rfl⟩
abbrev main_v115 : Ref sig .tc := ⟨.hbm, 255, rfl⟩
abbrev main_v116 : Ref sig .tc := ⟨.hbm, 256, rfl⟩
abbrev main_c_26 : Ref sig .tc := ⟨.hbm, 257, rfl⟩
abbrev main_c_27 : Ref sig .tc := ⟨.hbm, 258, rfl⟩
abbrev main_call9_v0 : Ref sig .tc := ⟨.hbm, 259, rfl⟩
abbrev main_call9_v1 : Ref sig .tc := ⟨.hbm, 260, rfl⟩
abbrev main_call9_v2 : Ref sig .tc := ⟨.hbm, 261, rfl⟩
abbrev main_call9_v3 : Ref sig .tc := ⟨.hbm, 262, rfl⟩
abbrev main_call9_v4 : Ref sig .tc := ⟨.hbm, 263, rfl⟩
abbrev main_v117 : Ref sig .tc := ⟨.hbm, 264, rfl⟩
abbrev main_v118 : Ref sig .tc := ⟨.hbm, 265, rfl⟩
abbrev main_cst_28 : Ref sig .tc := ⟨.hbm, 266, rfl⟩
abbrev main_v119 : Ref sig .tc := ⟨.hbm, 267, rfl⟩
abbrev main_v120 : Ref sig .tc := ⟨.hbm, 268, rfl⟩
abbrev main_v121 : Ref sig .tc := ⟨.hbm, 269, rfl⟩
abbrev main_v122 : Ref sig .tc := ⟨.hbm, 270, rfl⟩
abbrev main_call10_c : Ref sig .tc := ⟨.hbm, 271, rfl⟩
abbrev main_call10_v0 : Ref sig .tc := ⟨.hbm, 272, rfl⟩
abbrev main_call10_v1 : Ref sig .tc := ⟨.hbm, 273, rfl⟩
abbrev main_call10_c_0 : Ref sig .tc := ⟨.hbm, 274, rfl⟩
abbrev main_call10_v2 : Ref sig .tc := ⟨.hbm, 275, rfl⟩
abbrev main_call10_v3 : Ref sig .tc := ⟨.hbm, 276, rfl⟩
abbrev main_call10_v4 : Ref sig .tc := ⟨.hbm, 277, rfl⟩
abbrev main_call10_v5 : Ref sig .tc := ⟨.hbm, 278, rfl⟩
abbrev main_call10_c_1 : Ref sig .tc := ⟨.hbm, 279, rfl⟩
abbrev main_call10_c_2 : Ref sig .tc := ⟨.hbm, 280, rfl⟩
abbrev main_call10_v6 : Ref sig .tc := ⟨.hbm, 281, rfl⟩
abbrev main_call10_v7 : Ref sig .tc := ⟨.hbm, 282, rfl⟩
abbrev main_call10_v8 : Ref sig .tc := ⟨.hbm, 283, rfl⟩
abbrev main_call10_v9 : Ref sig .tc := ⟨.hbm, 284, rfl⟩
abbrev main_call10_v10 : Ref sig .tc := ⟨.hbm, 285, rfl⟩
abbrev main_call10_v11 : Ref sig .tc := ⟨.hbm, 286, rfl⟩
abbrev main_call10_c_3 : Ref sig .tc := ⟨.hbm, 287, rfl⟩
abbrev main_call10_v12 : Ref sig .tc := ⟨.hbm, 288, rfl⟩
abbrev main_call10_v13 : Ref sig .tc := ⟨.hbm, 289, rfl⟩
abbrev main_call10_cst : Ref sig .tc := ⟨.hbm, 290, rfl⟩
abbrev main_call10_v14 : Ref sig .tc := ⟨.hbm, 291, rfl⟩
abbrev main_v123 : Ref sig .tc := ⟨.hbm, 292, rfl⟩
abbrev main_call11_c : Ref sig .tc := ⟨.hbm, 293, rfl⟩
abbrev main_call11_v0 : Ref sig .tc := ⟨.hbm, 294, rfl⟩
abbrev main_call11_v1 : Ref sig .tc := ⟨.hbm, 295, rfl⟩
abbrev main_call11_c_0 : Ref sig .tc := ⟨.hbm, 296, rfl⟩
abbrev main_call11_v2 : Ref sig .tc := ⟨.hbm, 297, rfl⟩
abbrev main_call11_v3 : Ref sig .tc := ⟨.hbm, 298, rfl⟩
abbrev main_call11_v4 : Ref sig .tc := ⟨.hbm, 299, rfl⟩
abbrev main_call11_v5 : Ref sig .tc := ⟨.hbm, 300, rfl⟩
abbrev main_call11_c_1 : Ref sig .tc := ⟨.hbm, 301, rfl⟩
abbrev main_call11_c_2 : Ref sig .tc := ⟨.hbm, 302, rfl⟩
abbrev main_call11_v6 : Ref sig .tc := ⟨.hbm, 303, rfl⟩
abbrev main_call11_v7 : Ref sig .tc := ⟨.hbm, 304, rfl⟩
abbrev main_call11_v8 : Ref sig .tc := ⟨.hbm, 305, rfl⟩
abbrev main_call11_v9 : Ref sig .tc := ⟨.hbm, 306, rfl⟩
abbrev main_call11_v10 : Ref sig .tc := ⟨.hbm, 307, rfl⟩
abbrev main_call11_v11 : Ref sig .tc := ⟨.hbm, 308, rfl⟩
abbrev main_call11_c_3 : Ref sig .tc := ⟨.hbm, 309, rfl⟩
abbrev main_call11_v12 : Ref sig .tc := ⟨.hbm, 310, rfl⟩
abbrev main_call11_v13 : Ref sig .tc := ⟨.hbm, 311, rfl⟩
abbrev main_call11_cst : Ref sig .tc := ⟨.hbm, 312, rfl⟩
abbrev main_call11_v14 : Ref sig .tc := ⟨.hbm, 313, rfl⟩
abbrev main_v124 : Ref sig .tc := ⟨.hbm, 314, rfl⟩
abbrev main_v125 : Ref sig .tc := ⟨.hbm, 315, rfl⟩
abbrev main_v126 : Ref sig .tc := ⟨.hbm, 316, rfl⟩
abbrev main_v127 : Ref sig .tc := ⟨.hbm, 317, rfl⟩
abbrev main_v128 : Ref sig .tc := ⟨.hbm, 318, rfl⟩

abbrev nD : Nat := 1
abbrev τ : Topo := Topo.v7x

variable {F : FTy → Type} [FloatOps F]
-- ==== Proof.Sc.Values.lean ====
/- What one cell of the kernel's result holds, as a function of one column of the cost volume and one disparity:
   the three levels of nine samples, with exactly the scalar operations of the kernel's program. Everything the
   kernel computes is lane by lane, so these scalar functions are the whole arithmetic of the kernel. -/
module

public import proofs.«01_k».proof.Proof.Gen.KernelIdeal
public import Idealize.ShloMosaic.Lib.ValueIdxCore

@[expose] public section

set_option maxRecDepth 16384

noncomputable section

namespace Cert.Proof.Sc

open Idealize.ShloMosaic Idealize.ShloMosaic.ValueIdx Cert.KernelIdeal

variable {F : FTy → Type} [FloatOps F]

/-- The constants 1, 1/2 and 1/4. -/
abbrev one : F .f32 := Scalar.ofBits .f32 0x3F800000#32
abbrev half : F .f32 := Scalar.ofBits .f32 0x3F000000#32
abbrev quarter : F .f32 := Scalar.ofBits .f32 0x3E800000#32

/-! ## Level 0 -/

/-- The integer part of the disparity. -/
def t0 (d : F .f32) : BitVec 32 := FloatOps.fptosi 32 d
/-- The fractional part of the disparity. -/
def fr0 (d : F .f32) : F .f32 := FloatOps.subf d (FloatOps.sitofp .f32 (t0 d))
/-- The row of the volume that tap `j` of level 0 reads: the integer part moved by `j - 4`, clipped to `0 … 127`. -/
def row0 (d : F .f32) (j : ℕ) : BitVec 32 :=
  IntOp.minsi 127#32 (IntOp.maxsi 0#32 (IntOp.addi (IntOp.subi (t0 d) 4#32) (BitVec.ofNat 32 j)))
/-- Tap `j` of level 0. -/
def s0 (c : ℕ → F .f32) (d : F .f32) (j : ℕ) : F .f32 := c (row0 d j).toNat
/-- The weight of the left tap of level 0. -/
def w0a (d : F .f32) : F .f32 := FloatOps.subf one (fr0 d)
/-- Sample `j` of level 0. -/
def lvl0 (c : ℕ → F .f32) (d : F .f32) (j : ℕ) : F .f32 :=
  FloatOps.addf (FloatOps.mulf (w0a d) (s0 c d j)) (FloatOps.mulf (fr0 d) (s0 c d (j + 1)))

/-! ## The sums of pairs of rows -/

/-- The integer and the fractional part of half the disparity. -/
def t1 (d : F .f32) : BitVec 32 := FloatOps.fptosi 32 (FloatOps.mulf d half)
def fr1 (d : F .f32) : F .f32 := FloatOps.subf (FloatOps.mulf d half) (FloatOps.sitofp .f32 (t1 d))
/-- The integer and the fractional part of a quarter of the disparity. -/
def t2 (d : F .f32) : BitVec 32 := FloatOps.fptosi 32 (FloatOps.mulf d quarter)
def fr2 (d : F .f32) : F .f32 := FloatOps.subf (FloatOps.mulf d quarter) (FloatOps.sitofp .f32 (t2 d))
/-- The first pair of the twenty the kernel sums. -/
def qb (d : F .f32) : BitVec 32 := IntOp.subi (IntOp.muli 2#32 (t2 d)) 8#32
/-- Whether level 1 starts at the sixth of the twenty pairs rather than the fifth. -/
def emask (d : F .f32) : BitVec 1 := IntOp.cmpi .eq (IntOp.subi (IntOp.subi (t1 d) 4#32) (qb d)) 5#32
/-- The first row of pair `k`: the pair clipped to `0 … 63`, doubled. -/
def prow (d : F .f32) (k : ℕ) : BitVec 32 :=
  IntOp.shli .vector (IntOp.minsi 63#32 (IntOp.maxsi 0#32 (IntOp.addi (qb d) (BitVec.ofNat 32 k)))) 1#32
/-- The sum of the two rows of pair `k`. -/
def pr (c : ℕ → F .f32) (d : F .f32) (k : ℕ) : F .f32 :=
  FloatOps.addf (c (prow d k).toNat) (c (IntOp.addi (prow d k) 1#32).toNat)
/-- The sums of pair 62 and of pair 1. -/
def p62 (c : ℕ → F .f32) : F .f32 := FloatOps.addf (c (124#32).toNat) (c (125#32).toNat)
def p1 (c : ℕ → F .f32) : F .f32 := FloatOps.addf (c (2#32).toNat) (c (3#32).toNat)

/-! ## Level 1 -/

/-- Tap `j` of level 1 (a sum of two rows). -/
def s1 (c : ℕ → F .f32) (d : F .f32) (j : ℕ) : F .f32 := Scalar.select (emask d) (pr c d (5 + j)) (pr c d (4 + j))
/-- The weights of the right and of the left tap of level 1. -/
def w1b (d : F .f32) : F .f32 := FloatOps.mulf (fr1 d) half
def w0b (d : F .f32) : F .f32 := FloatOps.subf half (w1b d)
/-- Sample `j` of level 1. -/
def lvl1 (c : ℕ → F .f32) (d : F .f32) (j : ℕ) : F .f32 :=
  FloatOps.addf (FloatOps.mulf (w0b d) (s1 c d j)) (FloatOps.mulf (w1b d) (s1 c d (j + 1)))

/-! ## Level 2 -/

/-- The even pair of tap `j` of level 2: pair 62 where the tap is clipped above. -/
def ev (c : ℕ → F .f32) (d : F .f32) (j : ℕ) : F .f32 :=
  if 5 ≤ j then Scalar.select (IntOp.cmpi .sge (qb d) (BitVec.ofNat 32 (63 - 2 * j))) (p62 c) (pr c d (2 * j)) else pr c d (2 * j)
/-- The odd pair of tap `j` of level 2: pair 1 where the tap is clipped below. -/
def od (c : ℕ → F .f32) (d : F .f32) (j : ℕ) : F .f32 :=
  if j ≤ 3 then Scalar.select (IntOp.cmpi .sle (qb d) (BitVec.ofNat 32 (4294967295 - 2 * j))) (p1 c) (pr c d (2 * j + 1)) else pr c d (2 * j + 1)
/-- Tap `j` of level 2 (a sum of four rows). -/
def s2 (c : ℕ → F .f32) (d : F .f32) (j : ℕ) : F .f32 := FloatOps.addf (ev c d j) (od c d j)
/-- The weights of the right and of the left tap of level 2. -/
def w1c (d : F .f32) : F .f32 := FloatOps.mulf (fr2 d) quarter
def w0c (d : F .f32) : F .f32 := FloatOps.subf quarter (w1c d)
/-- Sample `j` of level 2. -/
def lvl2 (c : ℕ → F .f32) (d : F .f32) (j : ℕ) : F .f32 :=
  FloatOps.addf (FloatOps.mulf (w0c d) (s2 c d j)) (FloatOps.mulf (w1c d) (s2 c d (j + 1)))

/-- Channel `n` of the result: level `n / 9`, sample `n % 9`. -/
def outS (c : ℕ → F .f32) (d : F .f32) (n : ℕ) : F .f32 :=
  if n < 9 then lvl0 c d n else if n < 18 then lvl1 c d (n - 9) else lvl2 c d (n - 18)

/-- Column `w` of a block of 128 rows of 256, by row number. -/
def colOf (A : S128x256.Idx → F .f32) (w n : ℕ) : F .f32 :=
  A (ix2 (⟨n % 128, Nat.mod_lt _ (by decide)⟩ : Fin 128) (⟨w % 256, Nat.mod_lt _ (by decide)⟩ : Fin 256))

/-- Entry `(k, w)` of the block of sixteen rows of disparities. -/
def dispOf (D : S16x256.Idx → F .f32) (k w : ℕ) : F .f32 :=
  D (ix2 (⟨k % 16, Nat.mod_lt _ (by decide)⟩ : Fin 16) (⟨w % 256, Nat.mod_lt _ (by decide)⟩ : Fin 256))

/-! ## The rows read are rows of the block -/

omit [FloatOps F] in
/-- A number clipped between 0 and `m` is at most `m`. -/
theorem clip_le (m x : BitVec 32) (hm : m.toNat < 2 ^ 31) : (IntOp.minsi m (IntOp.maxsi 0#32 x)).toNat ≤ m.toNat := by
  have h0 := BitVec.toInt_eq_toNat_cond m
  have hx := BitVec.toInt_eq_toNat_cond x
  have hxl := x.isLt
  have hz : (0#32).toInt = 0 := rfl
  unfold IntOp.minsi
  by_cases h1 : (m.slt (IntOp.maxsi 0#32 x)) = true
  · rw [if_pos h1]
  · rw [if_neg h1]
    unfold IntOp.maxsi at h1 ⊢
    by_cases h2 : (x.slt 0#32) = true
    · rw [if_pos h2]; exact Nat.zero_le _
    · rw [if_neg h2] at h1 ⊢
      simp only [BitVec.slt, decide_eq_true_eq, hz] at h1 h2
      split_ifs at h0 hx <;> omega

/-- Level 0 reads rows below 128. -/
theorem row0_lt (d : F .f32) (j : ℕ) : (row0 d j).toNat < 128 :=
  lt_of_le_of_lt (clip_le 127#32 _ (by decide)) (by decide)

omit [FloatOps F] in
/-- Doubling a number of at most 63 does not overflow. -/
theorem shl_one (x : BitVec 32) (hx : x.toNat ≤ 63) : (IntOp.shli .vector x 1#32).toNat = 2 * x.toNat := by
  unfold IntOp.shli
  simp only [show (1#32).toNat < 32 from by decide, if_true]
  rw [show (x <<< (1#32)) = x <<< (1 : ℕ) from rfl, BitVec.toNat_shiftLeft, Nat.shiftLeft_eq]
  omega

/-- A pair's first row is even and below 127. -/
theorem prow_le (d : F .f32) (k : ℕ) : (prow d k).toNat ≤ 126 := by
  have h := clip_le 63#32 (IntOp.addi (qb d) (BitVec.ofNat 32 k)) (by decide)
  have h' : (IntOp.minsi 63#32 (IntOp.maxsi 0#32 (IntOp.addi (qb d) (BitVec.ofNat 32 k)))).toNat ≤ 63 := h
  unfold prow
  rw [shl_one _ h']; omega
theorem prow_lt (d : F .f32) (k : ℕ) : (prow d k).toNat < 128 := by have := prow_le d k; omega
/-- A pair's second row is the next one. -/
theorem prow_succ (d : F .f32) (k : ℕ) : (IntOp.addi (prow d k) 1#32).toNat = (prow d k).toNat + 1 := by
  have := prow_le d k
  show (prow d k + 1#32).toNat = _
  rw [BitVec.toNat_add]
  show ((prow d k).toNat + 1) % 2 ^ 32 = _
  omega
theorem prow_succ_lt (d : F .f32) (k : ℕ) : (IntOp.addi (prow d k) 1#32).toNat < 128 := by
  rw [prow_succ]; have := prow_le d k; omega

end Cert.Proof.Sc
-- ==== Proof.Sc.Setup.lean ====
/- The program as the launch theorem of SparseCore kernels sees it, the resource algebra of the proof, and the thread
   a pair of kernel coordinates names. -/
module

public import Idealize.ShloMosaic.Lib.SparseCore.Quiescent
public import Idealize.ShloMosaic.Lib.SparseCore.Ops
public import Idealize.ShloMosaic.Lib.Pipeline.Kit
public import Idealize.ShloMosaic.Lib.Tactic
public import proofs.«01_k».proof.Proof.Sc.Values

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.Sem
open Idealize.ShloMosaic.Rounds

variable {F : FTy → Type}

/-- The labels, the SparseCore launch, the program's definitions and the termination variants. -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions: its semaphores are distinct and outlive the tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The resource algebra: the handshakes' rounds beside the transfers' counters. -/
abbrev UH : Type := URounds (GSem nD τ sig) ℕ
abbrev UU : Type := UH × Counters
abbrev EH : Emb UH (MT nD τ sig (HIx 1) (Elt F) ℕ UU ℕ) := embL

/-- The SparseCore and the tile of a pair of kernel coordinates, and the thread they name on device `d`. -/
abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

end Cert.Proof.Sc
-- ==== Proof.Sc.Rules.lean ====
/- The steps of one trip of the kernel's inner loop: a group of sixteen lanes of one row. Each rule steps one operation
   of the program over the tile's three buffers — the column block `A`, the disparity block `D`, the result block — and
   says which cells of the result block are done. -/
module

public import proofs.«01_k».proof.Proof.Sc.Setup
public import Idealize.ShloMosaic.Lib.WritesUnit
public import Idealize.ShloMosaic.Lib.VecWindow
public import Idealize.ShloMosaic.Lib.ValueLayout

@[expose] public section

set_option maxRecDepth 16384

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The lanes of a group -/

/-- The columns the sixteen lanes of group `g` read, as the kernel's index vector. -/
def colv (g : ℕ) : IVec S16 32 := fun x => BitVec.ofNat 32 (16 * g + (x 0).val)
/-- The column of lane `x` of group `g`, by row number. -/
def lane (A : S128x256.Idx → F .f32) (g : ℕ) (x : S16.Idx) : ℕ → F .f32 := colOf A (16 * g + (x 0).val)
/-- The disparity of lane `x` of group `g` in row `k`. -/
def dlane (D : S16x256.Idx → F .f32) (k g : ℕ) (x : S16.Idx) : F .f32 := dispOf D k (16 * g + (x 0).val)

/-- A function of a column and a disparity at every lane of group `g` of row `k`. -/
abbrev lv (A : S128x256.Idx → F .f32) (D : S16x256.Idx → F .f32) (k g : ℕ) {β : Type} (f : (ℕ → F .f32) → F .f32 → β) : S16.Idx → β :=
  fun x => f (lane A g x) (dlane D k g x)

/-- The cells of the result block that are done once `n` channels of group `g` are: the groups before `g` whole, group
    `g` up to channel `n`. -/
def Done (A : S128x256.Idx → F .f32) (D : S16x256.Idx → F .f32) (k g n : ℕ) (o : S27x256.Idx → F .f32) : Prop :=
  ∀ y : S27x256.Idx, ((y 1).val < 16 * g ∨ ((y 1).val < 16 * (g + 1) ∧ (y 0).val < n)) →
    o y = outS (colOf A (y 1).val) (dispOf D k (y 1).val) (y 0).val

/-- All 27 channels of a group done: the next group begins. -/
theorem Done.next {A : S128x256.Idx → F .f32} {D : S16x256.Idx → F .f32} {k g : ℕ} {o : S27x256.Idx → F .f32}
    (h : Done A D k g 27 o) : Done A D k (g + 1) 0 o := fun y hy =>
  h y (.inr ⟨hy.elim id fun h => absurd h.2 (Nat.not_lt_zero _), (y 0).isLt⟩)

/-- Nothing is done at the start. -/
theorem Done.zero (A : S128x256.Idx → F .f32) (D : S16x256.Idx → F .f32) (k : ℕ) (o : S27x256.Idx → F .f32) : Done A D k 0 0 o :=
  fun y hy => by rcases hy with h | h <;> omega

/-! ## The steps -/

section Steps

variable (d : Dev nD) (i : grid0.Coords)
variable (m5 : Memref sig .scVector .vmem S128x256 .f32) (m7 : Memref sig .scVector .vmem S16x256 .f32)
variable (m8 : Memref sig .scVector .vmem S27x256 .f32)
variable (f5 : Buf (Elt F) (m5.view.loc (thr d i))) (f7 : Buf (Elt F) (m7.view.loc (thr d i)))

/-- The three buffers: the column block at `f5`, the disparities at `f7`, the result block at contents of which `St`
    holds. -/
def Rs (St : (S27x256.Idx → F .f32) → Prop) : sProp 𝕄 :=
  iprop((m5.view.loc (thr d i) ↦{fullShare} f5) ∗ (m7.view.loc (thr d i) ↦{fullShare} f7)
    ∗ ∃ f8, ⌜St (m8.view.read (Elt F) f8)⌝ ∗ m8.view.loc (thr d i) ↦{fullShare} f8)

theorem Rs_eq (St : (S27x256.Idx → F .f32) → Prop) :
    Rs d i m5 m7 m8 f5 f7 St = iprop((m5.view.loc (thr d i) ↦{fullShare} f5) ∗ (m7.view.loc (thr d i) ↦{fullShare} f7)
      ∗ ∃ f8, ⌜St (m8.view.read (Elt F) f8)⌝ ∗ m8.view.loc (thr d i) ↦{fullShare} f8) := rfl

variable {d i m5 m7 m8 f5 f7}
variable {α : Type} {St : (S27x256.Idx → F .f32) → Prop}

/-- A side condition that holds. -/
theorem step_assume {Q : α → sProp 𝕄} {R : sProp 𝕄} {P : Prop} {hd : Decidable P} {k : PLift P → Prog (TpuEff nD τ sig (Elt F) Λ₀ (thr d i).2) α} (h : P)
    (hk : R ⊢ wp frame (wpE (defs₀ (F := F)) 𝒱₀ (thr d i) none) Set.univ (k ⟨h⟩) Q) :
    R ⊢ wp frame (wpE (defs₀ (F := F)) 𝒱₀ (thr d i) none) Set.univ (Prog.lift (TpuEff.assume P hd) >>= k) Q :=
  hk.trans (Entails.of_eq (wp_assume_of (defs := defs₀ (F := F)) 𝒱₀ (thr d i) none Set.univ h).symm)

/-- A gather from the column block. -/
theorem step_gather {Q : α → sProp 𝕄} {row : IVec S16 32} {g : ℕ}
    {h : ∀ a x, ((![row, colv g] : Fin 2 → IVec S16 32) a x).toNat < S128x256.size a} {hl : m5.view.Loads}
    {k : Vec F S16 .f32 → Prog (TpuEff nD τ sig (Elt F) Λ₀ (thr d i).2) α} (hg : g < 16)
    (v : Vec F S16 .f32) (hv : (fun x => lane (m5.view.read (Elt F) f5) g x (row x).toNat) = v)
    (hk : Rs d i m5 m7 m8 f5 f7 St ⊢ wp frame (wpE (defs₀ (F := F)) 𝒱₀ (thr d i) none) Set.univ (k v) Q) :
    Rs d i m5 m7 m8 f5 f7 St ⊢ wp frame (wpE (defs₀ (F := F)) 𝒱₀ (thr d i) none) Set.univ
      (SparseCore.vectorLoadIdx m5 ![row, colv g] h hl >>= k) Q := by
  have e : loadIdx (F := F) (e := EltTy.f32) ((m5.access (.whole S128x256)).read (Elt F) f5) ![row, colv g] h
      = fun x => lane (m5.view.read (Elt F) f5) g x (row x).toNat := by
    funext x
    have h0 : (row x).toNat < 128 := h 0 x
    have h1 : (colv g x).toNat < 256 := h 1 x
    have hc : (colv g x).toNat = 16 * g + (x 0).val := by
      show (BitVec.ofNat 32 (16 * g + (x 0).val)).toNat = _
      have : (x 0).val < 16 := (x 0).isLt
      rw [BitVec.toNat_ofNat]; exact Nat.mod_eq_of_lt (by omega)
    show m5.view.read (Elt F) f5 ((Rect.whole S128x256).emb (idxAt ![row, colv g] h x)) = m5.view.read (Elt F) f5 (ix2 _ _)
    congr 1
    funext a
    apply Fin.ext
    match a with
    | ⟨0, _⟩ =>
      show 0 + 1 * (row x).toNat = (row x).toNat % 128
      omega
    | ⟨1, _⟩ =>
      show 0 + 1 * (colv g x).toNat = (16 * g + (x 0).val) % 256
      omega
  rw [← hv, ← e] at hk
  iintro HR
  ihave HR' := (Entails.of_eq (Rs_eq (F := F) d i m5 m7 m8 f5 f7 St)) $$ HR
  icases HR' with ⟨H5, H7, %f8, %hs, H8⟩
  iapply (SparseCore.wp_vectorLoadIdx (defs := defs₀ (F := F)) 𝒱₀ (thr d i) none Set.univ (base := m5) (S := Finset.univ) (f := f5) (q := fullShare)
    (k := k) (h := h) (hl := hl) (Finset.subset_univ _)) $$ H5
  iintro H5
  iapply hk
  iapply (Entails.of_eq (Rs_eq (F := F) d i m5 m7 m8 f5 f7 St).symm)
  isplitl [H5]; · iexact H5
  isplitl [H7]; · iexact H7
  iexists f8
  isplitr; · ipureintro; exact hs
  iexact H8

/-- The side condition of a gather: rows below 128, columns of a group. -/
theorem chk_of {g : ℕ} {row : IVec S16 32} (hg : g < 16) (hr : ∀ x, (row x).toNat < 128) :
    ∀ a x, ((![row, colv g] : Fin 2 → IVec S16 32) a x).toNat < S128x256.size a := by
  intro a x
  match a with
  | ⟨0, _⟩ => exact hr x
  | ⟨1, _⟩ =>
    have : (x 0).val < 16 := (x 0).isLt
    show (BitVec.ofNat 32 (16 * g + (x 0).val)).toNat < 256
    rw [BitVec.toNat_ofNat]
    exact lt_of_le_of_lt (Nat.mod_le _ _) (by omega)

/-- The same at columns equal to a group's. -/
theorem step_gatherC {Q : α → sProp 𝕄} {row : IVec S16 32} {col : IVec S16 32} {g : ℕ}
    {h : ∀ a x, ((![row, col] : Fin 2 → IVec S16 32) a x).toNat < S128x256.size a} {hl : m5.view.Loads}
    {k : Vec F S16 .f32 → Prog (TpuEff nD τ sig (Elt F) Λ₀ (thr d i).2) α} (hcol : col = colv g) (hg : g < 16)
    (v : Vec F S16 .f32) (hv : (fun x => lane (m5.view.read (Elt F) f5) g x (row x).toNat) = v)
    (hk : Rs d i m5 m7 m8 f5 f7 St ⊢ wp frame (wpE (defs₀ (F := F)) 𝒱₀ (thr d i) none) Set.univ (k v) Q) :
    Rs d i m5 m7 m8 f5 f7 St ⊢ wp frame (wpE (defs₀ (F := F)) 𝒱₀ (thr d i) none) Set.univ
      (SparseCore.vectorLoadIdx m5 ![row, col] h hl >>= k) Q := by
  subst hcol; exact step_gather hg v hv hk

theorem chk_ofC {g : ℕ} {row col : IVec S16 32} (hcol : col = colv g) (hg : g < 16) (hr : ∀ x, (row x).toNat < 128) :
    ∀ a x, ((![row, col] : Fin 2 → IVec S16 32) a x).toNat < S128x256.size a := by
  subst hcol; exact chk_of hg hr

/-- A function of the loaded lanes is that function of the row's disparities. -/
theorem of_ld {β : Type} {ld : Vec F S1x16 .f32} {dl : S16.Idx → F .f32} (h : shapeCast S16 ld shapeCasts_S1x16_S16 = dl)
    (φ : S16.Idx → F .f32 → β) : (fun x => φ x (shapeCast S16 ld shapeCasts_S1x16_S16 x)) = fun x => φ x (dl x) := by
  rw [h]

/-- The columns of the trip: sixteen times the trip's number plus the lane. -/
theorem cols_eq (n : ℕ) (hn : n < 16) (w : BitVec 32) (hw : w = BitVec.ofNat 32 (16 * n)) :
    addi (broadcast S16 w) (iota .scVector S16 32 [0] iota_S16_d0_w32_scVector) = colv n := by
  subst hw
  funext x
  have hx : (x 0).val < 16 := (x 0).isLt
  show BitVec.ofNat 32 (16 * n) + BitVec.ofNat 32 (0 * S16.size 0 + (x 0).val) = BitVec.ofNat 32 (16 * n + (x 0).val)
  rw [Nat.zero_mul, Nat.zero_add, ← BitVec.ofNat_add]

/-- The first column of a trip, as the program computes it. -/
theorem colbase_eq : ∀ n : Fin 16, Scalar.muli (Scalar.addi 0#32 (Scalar.muli (Scf.iv 0#32 1#32 n.val) 1#32)) 16#32 = BitVec.ofNat 32 (16 * n.val) := by
  decide +kernel

/-- A load of sixteen disparities: the lanes of group `g` of row `kr`. -/
theorem step_disp {Q : α → sProp 𝕄} {kr g : ℕ} {off : Fin 2 → ℕ} {inb : ∀ a, off a + S1x16.size a ≤ S16x256.size a} {hl : m7.view.LoadsAt (Rect.unit (s := S16x256) off S1x16.size inb).toLoadRect}
    {k : Vec F S1x16 .f32 → Prog (TpuEff nD τ sig (Elt F) Λ₀ (thr d i).2) α} (hoff : off = ![kr, 16 * g])
    (hk : ∀ ld : Vec F S1x16 .f32, (shapeCast S16 ld shapeCasts_S1x16_S16 = dlane (m7.view.read (Elt F) f7) kr g) →
      (Rs d i m5 m7 m8 f5 f7 St ⊢ wp frame (wpE (defs₀ (F := F)) 𝒱₀ (thr d i) none) Set.univ (k ld) Q)) :
    Rs d i m5 m7 m8 f5 f7 St ⊢ wp frame (wpE (defs₀ (F := F)) 𝒱₀ (thr d i) none) Set.univ
      (Prog.lift (.load m7 (Rect.unit (s := S16x256) off S1x16.size inb).toLoadRect hl) >>= k) Q := by
  have e : shapeCast S16 (m7.view.readAt (Elt F) (Rect.unit (s := S16x256) off S1x16.size inb).toLoadRect f7) shapeCasts_S1x16_S16
      = dlane (m7.view.read (Elt F) f7) kr g := by
    subst hoff
    have h0 : kr + 1 ≤ 16 := inb 0
    have h1 : 16 * g + 16 ≤ 256 := inb 1
    funext x
    rw [eq_ix1 x]
    refine (shapeCast_1a_a_apply _ shapeCasts_S1x16_S16 (x 0)).trans ?_
    show m7.view.read (Elt F) f7 ((Rect.unit (s := S16x256) _ S1x16.size inb).emb (ix2 (0 : Fin 1) (x 0))) = m7.view.read (Elt F) f7 (ix2 _ _)
    congr 1
    funext a
    apply Fin.ext
    have hx : (x 0).val < 16 := (x 0).isLt
    match a with
    | ⟨0, _⟩ =>
      show kr + 1 * 0 = kr % 16
      omega
    | ⟨1, _⟩ =>
      show 16 * g + 1 * (x 0).val = (16 * g + (x 0).val) % 256
      omega
  have hk' := hk _ e
  iintro HR
  ihave HR' := (Entails.of_eq (Rs_eq (F := F) d i m5 m7 m8 f5 f7 St)) $$ HR
  icases HR' with ⟨H5, H7, %f8, %hs, H8⟩
  iapply (wp_load (defs := defs₀ (F := F)) 𝒱₀ (thr d i) none Set.univ (m := m7) (S := Finset.univ) (f := f7) (q := fullShare)
    (k := k) (hl := hl) (Finset.subset_univ _)) $$ H7
  iintro H7
  iapply hk'
  iapply (Entails.of_eq (Rs_eq (F := F) d i m5 m7 m8 f5 f7 St).symm)
  isplitl [H5]; · iexact H5
  isplitl [H7]; · iexact H7
  iexists f8
  isplitr; · ipureintro; exact hs
  iexact H8

/-- A load of the result block whose value is not used. -/
theorem step_dead {Q : α → sProp 𝕄} {r : LoadRect S27x256} {hl : m8.view.LoadsAt r}
    {k : (r.shape.Idx → Elt F .f32) → Prog (TpuEff nD τ sig (Elt F) Λ₀ (thr d i).2) α}
    (hk : ∀ ld, (Rs d i m5 m7 m8 f5 f7 St ⊢ wp frame (wpE (defs₀ (F := F)) 𝒱₀ (thr d i) none) Set.univ (k ld) Q)) :
    Rs d i m5 m7 m8 f5 f7 St ⊢ wp frame (wpE (defs₀ (F := F)) 𝒱₀ (thr d i) none) Set.univ
      (Prog.lift (.load m8 r hl) >>= k) Q := by
  iintro HR
  ihave HR' := (Entails.of_eq (Rs_eq (F := F) d i m5 m7 m8 f5 f7 St)) $$ HR
  icases HR' with ⟨H5, H7, %f8, %hs, H8⟩
  iapply (wp_load (defs := defs₀ (F := F)) 𝒱₀ (thr d i) none Set.univ (m := m8) (S := Finset.univ) (f := f8) (q := fullShare)
    (k := k) (hl := hl) (Finset.subset_univ _)) $$ H8
  iintro H8
  iapply (hk _)
  iapply (Entails.of_eq (Rs_eq (F := F) d i m5 m7 m8 f5 f7 St).symm)
  isplitl [H5]; · iexact H5
  isplitl [H7]; · iexact H7
  iexists f8
  isplitr; · ipureintro; exact hs
  iexact H8

/-- A store of sixteen lanes of channel `n` of group `g`: one channel more is done. -/
theorem step_store {Q : α → sProp 𝕄} {kr g n : ℕ} {off : Fin 2 → ℕ} {inb : ∀ a, off a + S1x16.size a ≤ S27x256.size a} {v : FVec F S16 .f32}
    {hx : (m8.access (Rect.unit (s := S27x256) off S1x16.size inb)).Stores Finset.univ}
    {hm : (Finset.univ : Finset (Rect.unit (s := S27x256) off S1x16.size inb).shape.Idx) = Finset.univ ∨ ∀ a, (Rect.unit (s := S27x256) off S1x16.size inb).stride a = 1}
    {k : PUnit → Prog (TpuEff nD τ sig (Elt F) Λ₀ (thr d i).2) α} (hoff : off = ![n, 16 * g])
    (hv : v = fun x => outS (lane (m5.view.read (Elt F) f5) g x) (dlane (m7.view.read (Elt F) f7) kr g x) n)
    (hk : Rs d i m5 m7 m8 f5 f7 (Done (m5.view.read (Elt F) f5) (m7.view.read (Elt F) f7) kr g (n + 1))
      ⊢ wp frame (wpE (defs₀ (F := F)) 𝒱₀ (thr d i) none) Set.univ (k ⟨⟩) Q) :
    Rs d i m5 m7 m8 f5 f7 (Done (m5.view.read (Elt F) f5) (m7.view.read (Elt F) f7) kr g n)
      ⊢ wp frame (wpE (defs₀ (F := F)) 𝒱₀ (thr d i) none) Set.univ
      (Prog.lift (.store m8 (Rect.unit (s := S27x256) off S1x16.size inb) (shapeCast S1x16 v shapeCasts_S16_S1x16) Finset.univ hx hm) >>= k) Q := by
  subst hoff
  have h1 : 16 * g + 16 ≤ 256 := inb 1
  iintro HR
  ihave HR' := (Entails.of_eq (Rs_eq (F := F) d i m5 m7 m8 f5 f7 _)) $$ HR
  icases HR' with ⟨H5, H7, %f8, %hs, H8⟩
  iapply (wp_store (defs := defs₀ (F := F)) 𝒱₀ (thr d i) none Set.univ (m := m8) (S := Finset.univ) (f := f8)
    (k := k) (hx := hx) (hm := hm) (Finset.subset_univ _)) $$ H8
  iintro H8
  iapply hk
  iapply (Entails.of_eq (Rs_eq (F := F) d i m5 m7 m8 f5 f7 _).symm)
  isplitl [H5]; · iexact H5
  isplitl [H7]; · iexact H7
  iexists _
  isplitr
  rotate_left
  · iexact H8
  ipureintro
  intro y hy
  have hy0 : (y 0).val < 27 := (y 0).isLt
  have hy1 : (y 1).val < 256 := (y 1).isLt
  by_cases hin : (y 0).val = n ∧ 16 * g ≤ (y 1).val ∧ (y 1).val < 16 * g + 16
  · obtain ⟨e0, e1, e2⟩ := hin
    have hlt : (y 1).val - 16 * g < 16 := by omega
    refine (View.read_writes_cons_unit_of_mem (Val := Elt F) m8.view f8 inb _ [] y (ix2 (0 : Fin 1) (⟨(y 1).val - 16 * g, hlt⟩ : Fin 16)) rfl ?_).trans ?_
    · intro a
      match a with
      | ⟨0, _⟩ => show (y 0).val = n + 0; omega
      | ⟨1, _⟩ => show (y 1).val = 16 * g + ((y 1).val - 16 * g); omega
    · refine (shapeCast_a_1a_apply v shapeCasts_S16_S1x16 (0 : Fin 1) (⟨(y 1).val - 16 * g, hlt⟩ : Fin 16)).trans ?_
      rw [hv]
      show outS (colOf _ (16 * g + ((y 1).val - 16 * g))) (dispOf _ kr (16 * g + ((y 1).val - 16 * g))) n = _
      rw [show 16 * g + ((y 1).val - 16 * g) = (y 1).val by omega, e0]
  · have hold : m8.view.read (Elt F) f8 y = outS (colOf (m5.view.read (Elt F) f5) (y 1).val) (dispOf (m7.view.read (Elt F) f7) kr (y 1).val) (y 0).val := by
      apply hs
      omega
    refine Eq.trans ?_ hold
    by_cases h0 : (y 0).val = n
    · exact View.read_writes_cons_unit_of_not_mem (Val := Elt F) m8.view f8 inb _ [] y rfl 1 (by
        show (y 1).val < 16 * g ∨ 16 * g + 16 ≤ (y 1).val; omega)
    · exact View.read_writes_cons_unit_of_not_mem (Val := Elt F) m8.view f8 inb _ [] y rfl 0 (by
        show (y 0).val < n ∨ n + 1 ≤ (y 0).val; omega)

/-- The program has returned. -/
theorem step_ret {Q : α → sProp 𝕄} {R : sProp 𝕄} {a : α} (hk : R ⊢ Q a) :
    R ⊢ wp frame (wpE (defs₀ (F := F)) 𝒱₀ (thr d i) none) Set.univ (pure a) Q := by
  rw [wp_pure]
  exact hk.trans fupd_intro

/-- The result of a part, read off. -/
theorem done_ret {β : Type} {a b : β} (h : a = b) :
    Rs d i m5 m7 m8 f5 f7 St ⊢ iprop(⌜a = b⌝ ∗ Rs d i m5 m7 m8 f5 f7 St) := by
  iintro H
  isplitr; · ipureintro; exact h
  iexact H

end Steps

end Cert.Proof.Sc
-- ==== Proof.Sc.Rows.lean ====
/- The rows of the three arrays. Tile `wid` of the thirty-two works on sixteen rows of one batch entry: row `r` of the tile
   is row `16 (wid % 8) + r` of entry `wid / 8`. Here: the elements of an array under a row, the offsets the program
   computes for a row's slice, and what reading and writing through such a slice means. -/
module

public import proofs.«01_k».proof.Proof.Sc.Rules

@[expose] public section

set_option maxRecDepth 16384

noncomputable section

namespace Cert.Proof.Sc

open Cert.KernelIdeal Cert.KernelIdeal.Gen
open Idealize.ShloMosaic Idealize.ShloMosaic.ValueIdx
open Idealize.ShloMosaic.SparseCore (S V T)

variable {F : FTy → Type}

/-! ## Which rows a tile has -/

/-- The number of a tile among the thirty-two. -/
def wid (i : grid0.Coords) : ℕ := 2 * (i 1).val + (i 0).val
/-- The batch entry a tile works on. -/
def bI (i : grid0.Coords) : ℕ := wid i / 8
/-- The array row of the tile's row `r`. -/
def hI (i : grid0.Coords) (r : ℕ) : ℕ := 16 * (wid i % 8) + r

theorem wid_lt (i : grid0.Coords) : wid i < 32 := by
  have h0 : (i 0).val < 2 := (i 0).isLt
  have h1 : (i 1).val < 16 := (i 1).isLt
  unfold wid; omega
theorem bI_lt (i : grid0.Coords) : bI i < 4 := by have := wid_lt i; unfold bI; omega

/-- The elements of the cost volume, of the disparities and of the result under the tile's rows. -/
def cvRow (i : grid0.Coords) (r : ℕ) : Finset S4x128x128x256.Idx := Finset.univ.filter fun x => (x 0).val = bI i ∧ (x 2).val = hI i r
def outRow (i : grid0.Coords) (r : ℕ) : Finset S4x27x128x256.Idx := Finset.univ.filter fun x => (x 0).val = bI i ∧ (x 2).val = hI i r
def dispRows (i : grid0.Coords) : Finset S4x1x128x256.Idx := Finset.univ.filter fun x => (x 0).val = bI i ∧ (x 2).val / 16 = wid i % 8

theorem mem_cvRow {i : grid0.Coords} {r : ℕ} {x : S4x128x128x256.Idx} : x ∈ cvRow i r ↔ (x 0).val = bI i ∧ (x 2).val = hI i r := by simp [cvRow]
theorem mem_outRow {i : grid0.Coords} {r : ℕ} {x : S4x27x128x256.Idx} : x ∈ outRow i r ↔ (x 0).val = bI i ∧ (x 2).val = hI i r := by simp [outRow]
theorem mem_dispRows {i : grid0.Coords} {x : S4x1x128x256.Idx} : x ∈ dispRows i ↔ (x 0).val = bI i ∧ (x 2).val / 16 = wid i % 8 := by simp [dispRows]

/-! ## The offsets the program computes -/

theorem off1_at : ∀ i : grid0.Coords, ∀ a, k0_off1 i a = (![bI i, 0, hI i 0, 0] : Fin 4 → ℕ) a := by decide +kernel
theorem off2_at : ∀ i : grid0.Coords, ∀ q : Fin 2, ∀ a, k0_off2 i (BitVec.ofNat 32 q.val) a = (![bI i, 0, hI i q.val, 0] : Fin 4 → ℕ) a := by decide +kernel
theorem off33_at : ∀ (i : grid0.Coords) (t : Fin k0_t1_loop.trips), ∀ q : Fin 2, ∀ a,
    k0_off33 i t (BitVec.ofNat 32 q.val) a = (![bI i, 0, hI i (2 * t.val + q.val), 0] : Fin 4 → ℕ) a := by decide +kernel
theorem off34_at : ∀ (i : grid0.Coords) (t : Fin k0_t1_loop.trips), ∀ a,
    k0_off34 i t a = (![bI i, 0, hI i (2 * (t.val + 1)), 0] : Fin 4 → ℕ) a := by decide +kernel
theorem off64_at : ∀ (i : grid0.Coords) (t : Fin k0_t1_loop.trips), ∀ a,
    k0_off64 i t a = (![bI i, 0, hI i (2 * (t.val + 1) + 1), 0] : Fin 4 → ℕ) a := by decide +kernel

/-- Trip `t` waits for an earlier write-out exactly when it is not the first. -/
theorem cond1_iff : ∀ t : Fin k0_t1_loop.trips, k0_cond1 t = 1#1 ↔ t.val ≠ 0 := by decide +kernel
theorem cond3_iff : ∀ t : Fin k0_t1_loop.trips, k0_cond3 t = 1#1 ↔ t.val ≠ 0 := by decide +kernel
/-- Trip `t` starts a further fetch exactly when it is not the last. -/
theorem cond2_iff : ∀ t : Fin k0_t1_loop.trips, k0_cond2 t = 1#1 ↔ t.val + 1 < 8 := by decide +kernel
theorem cond4_iff : ∀ t : Fin k0_t1_loop.trips, k0_cond4 t = 1#1 ↔ t.val + 1 < 8 := by decide +kernel

/-! ## A row's slice -/

/-- An index `(x, y)` matched with shape `[1, a, 1, b]` is `(0, x, 0, y)`. -/
theorem reshapeEquiv_ix2_1a1b {a b : ℕ} (h : (⟨2, ![a, b]⟩ : Shape).numel = (⟨4, ![1, a, 1, b]⟩ : Shape).numel) (x : Fin a) (y : Fin b) :
    Shape.reshapeEquiv h (ix2 x y) = ix4 (⟨0, Nat.one_pos⟩ : Fin 1) x (⟨0, Nat.one_pos⟩ : Fin 1) y :=
  Shape.reshapeEquiv_eq_of_rowMajor h (by
    rw [Shape.rowMajor_val_four, Shape.rowMajor_val_two]
    show (((0 * a + x.val) * 1 + 0) * b + y.val) = x.val * b + y.val
    simp only [Nat.zero_mul, Nat.zero_add, Nat.mul_one, Nat.add_zero])

/-- A row's slice through an array of `n` planes: its place `(x, y)` is plane `x`, position `y` of the row. -/
theorem emb_row {n p q : ℕ} {off : Fin 4 → ℕ} (inb : ∀ a, off a + (⟨4, ![1, n, 1, 256]⟩ : Shape).size a ≤ (⟨4, ![4, n, 128, 256]⟩ : Shape).size a)
    (h : (⟨2, ![n, 256]⟩ : Shape).numel = (⟨4, ![1, n, 1, 256]⟩ : Shape).numel) (hoff : ∀ a, off a = (![p, 0, q, 0] : Fin 4 → ℕ) a) (x : Fin n) (y : Fin 256)
    (hp : p < 4) (hq : q < 128) :
    (Rect.unit (s := ⟨4, ![4, n, 128, 256]⟩) off (⟨4, ![1, n, 1, 256]⟩ : Shape).size inb).emb (Shape.reshapeEquiv h (ix2 x y))
      = ix4 (⟨p, hp⟩ : Fin 4) x (⟨q, hq⟩ : Fin 128) y := by
  rw [reshapeEquiv_ix2_1a1b]
  funext a
  apply Fin.ext
  match a with
  | ⟨0, _⟩ => show off 0 + 1 * 0 = p; rw [hoff]; rfl
  | ⟨1, _⟩ => show off 1 + 1 * x.val = x.val; rw [hoff]; show 0 + 1 * x.val = _; omega
  | ⟨2, _⟩ => show off 2 + 1 * 0 = q; rw [hoff]; rfl
  | ⟨3, _⟩ => show off 3 + 1 * y.val = y.val; rw [hoff]; show 0 + 1 * y.val = _; omega

/-- The arrays as a tile names them. -/
abbrev cvM : Memref sig .scVector .hbm S4x128x128x256 .f32 := Memref.whole main_arg0_scv
abbrev dispM : Memref sig .scVector .hbm S4x1x128x256 .f32 := Memref.whole main_arg2_scv
abbrev outM : Memref sig .scVector .hbm S4x27x128x256 .f32 := Memref.whole main_v0_scv

/-- The slice of the cost volume at the offsets `off`, of the result, of the disparities. -/
abbrev cvSl (off : Fin 4 → ℕ) (inb : ∀ a, off a + S1x128x1x256.size a ≤ S4x128x128x256.size a) : Memref sig .scVector .hbm S128x256 .f32 :=
  (cvM.slice (Rect.unit (s := S4x128x128x256) off S1x128x1x256.size inb) (fun _ => rfl)).squeeze S128x256 squeezes_S1x128x1x256_S128x256
abbrev outSl (off : Fin 4 → ℕ) (inb : ∀ a, off a + S1x27x1x256.size a ≤ S4x27x128x256.size a) : Memref sig .scVector .hbm S27x256 .f32 :=
  (outM.slice (Rect.unit (s := S4x27x128x256) off S1x27x1x256.size inb) (fun _ => rfl)).squeeze S27x256 squeezes_S1x27x1x256_S27x256
abbrev dispSl (off : Fin 4 → ℕ) (inb : ∀ a, off a + S1x1x16x256.size a ≤ S4x1x128x256.size a) : Memref sig .scVector .hbm S16x256 .f32 :=
  (dispM.slice (Rect.unit (s := S4x1x128x256) off S1x1x16x256.size inb) (fun _ => rfl)).squeeze S16x256 squeezes_S1x1x16x256_S16x256

section Slices

variable {i : grid0.Coords} {r : ℕ}

theorem hI_lt (hr : r < 16) : hI i r < 128 := by unfold hI; omega

/-- Where a slice of the cost volume at a row's offsets lies. -/
theorem cvSl_emb {off : Fin 4 → ℕ} {inb : ∀ a, off a + S1x128x1x256.size a ≤ S4x128x128x256.size a} (hr : r < 16)
    (hoff : ∀ a, off a = (![bI i, 0, hI i r, 0] : Fin 4 → ℕ) a) (x : Fin 128) (y : Fin 256) :
    (cvSl off inb).view.emb (ix2 x y) = ix4 (⟨bI i, bI_lt i⟩ : Fin 4) x (⟨hI i r, hI_lt hr⟩ : Fin 128) y :=
  emb_row (n := 128) inb squeezes_S1x128x1x256_S128x256.numel_eq hoff x y (bI_lt i) (hI_lt hr)

theorem outSl_emb {off : Fin 4 → ℕ} {inb : ∀ a, off a + S1x27x1x256.size a ≤ S4x27x128x256.size a} (hr : r < 16)
    (hoff : ∀ a, off a = (![bI i, 0, hI i r, 0] : Fin 4 → ℕ) a) (x : Fin 27) (y : Fin 256) :
    (outSl off inb).view.emb (ix2 x y) = ix4 (⟨bI i, bI_lt i⟩ : Fin 4) x (⟨hI i r, hI_lt hr⟩ : Fin 128) y :=
  emb_row (n := 27) inb squeezes_S1x27x1x256_S27x256.numel_eq hoff x y (bI_lt i) (hI_lt hr)

theorem dispSl_emb {off : Fin 4 → ℕ} {inb : ∀ a, off a + S1x1x16x256.size a ≤ S4x1x128x256.size a}
    (hoff : ∀ a, off a = (![bI i, 0, hI i 0, 0] : Fin 4 → ℕ) a) (x : Fin 16) (y : Fin 256) :
    (dispSl off inb).view.emb (ix2 x y) = ix4 (⟨bI i, bI_lt i⟩ : Fin 4) (0 : Fin 1) (⟨hI i x.val, hI_lt x.isLt⟩ : Fin 128) y := by
  show (Rect.unit (s := S4x1x128x256) off S1x1x16x256.size inb).emb (Shape.reshapeEquiv squeezes_S1x1x16x256_S16x256.numel_eq (ix2 x y)) = _
  rw [reshapeEquiv_ix2_11ab (a := 16) (b := 256) squeezes_S1x1x16x256_S16x256.numel_eq x y]
  funext a
  apply Fin.ext
  match a with
  | ⟨0, _⟩ => show off 0 + 1 * 0 = bI i; rw [hoff]; rfl
  | ⟨1, _⟩ => show off 1 + 1 * 0 = 0; rw [hoff]; rfl
  | ⟨2, _⟩ => show off 2 + 1 * x.val = hI i x.val; rw [hoff]; show hI i 0 + 1 * x.val = _; unfold hI; omega
  | ⟨3, _⟩ => show off 3 + 1 * y.val = y.val; rw [hoff]; show 0 + 1 * y.val = _; omega

/-- The elements under a slice at a row's offsets are the row's. -/
theorem cvSl_set {off : Fin 4 → ℕ} {inb : ∀ a, off a + S1x128x1x256.size a ≤ S4x128x128x256.size a} (hr : r < 16)
    (hoff : ∀ a, off a = (![bI i, 0, hI i r, 0] : Fin 4 → ℕ) a) : (cvSl off inb).view.set = cvRow i r := by
  ext x
  rw [mem_cvRow]
  refine (Finset.mem_map (f := (cvSl off inb).view.emb) (s := Finset.univ) (b := x)).trans ?_
  constructor
  · rintro ⟨z, -, rfl⟩
    rw [show (cvSl off inb).view.emb z = _ from (congrArg _ (eq_ix2 z)).trans (cvSl_emb hr hoff (z 0) (z 1))]
    exact ⟨rfl, rfl⟩
  · rintro ⟨h0, h2⟩
    refine ⟨ix2 (x 1) (x 3), Finset.mem_univ _, (cvSl_emb hr hoff _ _).trans ?_⟩
    rw [eq_ix4 x]
    congr 1
    · exact Fin.ext h0.symm
    · exact Fin.ext h2.symm

theorem outSl_set {off : Fin 4 → ℕ} {inb : ∀ a, off a + S1x27x1x256.size a ≤ S4x27x128x256.size a} (hr : r < 16)
    (hoff : ∀ a, off a = (![bI i, 0, hI i r, 0] : Fin 4 → ℕ) a) : (outSl off inb).view.set = outRow i r := by
  ext x
  rw [mem_outRow]
  refine (Finset.mem_map (f := (outSl off inb).view.emb) (s := Finset.univ) (b := x)).trans ?_
  constructor
  · rintro ⟨z, -, rfl⟩
    rw [show (outSl off inb).view.emb z = _ from (congrArg _ (eq_ix2 z)).trans (outSl_emb hr hoff (z 0) (z 1))]
    exact ⟨rfl, rfl⟩
  · rintro ⟨h0, h2⟩
    refine ⟨ix2 (x 1) (x 3), Finset.mem_univ _, (outSl_emb hr hoff _ _).trans ?_⟩
    rw [eq_ix4 x]
    congr 1
    · exact Fin.ext h0.symm
    · exact Fin.ext h2.symm

theorem dispSl_set {off : Fin 4 → ℕ} {inb : ∀ a, off a + S1x1x16x256.size a ≤ S4x1x128x256.size a}
    (hoff : ∀ a, off a = (![bI i, 0, hI i 0, 0] : Fin 4 → ℕ) a) : (dispSl off inb).view.set = dispRows i := by
  ext x
  rw [mem_dispRows]
  refine (Finset.mem_map (f := (dispSl off inb).view.emb) (s := Finset.univ) (b := x)).trans ?_
  constructor
  · rintro ⟨z, -, rfl⟩
    rw [show (dispSl off inb).view.emb z = _ from (congrArg _ (eq_ix2 z)).trans (dispSl_emb hoff (z 0) (z 1))]
    have hz : (z 0).val < 16 := (z 0).isLt
    refine ⟨rfl, ?_⟩
    show hI i (z 0).val / 16 = _
    unfold hI; omega
  · rintro ⟨h0, h2⟩
    have hx1 : (x 1).val < 1 := (x 1).isLt
    have hx2 : (x 2).val < 128 := (x 2).isLt
    refine ⟨ix2 (⟨(x 2).val % 16, Nat.mod_lt _ (by decide)⟩ : Fin 16) (x 3), Finset.mem_univ _, (dispSl_emb hoff _ _).trans ?_⟩
    rw [eq_ix4 x]
    congr 1
    · exact Fin.ext h0.symm
    · apply Fin.ext; show 0 = (x 1).val; omega
    · apply Fin.ext; show hI i ((x 2).val % 16) = (x 2).val; unfold hI; omega

/-- The block of a row of the cost volume, and the block of the tile's disparities. -/
def rowC (cv : S4x128x128x256.Idx → F .f32) (i : grid0.Coords) (r : ℕ) : S128x256.Idx → F .f32 := fun y =>
  cv (ix4 (⟨bI i, bI_lt i⟩ : Fin 4) (y 0) (⟨hI i r % 128, Nat.mod_lt _ (by decide)⟩ : Fin 128) (y 1))
def rowsD (dp : S4x1x128x256.Idx → F .f32) (i : grid0.Coords) : S16x256.Idx → F .f32 := fun y =>
  dp (ix4 (⟨bI i, bI_lt i⟩ : Fin 4) (0 : Fin 1) (⟨hI i (y 0).val % 128, Nat.mod_lt _ (by decide)⟩ : Fin 128) (y 1))

/-- Reading through a row's slice reads the row's block. -/
theorem cvSl_read {off : Fin 4 → ℕ} {inb : ∀ a, off a + S1x128x1x256.size a ≤ S4x128x128x256.size a} (hr : r < 16)
    (hoff : ∀ a, off a = (![bI i, 0, hI i r, 0] : Fin 4 → ℕ) a) (cv : S4x128x128x256.Idx → F .f32) :
    (cvSl off inb).view.read (Elt F) cv = rowC cv i r := by
  funext y
  show cv ((cvSl off inb).view.emb y) = _
  rw [show (cvSl off inb).view.emb y = _ from (congrArg _ (eq_ix2 y)).trans (cvSl_emb hr hoff (y 0) (y 1))]
  unfold rowC
  congr 2
  exact Fin.ext (Nat.mod_eq_of_lt (hI_lt hr)).symm

theorem dispSl_read {off : Fin 4 → ℕ} {inb : ∀ a, off a + S1x1x16x256.size a ≤ S4x1x128x256.size a}
    (hoff : ∀ a, off a = (![bI i, 0, hI i 0, 0] : Fin 4 → ℕ) a) (dp : S4x1x128x256.Idx → F .f32) :
    (dispSl off inb).view.read (Elt F) dp = rowsD dp i := by
  funext y
  show dp ((dispSl off inb).view.emb y) = _
  rw [show (dispSl off inb).view.emb y = _ from (congrArg _ (eq_ix2 y)).trans (dispSl_emb hoff (y 0) (y 1))]
  unfold rowsD
  congr 2
  exact Fin.ext (Nat.mod_eq_of_lt (hI_lt (y 0).isLt)).symm

/-- Writing a whole block through a row's slice of the result. -/
theorem outSl_write {off : Fin 4 → ℕ} {inb : ∀ a, off a + S1x27x1x256.size a ≤ S4x27x128x256.size a} (hr : r < 16)
    (hoff : ∀ a, off a = (![bI i, 0, hI i r, 0] : Fin 4 → ℕ) a) (f : S4x27x128x256.Idx → F .f32) (v : S27x256.Idx → F .f32)
    {x : S4x27x128x256.Idx} (hx : x ∈ outRow i r) :
    (outSl off inb).view.write (Elt F) f v Finset.univ x = v (ix2 (x 1) (x 3)) := by
  obtain ⟨h0, h2⟩ := mem_outRow.mp hx
  have e : (outSl off inb).view.emb (ix2 (x 1) (x 3)) = x := (outSl_emb hr hoff _ _).trans (by
    rw [eq_ix4 x]
    congr 1
    · exact Fin.ext h0.symm
    · exact Fin.ext h2.symm)
  have h := View.write_emb_of_mem (Val := Elt F) (v := (outSl off inb).view) f v (M := Finset.univ) (Finset.mem_univ (ix2 (x 1) (x 3)))
  exact (congrArg ((outSl off inb).view.write (Elt F) f v Finset.univ) e).symm.trans h

end Slices

end Cert.Proof.Sc
-- ==== Proof.Sc.TripA.lean ====
/- The fifteen parts of a trip over a group of sixteen lanes of an even row: each part gathers from the column
   block and stores channels, and hands the next part its values, every one a function of the lane's column and disparity. -/
module

public import proofs.«01_k».proof.Proof.Sc.Rules
public import proofs.«01_k».proof.Proof.Gen.KernelIdeal.Skeleton

@[expose] public section

set_option maxRecDepth 65536

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords) (arg2 : Memref sig .scVector .hbm S4x128x128x256 .f32) (harg2 : arg2.IsWhole) (arg3 : Memref sig .scVector .hbm S4x1x128x256 .f32) (harg3 : arg3.IsWhole) (arg4 : Memref sig .scVector .hbm S4x27x128x256 .f32) (harg4 : arg4.IsWhole) (arg5 : Memref sig .scVector .vmem S128x256 .f32) (harg5 : arg5.IsWhole) (arg6 : Memref sig .scVector .vmem S128x256 .f32) (harg6 : arg6.IsWhole) (arg7 : Memref sig .scVector .vmem S16x256 .f32) (harg7 : arg7.IsWhole) (arg8 : Memref sig .scVector .vmem S27x256 .f32) (harg8 : arg8.IsWhole) (arg9 : Memref sig .scVector .vmem S27x256 .f32) (harg9 : arg9.IsWhole) (arg10 : DmaSems sig S_) (arg11 : DmaSems sig S_) (arg12 : DmaSems sig S_) (arg13 : DmaSems sig S_) (v52_r0 : DmaSems sig S_)
variable (f5 : Buf (Elt F) (arg5.view.loc (thr d i))) (f7 : Buf (Elt F) (arg7.view.loc (thr d i))) (kr : ℕ)

/-- Part 1 of the trip: the disparities loaded, channel 0 stored. -/
theorem part1_spec (k0_t1 : Fin k0_t1_loop.trips) (v54 : BitVec 32) (k0_t2 : Fin k0_t2_loop.trips) (hkr : kr = 2 * k0_t1.val) :
    Rs d i arg5 arg7 arg8 f5 f7 (Done (arg5.view.read (Elt F) f5) (arg7.view.read (Elt F) f7) kr k0_t2.val 0)
      ⊢ wp frame (wpE (defs₀ (F := F)) 𝒱₀ (thr d i) none) Set.univ
        (k0_part1 i arg2 harg2 arg3 harg3 arg4 harg4 arg5 harg5 arg6 harg6 arg7 harg7 arg8 harg8 arg9 harg9 arg10 arg11 arg12 arg13 v52_r0 (iota .scVector S16 32 [0] iota_S16_d0_w32_scVector) k0_t1 v54 0#32 1#32 k0_t2)
        (fun r => iprop(⌜r = ⟨Scalar.addi 0#32 (Scalar.muli (Scf.iv 0#32 1#32 k0_t2) 1#32), (colv k0_t2.val), (lv (arg5.view.read (Elt F) f5) (arg7.view.read (Elt F) f7) kr k0_t2.val (fun _ d => d)), (lv (arg5.view.read (Elt F) f5) (arg7.view.read (Elt F) f7) kr k0_t2.val (fun _ d => fr0 d)), (lv (arg5.view.read (Elt F) f5) (arg7.view.read (Elt F) f7) kr k0_t2.val (fun _ d => IntOp.subi (t0 d) 4#32)), (lv (arg5.view.read (Elt F) f5) (arg7.view.read (Elt F) f7) kr k0_t2.val (fun _ d => w0a d)), (lv (arg5.view.read (Elt F) f5) (arg7.view.read (Elt F) f7) kr k0_t2.val (fun c d => s0 c d 1)), (lv (arg5.view.read (Elt F) f5) (arg7.view.read (Elt F) f7) kr k0_t2.val (fun _ d => IntOp.addi (IntOp.subi (t0 d) 4#32) 2#32))⟩⌝ ∗ Rs d i arg5 arg7 arg8 f5 f7 (Done (arg5.view.read (Elt F) f5) (arg7.view.read (Elt F) f7) kr k0_t2.val 1))) := by
  subst hkr
  have hg : k0_t2.val < 16 := k0_t2.isLt
  have e96 : k0_pay5 (iota .scVector S16 32 [0] iota_S16_d0_w32_scVector) 0#32 1#32 k0_t2 = colv k0_t2.val :=
    cols_eq k0_t2.val hg _ (colbase_eq ⟨k0_t2.val, hg⟩)
  rw [k0_part1_eq_skeleton]; unfold k0_part1_skel
  refine step_disp (k0_off5_eq k0_t1 k0_t2) fun ld hld => ?_
  refine step_assume (chk_ofC e96 hg fun x => row0_lt _ 0) ?_
  refine step_gatherC e96 hg (lv (arg5.view.read (Elt F) f5) (arg7.view.read (Elt F) f7) (2 * k0_t1.val) k0_t2.val fun c d => s0 c d 0) (of_ld hld fun x d => s0 (lane (arg5.view.read (Elt F) f5) k0_t2.val x) d 0) ?_
  refine step_assume (chk_ofC e96 hg fun x => row0_lt _ 1) ?_
  refine step_gatherC e96 hg (lv (arg5.view.read (Elt F) f5) (arg7.view.read (Elt F) f7) (2 * k0_t1.val) k0_t2.val fun c d => s0 c d 1) (of_ld hld fun x d => s0 (lane (arg5.view.read (Elt F) f5) k0_t2.val x) d 1) ?_
  refine step_dead fun _ => ?_
  refine step_store (k0_off6_eq k0_t2) ((of_ld hld fun x d => FloatOps.addf (FloatOps.mulf (w0a d) (s0 (lane (arg5.view.read (Elt F) f5) k0_t2.val x) (dlane (arg7.view.read (Elt F) f7) (2 * k0_t1.val) k0_t2.val x) 0)) (FloatOps.mulf (fr0 d) (s0 (lane (arg5.view.read (Elt F) f5) k0_t2.val x) (dlane (arg7.view.read (Elt F) f7) (2 * k0_t1.val) k0_t2.val x) 1))).trans rfl) ?_
  have e6 : k0_pay6 ld = lv (arg5.view.read (Elt F) f5) (arg7.view.read (Elt F) f7) (2 * k0_t1.val) k0_t2.val fun _ d => d := hld
  have e8 : k0_pay8 ld = lv (arg5.view.read (Elt F) f5) (arg7.view.read (Elt F) f7) (2 * k0_t1.val) k0_t2.val fun _ d => fr0 d := of_ld hld fun _ d => fr0 d
  have e9 : k0_pay9 ld = lv (arg5.view.read (Elt F) f5) (arg7.view.read (Elt F) f7) (2 * k0_t1.val) k0_t2.val fun _ d => IntOp.subi (t0 d) 4#32 := of_ld hld fun _ d => IntOp.subi (t0 d) 4#32
  have ea : k0_pay10 ld = lv (arg5.view.read (Elt F) f5) (arg7.view.read (Elt F) f7) (2 * k0_t1.val) k0_t2.val fun _ d => w0a d := of_ld hld fun _ d => w0a d
  have eb : k0_pay14 ld = lv (arg5.view.read (Elt F) f5) (arg7.view.read (Elt F) f7) (2 * k0_t1.val) k0_t2.val fun _ d => IntOp.addi (IntOp.subi (t0 d) 4#32) 2#32 := of_ld hld fun _ d => IntOp.addi (IntOp.subi (t0 d) 4#32) 2#32
  exact step_ret (done_ret (by rw [e96, e6, e8, e9, ea, eb]))

/-- Part 2 of the trip: channels 1 to 2 stored. -/
theorem part2_spec (k0_t2 : Fin k0_t2_loop.trips) (v93 : BitVec 32) :
    Rs d i arg5 arg7 arg8 f5 f7 (Done (arg5.view.read (Elt F) f5) (arg7.view.read (Elt F) f7) kr k0_t2.val 1)
      ⊢ wp frame (wpE (defs₀ (F := F)) 𝒱₀ (thr d i) none) Set.univ
        (k0_part2 i arg2 harg2 arg3 harg3 arg4 harg4 arg5 harg5 arg6 harg6 arg7 harg7 arg8 harg8 arg9 harg9 arg10 arg11 arg12 arg13 v52_r0 k0_t2 v93 (colv k0_t2.val) (lv (arg5.view.read (Elt F) f5) (arg7.view.read (Elt F) f7) kr k0_t2.val (fun _ d => fr0 d)) (lv (arg5.view.read (Elt F) f5) (arg7.view.read (Elt F) f7) kr k0_t2.val (fun _ d => IntOp.subi (t0 d) 4#32)) (lv (arg5.view.read (Elt F) f5) (arg7.view.read (Elt F) f7) kr k0_t2.val (fun _ d => w0a d)) (lv (arg5.view.read (Elt F) f5) (arg7.view.read (Elt F) f7) kr k0_t2.val (fun c d => s0 c d 1)) (lv (arg5.view.read (Elt F) f5) (arg7.view.read (Elt F) f7) kr k0_t2.val (fun _ d => IntOp.addi (IntOp.subi (t0 d) 4#32) 2#32)))
        (fun r => iprop(⌜r = ⟨(lv (arg5.view.read (Elt F) f5) (arg7.view.read (Elt F) f7) kr k0_t2.val (fun c d => s0 c d 4)), (lv (arg5.view.read (Elt F) f5) (arg7.view.read (Elt F) f7) kr k0_t2.val (fun c d => lvl0 c d 3))⟩⌝ ∗ Rs d i arg5 arg7 arg8 f5 f7 (Done (arg5.view.read (Elt F) f5) (arg7.view.read (Elt F) f7) kr k0_t2.val 3))) := by
  have hg : k0_t2.val < 16 := k0_t2.isLt
  rw [k0_part2_eq_skeleton]; unfold k0_part2_skel
  refine step_assume (chk_of hg fun x => row0_lt _ 2) ?_
  refine step_gather hg (lv (arg5.view.read (Elt F) f5) (arg7.view.read (Elt F) f7) kr k0_t2.val (fun c d => s0 c d 2)) rfl ?_
  refine step_dead fun _ => ?_
  refine step_store ((k0_off7_eq k0_t2)) rfl ?_
  refine step_assume (chk_of hg fun x => row0_lt _ 3) ?_
  refine step_gather hg (lv (arg5.view.read (Elt F) f5) (arg7.view.read (Elt F) f7) kr k0_t2.val (fun c d => s0 c d 3)) rfl ?_
  refine step_dead fun _ => ?_
  refine step_store ((k0_off8_eq k0_t2)) rfl ?_
  refine step_assume (chk_of hg fun x => row0_lt _ 4) ?_
  refine step_gather hg (lv (arg5.view.read (Elt F) f5) (arg7.view.read (Elt F) f7) kr k0_t2.val (fun c d => s0 c d 4)) rfl ?_
  exact step_ret (done_ret rfl)

/-- Part 3 of the trip: channels 3 to 5 stored. -/
theorem part3_spec (k0_t2 : Fin k0_t2_loop.trips) (v93 : BitVec 32) :
    Rs d i arg5 arg7 arg8 f5 f7 (Done (arg5.view.read (Elt F) f5) (arg7.view.read (Elt F) f7) kr k0_t2.val 3)
      ⊢ wp frame (wpE (defs₀ (F := F)) 𝒱₀ (thr d i) none) Set.univ
        (k0_part3 i arg2 harg2 arg3 harg3 arg4 harg4 arg5 harg5 arg6 harg6 arg7 harg7 arg8 harg8 arg9 harg9 arg10 arg11 arg12 arg13 v52_r0 k0_t2 v93 (colv k0_t2.val) (lv (arg5.view.read (Elt F) f5) (arg7.view.read (Elt F) f7) kr k0_t2.val (fun _ d => fr0 d)) (lv (arg5.view.read (Elt F) f5) (arg7.view.read (Elt F) f7) kr k0_t2.val (fun _ d => IntOp.subi (t0 d) 4#32)) (lv (arg5.view.read (Elt F) f5) (arg7.view.read (Elt F) f7) kr k0_t2.val (fun _ d => w0a d)) (lv (arg5.view.read (Elt F) f5) (arg7.view.read (Elt F) f7) kr k0_t2.val (fun c d => s0 c d 4)) (lv (arg5.view.read (Elt F) f5) (arg7.view.read (Elt F) f7) kr k0_t2.val (fun c d => lvl0 c d 3)))
        (fun r => iprop(⌜r = ⟨(lv (arg5.view.read (Elt F) f5) (arg7.view.read (Elt F) f7) kr k0_t2.val (fun c d => s0 c d 7)), (lv (arg5.view.read (Elt F) f5) (arg7.view.read (Elt F) f7) kr k0_t2.val (fun c d => FloatOps.mulf (w0a d) (s0 c d 6))), (lv (arg5.view.read (Elt F) f5) (arg7.view.read (Elt F) f7) kr k0_t2.val (fun c d => FloatOps.mulf (fr0 d) (s0 c d 7)))⟩⌝ ∗ Rs d i arg5 arg7 arg8 f5 f7 (Done (arg5.view.read (Elt F) f5) (arg7.view.read (Elt F) f7) kr k0_t2.val 6))) := by
  have hg : k0_t2.val < 16 := k0_t2.isLt
  rw [k0_part3_eq_skeleton]; unfold k0_part3_skel
  refine step_dead fun _ => ?_
  refine step_store ((k0_off9_eq k0_t2)) rfl ?_
  refine step_assume (chk_of hg fun x => row0_lt _ 5) ?_
  refine step_gather hg (lv (arg5.view.read (Elt F) f5) (arg7.view.read (Elt F) f7) kr k0_t2.val (fun c d => s0 c d 5)) rfl ?_
  refine step_dead fun _ => ?_
  refine step_store ((k0_off10_eq k0_t2)) rfl ?_
  refine step_assume (chk_of hg fun x => row0_lt _ 6) ?_
  refine step_gather hg (lv (arg5.view.read (Elt F) f5) (arg7.view.read (Elt F) f7) kr k0_t2.val (fun c d => s0 c d 6)) rfl ?_
  refine step_dead fun _ => ?_
  refine step_store ((k0_off11_eq k0_t2)) rfl ?_
  refine step_assume (chk_of hg fun x => row0_lt _ 7) ?_
  refine step_gather hg (lv (arg5.view.read (Elt F) f5) (arg7.view.read (Elt F) f7) kr k0_t2.val (fun c d => s0 c d 7)) rfl ?_
  exact step_ret (done_ret rfl)

/-- Part 4 of the trip: channels 6 to 8 stored. -/
theorem part4_spec (k0_t2 : Fin k0_t2_loop.trips) (v93 : BitVec 32) :
    Rs d i arg5 arg7 arg8 f5 f7 (Done (arg5.view.read (Elt F) f5) (arg7.view.read (Elt F) f7) kr k0_t2.val 6)
      ⊢ wp frame (wpE (defs₀ (F := F)) 𝒱₀ (thr d i) none) Set.univ
        (k0_part4 i arg2 harg2 arg3 harg3 arg4 harg4 arg5 harg5 arg6 harg6 arg7 harg7 arg8 harg8 arg9 harg9 arg10 arg11 arg12 arg13 v52_r0 k0_t2 v93 (colv k0_t2.val) (lv (arg5.view.read (Elt F) f5) (arg7.view.read (Elt F) f7) kr k0_t2.val (fun _ d => d)) (lv (arg5.view.read (Elt F) f5) (arg7.view.read (Elt F) f7) kr k0_t2.val (fun _ d => fr0 d)) (lv (arg5.view.read (Elt F) f5) (arg7.view.read (Elt F) f7) kr k0_t2.val (fun _ d => IntOp.subi (t0 d) 4#32)) (lv (arg5.view.read (Elt F) f5) (arg7.view.read (Elt F) f7) kr k0_t2.val (fun _ d => w0a d)) (lv (arg5.view.read (Elt F) f5) (arg7.view.read (Elt F) f7) kr k0_t2.val (fun c d => s0 c d 7)) (lv (arg5.view.read (Elt F) f5) (arg7.view.read (Elt F) f7) kr k0_t2.val (fun c d => FloatOps.mulf (w0a d) (s0 c d 6))) (lv (arg5.view.read (Elt F) f5) (arg7.view.read (Elt F) f7) kr k0_t2.val (fun c d => FloatOps.mulf (fr0 d) (s0 c d 7))))
        (fun r => iprop(⌜r = ⟨(lv (arg5.view.read (Elt F) f5) (arg7.view.read (Elt F) f7) kr k0_t2.val (fun _ d => t1 d)), (lv (arg5.view.read (Elt F) f5) (arg7.view.read (Elt F) f7) kr k0_t2.val (fun _ d => fr1 d)), quarter⟩⌝ ∗ Rs d i arg5 arg7 arg8 f5 f7 (Done (arg5.view.read (Elt F) f5) (arg7.view.read (Elt F) f7) kr k0_t2.val 9))) := by
  have hg : k0_t2.val < 16 := k0_t2.isLt
  rw [k0_part4_eq_skeleton]; unfold k0_part4_skel
  refine step_dead fun _ => ?_
  refine step_store ((k0_off12_eq k0_t2)) rfl ?_
  refine step_assume (chk_of hg fun x => row0_lt _ 8) ?_
  refine step_gather hg (lv (arg5.view.read (Elt F) f5) (arg7.view.read (Elt F) f7) kr k0_t2.val (fun c d => s0 c d 8)) rfl ?_
  refine step_dead fun _ => ?_
  refine step_store ((k0_off13_eq k0_t2)) rfl ?_
  refine step_assume (chk_of hg fun x => row0_lt _ 9) ?_
  refine step_gather hg (lv (arg5.view.read (Elt F) f5) (arg7.view.read (Elt F) f7) kr k0_t2.val (fun c d => s0 c d 9)) rfl ?_
  refine step_dead fun _ => ?_
  refine step_store ((k0_off14_eq k0_t2)) rfl ?_
  exact step_ret (done_ret rfl)

/-- Part 5 of the trip: gathers; no channel stored. -/
theorem part5_spec (k0_t2 : Fin k0_t2_loop.trips) :
    Rs d i arg5 arg7 arg8 f5 f7 (Done (arg5.view.read (Elt F) f5) (arg7.view.read (Elt F) f7) kr k0_t2.val 9)
      ⊢ wp frame (wpE (defs₀ (F := F)) 𝒱₀ (thr d i) none) Set.univ
        (k0_part5 i arg2 harg2 arg3 harg3 arg4 harg4 arg5 harg5 arg6 harg6 arg7 harg7 arg8 harg8 arg9 harg9 arg10 arg11 arg12 arg13 v52_r0 (colv k0_t2.val) (lv (arg5.view.read (Elt F) f5) (arg7.view.read (Elt F) f7) kr k0_t2.val (fun _ d => d)) (lv (arg5.view.read (Elt F) f5) (arg7.view.read (Elt F) f7) kr k0_t2.val (fun _ d => t1 d)) quarter)
        (fun r => iprop(⌜r = ⟨(lv (arg5.view.read (Elt F) f5) (arg7.view.read (Elt F) f7) kr k0_t2.val (fun _ d => fr2 d)), (lv (arg5.view.read (Elt F) f5) (arg7.view.read (Elt F) f7) kr k0_t2.val (fun _ d => qb d)), (lv (arg5.view.read (Elt F) f5) (arg7.view.read (Elt F) f7) kr k0_t2.val (fun _ d => emask d)), (lv (arg5.view.read (Elt F) f5) (arg7.view.read (Elt F) f7) kr k0_t2.val (fun c d => pr c d 0)), (lv (arg5.view.read (Elt F) f5) (arg7.view.read (Elt F) f7) kr k0_t2.val (fun c d => pr c d 1)), (fun _ => 2#32)⟩⌝ ∗ Rs d i arg5 arg7 arg8 f5 f7 (Done (arg5.view.read (Elt F) f5) (arg7.view.read (Elt F) f7) kr k0_t2.val 9))) := by
  have hg : k0_t2.val < 16 := k0_t2.isLt
  rw [k0_part5_eq_skeleton]; unfold k0_part5_skel
  refine step_assume (chk_of hg fun x => prow_lt _ 0) ?_
  refine step_gather hg (lv (arg5.view.read (Elt F) f5) (arg7.view.read (Elt F) f7) kr k0_t2.val (fun c d => c (prow d 0).toNat)) rfl ?_
  refine step_assume (chk_of hg fun x => prow_succ_lt _ 0) ?_
  refine step_gather hg (lv (arg5.view.read (Elt F) f5) (arg7.view.read (Elt F) f7) kr k0_t2.val (fun c d => c (IntOp.addi (prow d 0) 1#32).toNat)) rfl ?_
  refine step_assume (chk_of hg fun x => prow_lt _ 1) ?_
  refine step_gather hg (lv (arg5.view.read (Elt F) f5) (arg7.view.read (Elt F) f7) kr k0_t2.val (fun c d => c (prow d 1).toNat)) rfl ?_
  refine step_assume (chk_of hg fun x => prow_succ_lt _ 1) ?_
  refine step_gather hg (lv (arg5.view.read (Elt F) f5) (arg7.view.read (Elt F) f7) kr k0_t2.val (fun c d => c (IntOp.addi (prow d 1) 1#32).toNat)) rfl ?_
  exact step_ret (done_ret rfl)

/-- Part 6 of the trip: gathers; no channel stored. -/
theorem part6_spec (k0_t2 : Fin k0_t2_loop.trips) :
    Rs d i arg5 arg7 arg8 f5 f7 (Done (arg5.view.read (Elt F) f5) (arg7.view.read (Elt F) f7) kr k0_t2.val 9)
      ⊢ wp frame (wpE (defs₀ (F := F)) 𝒱₀ (thr d i) none) Set.univ
        (k0_part6 i arg2 harg2 arg3 harg3 arg4 harg4 arg5 harg5 arg6 harg6 arg7 harg7 arg8 harg8 arg9 harg9 arg10 arg11 arg12 arg13 v52_r0 (colv k0_t2.val) (lv (arg5.view.read (Elt F) f5) (arg7.view.read (Elt F) f7) kr k0_t2.val (fun _ d => qb d)) (fun _ => 2#32))
        (fun r => iprop(⌜r = ⟨(lv (arg5.view.read (Elt F) f5) (arg7.view.read (Elt F) f7) kr k0_t2.val (fun c d => pr c d 2)), (lv (arg5.view.read (Elt F) f5) (arg7.view.read (Elt F) f7) kr k0_t2.val (fun c d => pr c d 3)), (lv (arg5.view.read (Elt F) f5) (arg7.view.read (Elt F) f7) kr k0_t2.val (fun c d => pr c d 4)), (fun _ => 5#32)⟩⌝ ∗ Rs d i arg5 arg7 arg8 f5 f7 (Done (arg5.view.read (Elt F) f5) (arg7.view.read (Elt F) f7) kr k0_t2.val 9))) := by
  have hg : k0_t2.val < 16 := k0_t2.isLt
  rw [k0_part6_eq_skeleton]; unfold k0_part6_skel
  refine step_assume (chk_of hg fun x => prow_lt _ 2) ?_
  refine step_gather hg (lv (arg5.view.read (Elt F) f5) (arg7.view.read (Elt F) f7) kr k0_t2.val (fun c d => c (prow d 2).toNat)) rfl ?_
  refine step_assume (chk_of hg fun x => prow_succ_lt _ 2) ?_
  refine step_gather hg (lv (arg5.view.read (Elt F) f5) (arg7.view.read (Elt F) f7) kr k0_t2.val (fun c d => c (IntOp.addi (prow d 2) 1#32).toNat)) rfl ?_
  refine step_assume (chk_of hg fun x => prow_lt _ 3) ?_
  refine step_gather hg (lv (arg5.view.read (Elt F) f5) (arg7.view.read (Elt F) f7) kr k0_t2.val (fun c d => c (prow d 3).toNat)) rfl ?_
  refine step_assume (chk_of hg fun x => prow_succ_lt _ 3) ?_
  refine step_gather hg (lv (arg5.view.read (Elt F) f5) (arg7.view.read (Elt F) f7) kr k0_t2.val (fun c d => c (IntOp.addi (prow d 3) 1#32).toNat)) rfl ?_
  refine step_assume (chk_of hg fun x => prow_lt _ 4) ?_
  refine step_gather hg (lv (arg5.view.read (Elt F) f5) (arg7.view.read (Elt F) f7) kr k0_t2.val (fun c d => c (prow d 4).toNat)) rfl ?_
  refine step_assume (chk_of hg fun x => prow_succ_lt _ 4) ?_
  refine step_gather hg (lv (arg5.view.read (Elt F) f5) (arg7.view.read (Elt F) f7) kr k0_t2.val (fun c d => c (IntOp.addi (prow d 4) 1#32).toNat)) rfl ?_
  exact step_ret (done_ret rfl)

/-- Part 7 of the trip: gathers; no channel stored. -/
theorem part7_spec (k0_t2 : Fin k0_t2_loop.trips) :
    Rs d i arg5 arg7 arg8 f5 f7 (Done (arg5.view.read (Elt F) f5) (arg7.view.read (Elt F) f7) kr k0_t2.val 9)
      ⊢ wp frame (wpE (defs₀ (F := F)) 𝒱₀ (thr d i) none) Set.univ
        (k0_part7 i arg2 harg2 arg3 harg3 arg4 harg4 arg5 harg5 arg6 harg6 arg7 harg7 arg8 harg8 arg9 harg9 arg10 arg11 arg12 arg13 v52_r0 (colv k0_t2.val) (lv (arg5.view.read (Elt F) f5) (arg7.view.read (Elt F) f7) kr k0_t2.val (fun _ d => qb d)) (fun _ => 5#32))
        (fun r => iprop(⌜r = ⟨(lv (arg5.view.read (Elt F) f5) (arg7.view.read (Elt F) f7) kr k0_t2.val (fun c d => pr c d 5)), (lv (arg5.view.read (Elt F) f5) (arg7.view.read (Elt F) f7) kr k0_t2.val (fun c d => pr c d 6)), (lv (arg5.view.read (Elt F) f5) (arg7.view.read (Elt F) f7) kr k0_t2.val (fun c d => pr c d 7)), (fun _ => 8#32)⟩⌝ ∗ Rs d i arg5 arg7 arg8 f5 f7 (Done (arg5.view.read (Elt F) f5) (arg7.view.read (Elt F) f7) kr k0_t2.val 9))) := by
  have hg : k0_t2.val < 16 := k0_t2.isLt
  rw [k0_part7_eq_skeleton]; unfold k0_part7_skel
  refine step_assume (chk_of hg fun x => prow_lt _ 5) ?_
  refine step_gather hg (lv (arg5.view.read (Elt F) f5) (arg7.view.read (Elt F) f7) kr k0_t2.val (fun c d => c (prow d 5).toNat)) rfl ?_
  refine step_assume (chk_of hg fun x => prow_succ_lt _ 5) ?_
  refine step_gather hg (lv (arg5.view.read (Elt F) f5) (arg7.view.read (Elt F) f7) kr k0_t2.val (fun c d => c (IntOp.addi (prow d 5) 1#32).toNat)) rfl ?_
  refine step_assume (chk_of hg fun x => prow_lt _ 6) ?_
  refine step_gather hg (lv (arg5.view.read (Elt F) f5) (arg7.view.read (Elt F) f7) kr k0_t2.val (fun c d => c (prow d 6).toNat)) rfl ?_
  refine step_assume (chk_of hg fun x => prow_succ_lt _ 6) ?_
  refine step_gather hg (lv (arg5.view.read (Elt F) f5) (arg7.view.read (Elt F) f7) kr k0_t2.val (fun c d => c (IntOp.addi (prow d 6) 1#32).toNat)) rfl ?_
  refine step_assume (chk_of hg fun x => prow_lt _ 7) ?_
  refine step_gather hg (lv (arg5.view.read (Elt F) f5) (arg7.view.read (Elt F) f7) kr k0_t2.val (fun c d => c (prow d 7).toNat)) rfl ?_
  refine step_assume (chk_of hg fun x => prow_succ_lt _ 7) ?_
  refine step_gather hg (lv (arg5.view.read (Elt F) f5) (arg7.view.read (Elt F) f7) kr k0_t2.val (fun c d => c (IntOp.addi (prow d 7) 1#32).toNat)) rfl ?_
  exact step_ret (done_ret rfl)

/-- Part 8 of the trip: gathers; no channel stored. -/
theorem part8_spec (k0_t2 : Fin k0_t2_loop.trips) :
    Rs d i arg5 arg7 arg8 f5 f7 (Done (arg5.view.read (Elt F) f5) (arg7.view.read (Elt F) f7) kr k0_t2.val 9)
      ⊢ wp frame (wpE (defs₀ (F := F)) 𝒱₀ (thr d i) none) Set.univ
        (k0_part8 i arg2 harg2 arg3 harg3 arg4 harg4 arg5 harg5 arg6 harg6 arg7 harg7 arg8 harg8 arg9 harg9 arg10 arg11 arg12 arg13 v52_r0 (colv k0_t2.val) (lv (arg5.view.read (Elt F) f5) (arg7.view.read (Elt F) f7) kr k0_t2.val (fun _ d => qb d)) (fun _ => 8#32))
        (fun r => iprop(⌜r = ⟨(lv (arg5.view.read (Elt F) f5) (arg7.view.read (Elt F) f7) kr k0_t2.val (fun c d => pr c d 8)), (lv (arg5.view.read (Elt F) f5) (arg7.view.read (Elt F) f7) kr k0_t2.val (fun c d => pr c d 9)), (lv (arg5.view.read (Elt F) f5) (arg7.view.read (Elt F) f7) kr k0_t2.val (fun c d => pr c d 10)), (fun _ => 11#32)⟩⌝ ∗ Rs d i arg5 arg7 arg8 f5 f7 (Done (arg5.view.read (Elt F) f5) (arg7.view.read (Elt F) f7) kr k0_t2.val 9))) := by
  have hg : k0_t2.val < 16 := k0_t2.isLt
  rw [k0_part8_eq_skeleton]; unfold k0_part8_skel
  refine step_assume (chk_of hg fun x => prow_lt _ 8) ?_
  refine step_gather hg (lv (arg5.view.read (Elt F) f5) (arg7.view.read (Elt F) f7) kr k0_t2.val (fun c d => c (prow d 8).toNat)) rfl ?_
  refine step_assume (chk_of hg fun x => prow_succ_lt _ 8) ?_
  refine step_gather hg (lv (arg5.view.read (Elt F) f5) (arg7.view.read (Elt F) f7) kr k0_t2.val (fun c d => c (IntOp.addi (prow d 8) 1#32).toNat)) rfl ?_
  refine step_assume (chk_of hg fun x => prow_lt _ 9) ?_
  refine step_gather hg (lv (arg5.view.read (Elt F) f5) (arg7.view.read (Elt F) f7) kr k0_t2.val (fun c d => c (prow d 9).toNat)) rfl ?_
  refine step_assume (chk_of hg fun x => prow_succ_lt _ 9) ?_
  refine step_gather hg (lv (arg5.view.read (Elt F) f5) (arg7.view.read (Elt F) f7) kr k0_t2.val (fun c d => c (IntOp.addi (prow d 9) 1#32).toNat)) rfl ?_
  refine step_assume (chk_of hg fun x => prow_lt _ 10) ?_
  refine step_gather hg (lv (arg5.view.read (Elt F) f5) (arg7.view.read (Elt F) f7) kr k0_t2.val (fun c d => c (prow d 10).toNat)) rfl ?_
  refine step_assume (chk_of hg fun x => prow_succ_lt _ 10) ?_
  refine step_gather hg (lv (arg5.view.read (Elt F) f5) (arg7.view.read (Elt F) f7) kr k0_t2.val (fun c d => c (IntOp.addi (prow d 10) 1#32).toNat)) rfl ?_
  exact step_ret (done_ret rfl)

/-- Part 9 of the trip: gathers; no channel stored. -/
theorem part9_spec (k0_t2 : Fin k0_t2_loop.trips) :
    Rs d i arg5 arg7 arg8 f5 f7 (Done (arg5.view.read (Elt F) f5) (arg7.view.read (Elt F) f7) kr k0_t2.val 9)
      ⊢ wp frame (wpE (defs₀ (F := F)) 𝒱₀ (thr d i) none) Set.univ
        (k0_part9 i arg2 harg2 arg3 harg3 arg4 harg4 arg5 harg5 arg6 harg6 arg7 harg7 arg8 harg8 arg9 harg9 arg10 arg11 arg12 arg13 v52_r0 (colv k0_t2.val) (lv (arg5.view.read (Elt F) f5) (arg7.view.read (Elt F) f7) kr k0_t2.val (fun _ d => qb d)) (fun _ => 11#32))
        (fun r => iprop(⌜r = ⟨(lv (arg5.view.read (Elt F) f5) (arg7.view.read (Elt F) f7) kr k0_t2.val (fun c d => pr c d 11)), (lv (arg5.view.read (Elt F) f5) (arg7.view.read (Elt F) f7) kr k0_t2.val (fun c d => pr c d 12)), (lv (arg5.view.read (Elt F) f5) (arg7.view.read (Elt F) f7) kr k0_t2.val (fun c d => pr c d 13)), (fun _ => 14#32)⟩⌝ ∗ Rs d i arg5 arg7 arg8 f5 f7 (Done (arg5.view.read (Elt F) f5) (arg7.view.read (Elt F) f7) kr k0_t2.val 9))) := by
  have hg : k0_t2.val < 16 := k0_t2.isLt
  rw [k0_part9_eq_skeleton]; unfold k0_part9_skel
  refine step_assume (chk_of hg fun x => prow_lt _ 11) ?_
  refine step_gather hg (lv (arg5.view.read (Elt F) f5) (arg7.view.read (Elt F) f7) kr k0_t2.val (fun c d => c (prow d 11).toNat)) rfl ?_
  refine step_assume (chk_of hg fun x => prow_succ_lt _ 11) ?_
  refine step_gather hg (lv (arg5.view.read (Elt F) f5) (arg7.view.read (Elt F) f7) kr k0_t2.val (fun c d => c (IntOp.addi (prow d 11) 1#32).toNat)) rfl ?_
  refine step_assume (chk_of hg fun x => prow_lt _ 12) ?_
  refine step_gather hg (lv (arg5.view.read (Elt F) f5) (arg7.view.read (Elt F) f7) kr k0_t2.val (fun c d => c (prow d 12).toNat)) rfl ?_
  refine step_assume (chk_of hg fun x => prow_succ_lt _ 12) ?_
  refine step_gather hg (lv (arg5.view.read (Elt F) f5) (arg7.view.read (Elt F) f7) kr k0_t2.val (fun c d => c (IntOp.addi (prow d 12) 1#32).toNat)) rfl ?_
  refine step_assume (chk_of hg fun x => prow_lt _ 13) ?_
  refine step_gather hg (lv (arg5.view.read (Elt F) f5) (arg7.view.read (Elt F) f7) kr k0_t2.val (fun c d => c (prow d 13).toNat)) rfl ?_
  refine step_assume (chk_of hg fun x => prow_succ_lt _ 13) ?_
  refine step_gather hg (lv (arg5.view.read (Elt F) f5) (arg7.view.read (Elt F) f7) kr k0_t2.val (fun c d => c (IntOp.addi (prow d 13) 1#32).toNat)) rfl ?_
  exact step_ret (done_ret rfl)

/-- Part 10 of the trip: gathers; no channel stored. -/
theorem part10_spec (k0_t2 : Fin k0_t2_loop.trips) :
    Rs d i arg5 arg7 arg8 f5 f7 (Done (arg5.view.read (Elt F) f5) (arg7.view.read (Elt F) f7) kr k0_t2.val 9)
      ⊢ wp frame (wpE (defs₀ (F := F)) 𝒱₀ (thr d i) none) Set.univ
        (k0_part10 i arg2 harg2 arg3 harg3 arg4 harg4 arg5 harg5 arg6 harg6 arg7 harg7 arg8 harg8 arg9 harg9 arg10 arg11 arg12 arg13 v52_r0 (colv k0_t2.val) (lv (arg5.view.read (Elt F) f5) (arg7.view.read (Elt F) f7) kr k0_t2.val (fun _ d => qb d)) (fun _ => 14#32))
        (fun r => iprop(⌜r = ⟨(lv (arg5.view.read (Elt F) f5) (arg7.view.read (Elt F) f7) kr k0_t2.val (fun c d => pr c d 14)), (lv (arg5.view.read (Elt F) f5) (arg7.view.read (Elt F) f7) kr k0_t2.val (fun c d => pr c d 15)), (lv (arg5.view.read (Elt F) f5) (arg7.view.read (Elt F) f7) kr k0_t2.val (fun c d => pr c d 16)), (fun _ => 17#32)⟩⌝ ∗ Rs d i arg5 arg7 arg8 f5 f7 (Done (arg5.view.read (Elt F) f5) (arg7.view.read (Elt F) f7) kr k0_t2.val 9))) := by
  have hg : k0_t2.val < 16 := k0_t2.isLt
  rw [k0_part10_eq_skeleton]; unfold k0_part10_skel
  refine step_assume (chk_of hg fun x => prow_lt _ 14) ?_
  refine step_gather hg (lv (arg5.view.read (Elt F) f5) (arg7.view.read (Elt F) f7) kr k0_t2.val (fun c d => c (prow d 14).toNat)) rfl ?_
  refine step_assume (chk_of hg fun x => prow_succ_lt _ 14) ?_
  refine step_gather hg (lv (arg5.view.read (Elt F) f5) (arg7.view.read (Elt F) f7) kr k0_t2.val (fun c d => c (IntOp.addi (prow d 14) 1#32).toNat)) rfl ?_
  refine step_assume (chk_of hg fun x => prow_lt _ 15) ?_
  refine step_gather hg (lv (arg5.view.read (Elt F) f5) (arg7.view.read (Elt F) f7) kr k0_t2.val (fun c d => c (prow d 15).toNat)) rfl ?_
  refine step_assume (chk_of hg fun x => prow_succ_lt _ 15) ?_
  refine step_gather hg (lv (arg5.view.read (Elt F) f5) (arg7.view.read (Elt F) f7) kr k0_t2.val (fun c d => c (IntOp.addi (prow d 15) 1#32).toNat)) rfl ?_
  refine step_assume (chk_of hg fun x => prow_lt _ 16) ?_
  refine step_gather hg (lv (arg5.view.read (Elt F) f5) (arg7.view.read (Elt F) f7) kr k0_t2.val (fun c d => c (prow d 16).toNat)) rfl ?_
  refine step_assume (chk_of hg fun x => prow_succ_lt _ 16) ?_
  refine step_gather hg (lv (arg5.view.read (Elt F) f5) (arg7.view.read (Elt F) f7) kr k0_t2.val (fun c d => c (IntOp.addi (prow d 16) 1#32).toNat)) rfl ?_
  exact step_ret (done_ret rfl)

/-- Part 11 of the trip: gathers; no channel stored. -/
theorem part11_spec (k0_t2 : Fin k0_t2_loop.trips) :
    Rs d i arg5 arg7 arg8 f5 f7 (Done (arg5.view.read (Elt F) f5) (arg7.view.read (Elt F) f7) kr k0_t2.val 9)
      ⊢ wp frame (wpE (defs₀ (F := F)) 𝒱₀ (thr d i) none) Set.univ
        (k0_part11 i arg2 harg2 arg3 harg3 arg4 harg4 arg5 harg5 arg6 harg6 arg7 harg7 arg8 harg8 arg9 harg9 arg10 arg11 arg12 arg13 v52_r0 (colv k0_t2.val) (lv (arg5.view.read (Elt F) f5) (arg7.view.read (Elt F) f7) kr k0_t2.val (fun _ d => qb d)) (fun _ => 17#32))
        (fun r => iprop(⌜r = ⟨(lv (arg5.view.read (Elt F) f5) (arg7.view.read (Elt F) f7) kr k0_t2.val (fun c d => pr c d 17)), (lv (arg5.view.read (Elt F) f5) (arg7.view.read (Elt F) f7) kr k0_t2.val (fun c d => pr c d 18)), (lv (arg5.view.read (Elt F) f5) (arg7.view.read (Elt F) f7) kr k0_t2.val (fun c d => pr c d 19)), (fun _ => 124#32)⟩⌝ ∗ Rs d i arg5 arg7 arg8 f5 f7 (Done (arg5.view.read (Elt F) f5) (arg7.view.read (Elt F) f7) kr k0_t2.val 9))) := by
  have hg : k0_t2.val < 16 := k0_t2.isLt
  rw [k0_part11_eq_skeleton]; unfold k0_part11_skel
  refine step_assume (chk_of hg fun x => prow_lt _ 17) ?_
  refine step_gather hg (lv (arg5.view.read (Elt F) f5) (arg7.view.read (Elt F) f7) kr k0_t2.val (fun c d => c (prow d 17).toNat)) rfl ?_
  refine step_assume (chk_of hg fun x => prow_succ_lt _ 17) ?_
  refine step_gather hg (lv (arg5.view.read (Elt F) f5) (arg7.view.read (Elt F) f7) kr k0_t2.val (fun c d => c (IntOp.addi (prow d 17) 1#32).toNat)) rfl ?_
  refine step_assume (chk_of hg fun x => prow_lt _ 18) ?_
  refine step_gather hg (lv (arg5.view.read (Elt F) f5) (arg7.view.read (Elt F) f7) kr k0_t2.val (fun c d => c (prow d 18).toNat)) rfl ?_
  refine step_assume (chk_of hg fun x => prow_succ_lt _ 18) ?_
  refine step_gather hg (lv (arg5.view.read (Elt F) f5) (arg7.view.read (Elt F) f7) kr k0_t2.val (fun c d => c (IntOp.addi (prow d 18) 1#32).toNat)) rfl ?_
  refine step_assume (chk_of hg fun x => prow_lt _ 19) ?_
  refine step_gather hg (lv (arg5.view.read (Elt F) f5) (arg7.view.read (Elt F) f7) kr k0_t2.val (fun c d => c (prow d 19).toNat)) rfl ?_
  refine step_assume (chk_of hg fun x => prow_succ_lt _ 19) ?_
  refine step_gather hg (lv (arg5.view.read (Elt F) f5) (arg7.view.read (Elt F) f7) kr k0_t2.val (fun c d => c (IntOp.addi (prow d 19) 1#32).toNat)) rfl ?_
  exact step_ret (done_ret rfl)

/-- Part 12 of the trip: channels 9 to 11 stored. -/
theorem part12_spec (k0_t2 : Fin k0_t2_loop.trips) (v93 : BitVec 32) :
    Rs d i arg5 arg7 arg8 f5 f7 (Done (arg5.view.read (Elt F) f5) (arg7.view.read (Elt F) f7) kr k0_t2.val 9)
      ⊢ wp frame (wpE (defs₀ (F := F)) 𝒱₀ (thr d i) none) Set.univ
        (k0_part12 i arg2 harg2 arg3 harg3 arg4 harg4 arg5 harg5 arg6 harg6 arg7 harg7 arg8 harg8 arg9 harg9 arg10 arg11 arg12 arg13 v52_r0 k0_t2 v93 (colv k0_t2.val) (lv (arg5.view.read (Elt F) f5) (arg7.view.read (Elt F) f7) kr k0_t2.val (fun _ d => fr1 d)) (lv (arg5.view.read (Elt F) f5) (arg7.view.read (Elt F) f7) kr k0_t2.val (fun _ d => emask d)) (lv (arg5.view.read (Elt F) f5) (arg7.view.read (Elt F) f7) kr k0_t2.val (fun c d => pr c d 4)) (lv (arg5.view.read (Elt F) f5) (arg7.view.read (Elt F) f7) kr k0_t2.val (fun c d => pr c d 5)) (lv (arg5.view.read (Elt F) f5) (arg7.view.read (Elt F) f7) kr k0_t2.val (fun c d => pr c d 6)) (lv (arg5.view.read (Elt F) f5) (arg7.view.read (Elt F) f7) kr k0_t2.val (fun c d => pr c d 7)) (lv (arg5.view.read (Elt F) f5) (arg7.view.read (Elt F) f7) kr k0_t2.val (fun c d => pr c d 8)) (lv (arg5.view.read (Elt F) f5) (arg7.view.read (Elt F) f7) kr k0_t2.val (fun c d => pr c d 9)) (fun _ => 124#32))
        (fun r => iprop(⌜r = ⟨(lv (arg5.view.read (Elt F) f5) (arg7.view.read (Elt F) f7) kr k0_t2.val (fun c _ => p62 c)), (lv (arg5.view.read (Elt F) f5) (arg7.view.read (Elt F) f7) kr k0_t2.val (fun c _ => p1 c)), (lv (arg5.view.read (Elt F) f5) (arg7.view.read (Elt F) f7) kr k0_t2.val (fun _ d => w1b d)), (lv (arg5.view.read (Elt F) f5) (arg7.view.read (Elt F) f7) kr k0_t2.val (fun _ d => w0b d)), (lv (arg5.view.read (Elt F) f5) (arg7.view.read (Elt F) f7) kr k0_t2.val (fun c d => s1 c d 3)), (lv (arg5.view.read (Elt F) f5) (arg7.view.read (Elt F) f7) kr k0_t2.val (fun c d => s1 c d 4))⟩⌝ ∗ Rs d i arg5 arg7 arg8 f5 f7 (Done (arg5.view.read (Elt F) f5) (arg7.view.read (Elt F) f7) kr k0_t2.val 12))) := by
  have hg : k0_t2.val < 16 := k0_t2.isLt
  rw [k0_part12_eq_skeleton]; unfold k0_part12_skel
  refine step_assume (chk_of hg fun x => show (124#32 : BitVec 32).toNat < 128 from by decide) ?_
  refine step_gather hg (lv (arg5.view.read (Elt F) f5) (arg7.view.read (Elt F) f7) kr k0_t2.val (fun c _ => c (124#32).toNat)) rfl ?_
  refine step_assume (chk_of hg fun x => show (125#32 : BitVec 32).toNat < 128 from by decide) ?_
  refine step_gather hg (lv (arg5.view.read (Elt F) f5) (arg7.view.read (Elt F) f7) kr k0_t2.val (fun c _ => c (125#32).toNat)) rfl ?_
  refine step_assume (chk_of hg fun x => show (2#32 : BitVec 32).toNat < 128 from by decide) ?_
  refine step_gather hg (lv (arg5.view.read (Elt F) f5) (arg7.view.read (Elt F) f7) kr k0_t2.val (fun c _ => c (2#32).toNat)) rfl ?_
  refine step_assume (chk_of hg fun x => show (3#32 : BitVec 32).toNat < 128 from by decide) ?_
  refine step_gather hg (lv (arg5.view.read (Elt F) f5) (arg7.view.read (Elt F) f7) kr k0_t2.val (fun c _ => c (3#32).toNat)) rfl ?_
  refine step_dead fun _ => ?_
  refine step_store ((k0_off15_eq k0_t2)) rfl ?_
  refine step_dead fun _ => ?_
  refine step_store ((k0_off16_eq k0_t2)) rfl ?_
  refine step_dead fun _ => ?_
  refine step_store ((k0_off17_eq k0_t2)) rfl ?_
  exact step_ret (done_ret rfl)

/-- Part 13 of the trip: channels 12 to 16 stored. -/
theorem part13_spec (k0_t2 : Fin k0_t2_loop.trips) (v93 : BitVec 32) :
    Rs d i arg5 arg7 arg8 f5 f7 (Done (arg5.view.read (Elt F) f5) (arg7.view.read (Elt F) f7) kr k0_t2.val 12)
      ⊢ wp frame (wpE (defs₀ (F := F)) 𝒱₀ (thr d i) none) Set.univ
        (k0_part13 i arg2 harg2 arg3 harg3 arg4 harg4 arg5 harg5 arg6 harg6 arg7 harg7 arg8 harg8 arg9 harg9 arg10 arg11 arg12 arg13 v52_r0 k0_t2 v93 (lv (arg5.view.read (Elt F) f5) (arg7.view.read (Elt F) f7) kr k0_t2.val (fun _ d => emask d)) (lv (arg5.view.read (Elt F) f5) (arg7.view.read (Elt F) f7) kr k0_t2.val (fun c d => pr c d 9)) (lv (arg5.view.read (Elt F) f5) (arg7.view.read (Elt F) f7) kr k0_t2.val (fun c d => pr c d 10)) (lv (arg5.view.read (Elt F) f5) (arg7.view.read (Elt F) f7) kr k0_t2.val (fun c d => pr c d 11)) (lv (arg5.view.read (Elt F) f5) (arg7.view.read (Elt F) f7) kr k0_t2.val (fun c d => pr c d 12)) (lv (arg5.view.read (Elt F) f5) (arg7.view.read (Elt F) f7) kr k0_t2.val (fun c d => pr c d 13)) (lv (arg5.view.read (Elt F) f5) (arg7.view.read (Elt F) f7) kr k0_t2.val (fun c d => pr c d 14)) (lv (arg5.view.read (Elt F) f5) (arg7.view.read (Elt F) f7) kr k0_t2.val (fun _ d => w1b d)) (lv (arg5.view.read (Elt F) f5) (arg7.view.read (Elt F) f7) kr k0_t2.val (fun _ d => w0b d)) (lv (arg5.view.read (Elt F) f5) (arg7.view.read (Elt F) f7) kr k0_t2.val (fun c d => s1 c d 3)) (lv (arg5.view.read (Elt F) f5) (arg7.view.read (Elt F) f7) kr k0_t2.val (fun c d => s1 c d 4)))
        (fun r => iprop(⌜r = ⟨(lv (arg5.view.read (Elt F) f5) (arg7.view.read (Elt F) f7) kr k0_t2.val (fun c d => s1 c d 8)), (lv (arg5.view.read (Elt F) f5) (arg7.view.read (Elt F) f7) kr k0_t2.val (fun c d => s1 c d 9))⟩⌝ ∗ Rs d i arg5 arg7 arg8 f5 f7 (Done (arg5.view.read (Elt F) f5) (arg7.view.read (Elt F) f7) kr k0_t2.val 17))) := by
  have hg : k0_t2.val < 16 := k0_t2.isLt
  rw [k0_part13_eq_skeleton]; unfold k0_part13_skel
  refine step_dead fun _ => ?_
  refine step_store ((k0_off18_eq k0_t2)) rfl ?_
  refine step_dead fun _ => ?_
  refine step_store ((k0_off19_eq k0_t2)) rfl ?_
  refine step_dead fun _ => ?_
  refine step_store ((k0_off20_eq k0_t2)) rfl ?_
  refine step_dead fun _ => ?_
  refine step_store ((k0_off21_eq k0_t2)) rfl ?_
  refine step_dead fun _ => ?_
  refine step_store ((k0_off22_eq k0_t2)) rfl ?_
  exact step_ret (done_ret rfl)

/-- Part 14 of the trip: channels 17 to 19 stored. -/
theorem part14_spec (k0_t2 : Fin k0_t2_loop.trips) (v93 : BitVec 32) :
    Rs d i arg5 arg7 arg8 f5 f7 (Done (arg5.view.read (Elt F) f5) (arg7.view.read (Elt F) f7) kr k0_t2.val 17)
      ⊢ wp frame (wpE (defs₀ (F := F)) 𝒱₀ (thr d i) none) Set.univ
        (k0_part14 i arg2 harg2 arg3 harg3 arg4 harg4 arg5 harg5 arg6 harg6 arg7 harg7 arg8 harg8 arg9 harg9 arg10 arg11 arg12 arg13 v52_r0 k0_t2 v93 (lv (arg5.view.read (Elt F) f5) (arg7.view.read (Elt F) f7) kr k0_t2.val (fun _ d => fr2 d)) (lv (arg5.view.read (Elt F) f5) (arg7.view.read (Elt F) f7) kr k0_t2.val (fun _ d => qb d)) (lv (arg5.view.read (Elt F) f5) (arg7.view.read (Elt F) f7) kr k0_t2.val (fun c d => pr c d 0)) (lv (arg5.view.read (Elt F) f5) (arg7.view.read (Elt F) f7) kr k0_t2.val (fun c d => pr c d 1)) (lv (arg5.view.read (Elt F) f5) (arg7.view.read (Elt F) f7) kr k0_t2.val (fun c d => pr c d 2)) (lv (arg5.view.read (Elt F) f5) (arg7.view.read (Elt F) f7) kr k0_t2.val (fun c d => pr c d 3)) (lv (arg5.view.read (Elt F) f5) (arg7.view.read (Elt F) f7) kr k0_t2.val (fun c d => pr c d 4)) (lv (arg5.view.read (Elt F) f5) (arg7.view.read (Elt F) f7) kr k0_t2.val (fun c d => pr c d 5)) (lv (arg5.view.read (Elt F) f5) (arg7.view.read (Elt F) f7) kr k0_t2.val (fun c d => pr c d 6)) (lv (arg5.view.read (Elt F) f5) (arg7.view.read (Elt F) f7) kr k0_t2.val (fun c d => pr c d 7)) (lv (arg5.view.read (Elt F) f5) (arg7.view.read (Elt F) f7) kr k0_t2.val (fun c _ => p1 c)) (lv (arg5.view.read (Elt F) f5) (arg7.view.read (Elt F) f7) kr k0_t2.val (fun _ d => w1b d)) (lv (arg5.view.read (Elt F) f5) (arg7.view.read (Elt F) f7) kr k0_t2.val (fun _ d => w0b d)) (lv (arg5.view.read (Elt F) f5) (arg7.view.read (Elt F) f7) kr k0_t2.val (fun c d => s1 c d 8)) (lv (arg5.view.read (Elt F) f5) (arg7.view.read (Elt F) f7) kr k0_t2.val (fun c d => s1 c d 9)))
        (fun r => iprop(⌜r = ⟨(lv (arg5.view.read (Elt F) f5) (arg7.view.read (Elt F) f7) kr k0_t2.val (fun _ d => w1c d)), (lv (arg5.view.read (Elt F) f5) (arg7.view.read (Elt F) f7) kr k0_t2.val (fun _ d => w0c d)), (lv (arg5.view.read (Elt F) f5) (arg7.view.read (Elt F) f7) kr k0_t2.val (fun c d => s2 c d 3)), (lv (arg5.view.read (Elt F) f5) (arg7.view.read (Elt F) f7) kr k0_t2.val (fun c d => FloatOps.mulf (w0c d) (s2 c d 2)))⟩⌝ ∗ Rs d i arg5 arg7 arg8 f5 f7 (Done (arg5.view.read (Elt F) f5) (arg7.view.read (Elt F) f7) kr k0_t2.val 20))) := by
  have hg : k0_t2.val < 16 := k0_t2.isLt
  rw [k0_part14_eq_skeleton]; unfold k0_part14_skel
  refine step_dead fun _ => ?_
  refine step_store ((k0_off23_eq k0_t2)) rfl ?_
  refine step_dead fun _ => ?_
  refine step_store ((k0_off24_eq k0_t2)) rfl ?_
  refine step_dead fun _ => ?_
  refine step_store ((k0_off25_eq k0_t2)) rfl ?_
  exact step_ret (done_ret rfl)

/-- Part 15 of the trip: channels 20 to 23 stored. -/
theorem part15_spec (k0_t2 : Fin k0_t2_loop.trips) (v93 : BitVec 32) :
    Rs d i arg5 arg7 arg8 f5 f7 (Done (arg5.view.read (Elt F) f5) (arg7.view.read (Elt F) f7) kr k0_t2.val 20)
      ⊢ wp frame (wpE (defs₀ (F := F)) 𝒱₀ (thr d i) none) Set.univ
        (k0_part15 i arg2 harg2 arg3 harg3 arg4 harg4 arg5 harg5 arg6 harg6 arg7 harg7 arg8 harg8 arg9 harg9 arg10 arg11 arg12 arg13 v52_r0 k0_t2 v93 (lv (arg5.view.read (Elt F) f5) (arg7.view.read (Elt F) f7) kr k0_t2.val (fun _ d => qb d)) (lv (arg5.view.read (Elt F) f5) (arg7.view.read (Elt F) f7) kr k0_t2.val (fun c d => pr c d 8)) (lv (arg5.view.read (Elt F) f5) (arg7.view.read (Elt F) f7) kr k0_t2.val (fun c d => pr c d 9)) (lv (arg5.view.read (Elt F) f5) (arg7.view.read (Elt F) f7) kr k0_t2.val (fun c d => pr c d 10)) (lv (arg5.view.read (Elt F) f5) (arg7.view.read (Elt F) f7) kr k0_t2.val (fun c d => pr c d 11)) (lv (arg5.view.read (Elt F) f5) (arg7.view.read (Elt F) f7) kr k0_t2.val (fun c d => pr c d 12)) (lv (arg5.view.read (Elt F) f5) (arg7.view.read (Elt F) f7) kr k0_t2.val (fun c d => pr c d 13)) (lv (arg5.view.read (Elt F) f5) (arg7.view.read (Elt F) f7) kr k0_t2.val (fun c d => pr c d 14)) (lv (arg5.view.read (Elt F) f5) (arg7.view.read (Elt F) f7) kr k0_t2.val (fun c d => pr c d 15)) (lv (arg5.view.read (Elt F) f5) (arg7.view.read (Elt F) f7) kr k0_t2.val (fun c _ => p62 c)) (lv (arg5.view.read (Elt F) f5) (arg7.view.read (Elt F) f7) kr k0_t2.val (fun _ d => w1c d)) (lv (arg5.view.read (Elt F) f5) (arg7.view.read (Elt F) f7) kr k0_t2.val (fun _ d => w0c d)) (lv (arg5.view.read (Elt F) f5) (arg7.view.read (Elt F) f7) kr k0_t2.val (fun c d => s2 c d 3)) (lv (arg5.view.read (Elt F) f5) (arg7.view.read (Elt F) f7) kr k0_t2.val (fun c d => FloatOps.mulf (w0c d) (s2 c d 2))))
        (fun r => iprop(⌜r = ⟨(lv (arg5.view.read (Elt F) f5) (arg7.view.read (Elt F) f7) kr k0_t2.val (fun c d => s2 c d 7)), (lv (arg5.view.read (Elt F) f5) (arg7.view.read (Elt F) f7) kr k0_t2.val (fun c d => FloatOps.mulf (w0c d) (s2 c d 6)))⟩⌝ ∗ Rs d i arg5 arg7 arg8 f5 f7 (Done (arg5.view.read (Elt F) f5) (arg7.view.read (Elt F) f7) kr k0_t2.val 24))) := by
  have hg : k0_t2.val < 16 := k0_t2.isLt
  rw [k0_part15_eq_skeleton]; unfold k0_part15_skel
  refine step_dead fun _ => ?_
  refine step_store ((k0_off26_eq k0_t2)) rfl ?_
  refine step_dead fun _ => ?_
  refine step_store ((k0_off27_eq k0_t2)) rfl ?_
  refine step_dead fun _ => ?_
  refine step_store ((k0_off28_eq k0_t2)) rfl ?_
  refine step_dead fun _ => ?_
  refine step_store ((k0_off29_eq k0_t2)) rfl ?_
  exact step_ret (done_ret rfl)

end Cert.Proof.Sc
-- ==== Proof.Sc.TripB.lean ====
/- The fifteen parts of a trip over a group of sixteen lanes of an odd row: each part gathers from the column
   block and stores channels, and hands the next part its values, every one a function of the lane's column and disparity. -/
module

public import proofs.«01_k».proof.Proof.Sc.Rules
public import proofs.«01_k».proof.Proof.Gen.KernelIdeal.Skeleton

@[expose] public section

set_option maxRecDepth 65536

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords) (arg2 : Memref sig .scVector .hbm S4x128x128x256 .f32) (harg2 : arg2.IsWhole) (arg3 : Memref sig .scVector .hbm S4x1x128x256 .f32) (harg3 : arg3.IsWhole) (arg4 : Memref sig .scVector .hbm S4x27x128x256 .f32) (harg4 : arg4.IsWhole) (arg5 : Memref sig .scVector .vmem S128x256 .f32) (harg5 : arg5.IsWhole) (arg6 : Memref sig .scVector .vmem S128x256 .f32) (harg6 : arg6.IsWhole) (arg7 : Memref sig .scVector .vmem S16x256 .f32) (harg7 : arg7.IsWhole) (arg8 : Memref sig .scVector .vmem S27x256 .f32) (harg8 : arg8.IsWhole) (arg9 : Memref sig .scVector .vmem S27x256 .f32) (harg9 : arg9.IsWhole) (arg10 : DmaSems sig S_) (arg11 : DmaSems sig S_) (arg12 : DmaSems sig S_) (arg13 : DmaSems sig S_) (v52_r0 : DmaSems sig S_)
variable (f5 : Buf (Elt F) (arg6.view.loc (thr d i))) (f7 : Buf (Elt F) (arg7.view.loc (thr d i))) (kr : ℕ)

/-- Part 16 of the trip: the disparities loaded, channel 0 stored. -/
theorem part16_spec (k0_t1 : Fin k0_t1_loop.trips) (v73 : BitVec 32) (k0_t3 : Fin k0_t3_loop.trips) (hkr : kr = 2 * k0_t1.val + 1) :
    Rs d i arg6 arg7 arg9 f5 f7 (Done (arg6.view.read (Elt F) f5) (arg7.view.read (Elt F) f7) kr k0_t3.val 0)
      ⊢ wp frame (wpE (defs₀ (F := F)) 𝒱₀ (thr d i) none) Set.univ
        (k0_part16 i arg2 harg2 arg3 harg3 arg4 harg4 arg5 harg5 arg6 harg6 arg7 harg7 arg8 harg8 arg9 harg9 arg10 arg11 arg12 arg13 v52_r0 (iota .scVector S16 32 [0] iota_S16_d0_w32_scVector) k0_t1 v73 0#32 1#32 k0_t3)
        (fun r => iprop(⌜r = ⟨Scalar.addi 0#32 (Scalar.muli (Scf.iv 0#32 1#32 k0_t3) 1#32), (colv k0_t3.val), (lv (arg6.view.read (Elt F) f5) (arg7.view.read (Elt F) f7) kr k0_t3.val (fun _ d => d)), (lv (arg6.view.read (Elt F) f5) (arg7.view.read (Elt F) f7) kr k0_t3.val (fun _ d => fr0 d)), (lv (arg6.view.read (Elt F) f5) (arg7.view.read (Elt F) f7) kr k0_t3.val (fun _ d => IntOp.subi (t0 d) 4#32)), (lv (arg6.view.read (Elt F) f5) (arg7.view.read (Elt F) f7) kr k0_t3.val (fun _ d => w0a d)), (lv (arg6.view.read (Elt F) f5) (arg7.view.read (Elt F) f7) kr k0_t3.val (fun c d => s0 c d 1)), (lv (arg6.view.read (Elt F) f5) (arg7.view.read (Elt F) f7) kr k0_t3.val (fun _ d => IntOp.addi (IntOp.subi (t0 d) 4#32) 2#32))⟩⌝ ∗ Rs d i arg6 arg7 arg9 f5 f7 (Done (arg6.view.read (Elt F) f5) (arg7.view.read (Elt F) f7) kr k0_t3.val 1))) := by
  subst hkr
  have hg : k0_t3.val < 16 := k0_t3.isLt
  have e96 : k0_pay147 (iota .scVector S16 32 [0] iota_S16_d0_w32_scVector) 0#32 1#32 k0_t3 = colv k0_t3.val :=
    cols_eq k0_t3.val hg _ (colbase_eq ⟨k0_t3.val, hg⟩)
  rw [k0_part16_eq_skeleton]; unfold k0_part16_skel
  refine step_disp (k0_off36_eq k0_t1 k0_t3) fun ld hld => ?_
  refine step_assume (chk_ofC e96 hg fun x => row0_lt _ 0) ?_
  refine step_gatherC e96 hg (lv (arg6.view.read (Elt F) f5) (arg7.view.read (Elt F) f7) (2 * k0_t1.val + 1) k0_t3.val fun c d => s0 c d 0) (of_ld hld fun x d => s0 (lane (arg6.view.read (Elt F) f5) k0_t3.val x) d 0) ?_
  refine step_assume (chk_ofC e96 hg fun x => row0_lt _ 1) ?_
  refine step_gatherC e96 hg (lv (arg6.view.read (Elt F) f5) (arg7.view.read (Elt F) f7) (2 * k0_t1.val + 1) k0_t3.val fun c d => s0 c d 1) (of_ld hld fun x d => s0 (lane (arg6.view.read (Elt F) f5) k0_t3.val x) d 1) ?_
  refine step_dead fun _ => ?_
  refine step_store (k0_off37_eq k0_t3) ((of_ld hld fun x d => FloatOps.addf (FloatOps.mulf (w0a d) (s0 (lane (arg6.view.read (Elt F) f5) k0_t3.val x) (dlane (arg7.view.read (Elt F) f7) (2 * k0_t1.val + 1) k0_t3.val x) 0)) (FloatOps.mulf (fr0 d) (s0 (lane (arg6.view.read (Elt F) f5) k0_t3.val x) (dlane (arg7.view.read (Elt F) f7) (2 * k0_t1.val + 1) k0_t3.val x) 1))).trans rfl) ?_
  have e6 : k0_pay148 ld = lv (arg6.view.read (Elt F) f5) (arg7.view.read (Elt F) f7) (2 * k0_t1.val + 1) k0_t3.val fun _ d => d := hld
  have e8 : k0_pay150 ld = lv (arg6.view.read (Elt F) f5) (arg7.view.read (Elt F) f7) (2 * k0_t1.val + 1) k0_t3.val fun _ d => fr0 d := of_ld hld fun _ d => fr0 d
  have e9 : k0_pay151 ld = lv (arg6.view.read (Elt F) f5) (arg7.view.read (Elt F) f7) (2 * k0_t1.val + 1) k0_t3.val fun _ d => IntOp.subi (t0 d) 4#32 := of_ld hld fun _ d => IntOp.subi (t0 d) 4#32
  have ea : k0_pay152 ld = lv (arg6.view.read (Elt F) f5) (arg7.view.read (Elt F) f7) (2 * k0_t1.val + 1) k0_t3.val fun _ d => w0a d := of_ld hld fun _ d => w0a d
  have eb : k0_pay156 ld = lv (arg6.view.read (Elt F) f5) (arg7.view.read (Elt F) f7) (2 * k0_t1.val + 1) k0_t3.val fun _ d => IntOp.addi (IntOp.subi (t0 d) 4#32) 2#32 := of_ld hld fun _ d => IntOp.addi (IntOp.subi (t0 d) 4#32) 2#32
  exact step_ret (done_ret (by rw [e96, e6, e8, e9, ea, eb]))

/-- Part 17 of the trip: channels 1 to 2 stored. -/
theorem part17_spec (k0_t3 : Fin k0_t3_loop.trips) (v93 : BitVec 32) :
    Rs d i arg6 arg7 arg9 f5 f7 (Done (arg6.view.read (Elt F) f5) (arg7.view.read (Elt F) f7) kr k0_t3.val 1)
      ⊢ wp frame (wpE (defs₀ (F := F)) 𝒱₀ (thr d i) none) Set.univ
        (k0_part17 i arg2 harg2 arg3 harg3 arg4 harg4 arg5 harg5 arg6 harg6 arg7 harg7 arg8 harg8 arg9 harg9 arg10 arg11 arg12 arg13 v52_r0 k0_t3 v93 (colv k0_t3.val) (lv (arg6.view.read (Elt F) f5) (arg7.view.read (Elt F) f7) kr k0_t3.val (fun _ d => fr0 d)) (lv (arg6.view.read (Elt F) f5) (arg7.view.read (Elt F) f7) kr k0_t3.val (fun _ d => IntOp.subi (t0 d) 4#32)) (lv (arg6.view.read (Elt F) f5) (arg7.view.read (Elt F) f7) kr k0_t3.val (fun _ d => w0a d)) (lv (arg6.view.read (Elt F) f5) (arg7.view.read (Elt F) f7) kr k0_t3.val (fun c d => s0 c d 1)) (lv (arg6.view.read (Elt F) f5) (arg7.view.read (Elt F) f7) kr k0_t3.val (fun _ d => IntOp.addi (IntOp.subi (t0 d) 4#32) 2#32)))
        (fun r => iprop(⌜r = ⟨(lv (arg6.view.read (Elt F) f5) (arg7.view.read (Elt F) f7) kr k0_t3.val (fun c d => s0 c d 4)), (lv (arg6.view.read (Elt F) f5) (arg7.view.read (Elt F) f7) kr k0_t3.val (fun c d => lvl0 c d 3))⟩⌝ ∗ Rs d i arg6 arg7 arg9 f5 f7 (Done (arg6.view.read (Elt F) f5) (arg7.view.read (Elt F) f7) kr k0_t3.val 3))) := by
  have hg : k0_t3.val < 16 := k0_t3.isLt
  rw [k0_part17_eq_skeleton]; unfold k0_part17_skel
  refine step_assume (chk_of hg fun x => row0_lt _ 2) ?_
  refine step_gather hg (lv (arg6.view.read (Elt F) f5) (arg7.view.read (Elt F) f7) kr k0_t3.val (fun c d => s0 c d 2)) rfl ?_
  refine step_dead fun _ => ?_
  refine step_store ((k0_off38_eq k0_t3)) rfl ?_
  refine step_assume (chk_of hg fun x => row0_lt _ 3) ?_
  refine step_gather hg (lv (arg6.view.read (Elt F) f5) (arg7.view.read (Elt F) f7) kr k0_t3.val (fun c d => s0 c d 3)) rfl ?_
  refine step_dead fun _ => ?_
  refine step_store ((k0_off39_eq k0_t3)) rfl ?_
  refine step_assume (chk_of hg fun x => row0_lt _ 4) ?_
  refine step_gather hg (lv (arg6.view.read (Elt F) f5) (arg7.view.read (Elt F) f7) kr k0_t3.val (fun c d => s0 c d 4)) rfl ?_
  exact step_ret (done_ret rfl)

/-- Part 18 of the trip: channels 3 to 5 stored. -/
theorem part18_spec (k0_t3 : Fin k0_t3_loop.trips) (v93 : BitVec 32) :
    Rs d i arg6 arg7 arg9 f5 f7 (Done (arg6.view.read (Elt F) f5) (arg7.view.read (Elt F) f7) kr k0_t3.val 3)
      ⊢ wp frame (wpE (defs₀ (F := F)) 𝒱₀ (thr d i) none) Set.univ
        (k0_part18 i arg2 harg2 arg3 harg3 arg4 harg4 arg5 harg5 arg6 harg6 arg7 harg7 arg8 harg8 arg9 harg9 arg10 arg11 arg12 arg13 v52_r0 k0_t3 v93 (colv k0_t3.val) (lv (arg6.view.read (Elt F) f5) (arg7.view.read (Elt F) f7) kr k0_t3.val (fun _ d => fr0 d)) (lv (arg6.view.read (Elt F) f5) (arg7.view.read (Elt F) f7) kr k0_t3.val (fun _ d => IntOp.subi (t0 d) 4#32)) (lv (arg6.view.read (Elt F) f5) (arg7.view.read (Elt F) f7) kr k0_t3.val (fun _ d => w0a d)) (lv (arg6.view.read (Elt F) f5) (arg7.view.read (Elt F) f7) kr k0_t3.val (fun c d => s0 c d 4)) (lv (arg6.view.read (Elt F) f5) (arg7.view.read (Elt F) f7) kr k0_t3.val (fun c d => lvl0 c d 3)))
        (fun r => iprop(⌜r = ⟨(lv (arg6.view.read (Elt F) f5) (arg7.view.read (Elt F) f7) kr k0_t3.val (fun c d => s0 c d 7)), (lv (arg6.view.read (Elt F) f5) (arg7.view.read (Elt F) f7) kr k0_t3.val (fun c d => FloatOps.mulf (w0a d) (s0 c d 6))), (lv (arg6.view.read (Elt F) f5) (arg7.view.read (Elt F) f7) kr k0_t3.val (fun c d => FloatOps.mulf (fr0 d) (s0 c d 7)))⟩⌝ ∗ Rs d i arg6 arg7 arg9 f5 f7 (Done (arg6.view.read (Elt F) f5) (arg7.view.read (Elt F) f7) kr k0_t3.val 6))) := by
  have hg : k0_t3.val < 16 := k0_t3.isLt
  rw [k0_part18_eq_skeleton]; unfold k0_part18_skel
  refine step_dead fun _ => ?_
  refine step_store ((k0_off40_eq k0_t3)) rfl ?_
  refine step_assume (chk_of hg fun x => row0_lt _ 5) ?_
  refine step_gather hg (lv (arg6.view.read (Elt F) f5) (arg7.view.read (Elt F) f7) kr k0_t3.val (fun c d => s0 c d 5)) rfl ?_
  refine step_dead fun _ => ?_
  refine step_store ((k0_off41_eq k0_t3)) rfl ?_
  refine step_assume (chk_of hg fun x => row0_lt _ 6) ?_
  refine step_gather hg (lv (arg6.view.read (Elt F) f5) (arg7.view.read (Elt F) f7) kr k0_t3.val (fun c d => s0 c d 6)) rfl ?_
  refine step_dead fun _ => ?_
  refine step_store ((k0_off42_eq k0_t3)) rfl ?_
  refine step_assume (chk_of hg fun x => row0_lt _ 7) ?_
  refine step_gather hg (lv (arg6.view.read (Elt F) f5) (arg7.view.read (Elt F) f7) kr k0_t3.val (fun c d => s0 c d 7)) rfl ?_
  exact step_ret (done_ret rfl)

/-- Part 19 of the trip: channels 6 to 8 stored. -/
theorem part19_spec (k0_t3 : Fin k0_t3_loop.trips) (v93 : BitVec 32) :
    Rs d i arg6 arg7 arg9 f5 f7 (Done (arg6.view.read (Elt F) f5) (arg7.view.read (Elt F) f7) kr k0_t3.val 6)
      ⊢ wp frame (wpE (defs₀ (F := F)) 𝒱₀ (thr d i) none) Set.univ
        (k0_part19 i arg2 harg2 arg3 harg3 arg4 harg4 arg5 harg5 arg6 harg6 arg7 harg7 arg8 harg8 arg9 harg9 arg10 arg11 arg12 arg13 v52_r0 k0_t3 v93 (colv k0_t3.val) (lv (arg6.view.read (Elt F) f5) (arg7.view.read (Elt F) f7) kr k0_t3.val (fun _ d => d)) (lv (arg6.view.read (Elt F) f5) (arg7.view.read (Elt F) f7) kr k0_t3.val (fun _ d => fr0 d)) (lv (arg6.view.read (Elt F) f5) (arg7.view.read (Elt F) f7) kr k0_t3.val (fun _ d => IntOp.subi (t0 d) 4#32)) (lv (arg6.view.read (Elt F) f5) (arg7.view.read (Elt F) f7) kr k0_t3.val (fun _ d => w0a d)) (lv (arg6.view.read (Elt F) f5) (arg7.view.read (Elt F) f7) kr k0_t3.val (fun c d => s0 c d 7)) (lv (arg6.view.read (Elt F) f5) (arg7.view.read (Elt F) f7) kr k0_t3.val (fun c d => FloatOps.mulf (w0a d) (s0 c d 6))) (lv (arg6.view.read (Elt F) f5) (arg7.view.read (Elt F) f7) kr k0_t3.val (fun c d => FloatOps.mulf (fr0 d) (s0 c d 7))))
        (fun r => iprop(⌜r = ⟨(lv (arg6.view.read (Elt F) f5) (arg7.view.read (Elt F) f7) kr k0_t3.val (fun _ d => t1 d)), (lv (arg6.view.read (Elt F) f5) (arg7.view.read (Elt F) f7) kr k0_t3.val (fun _ d => fr1 d)), quarter⟩⌝ ∗ Rs d i arg6 arg7 arg9 f5 f7 (Done (arg6.view.read (Elt F) f5) (arg7.view.read (Elt F) f7) kr k0_t3.val 9))) := by
  have hg : k0_t3.val < 16 := k0_t3.isLt
  rw [k0_part19_eq_skeleton]; unfold k0_part19_skel
  refine step_dead fun _ => ?_
  refine step_store ((k0_off43_eq k0_t3)) rfl ?_
  refine step_assume (chk_of hg fun x => row0_lt _ 8) ?_
  refine step_gather hg (lv (arg6.view.read (Elt F) f5) (arg7.view.read (Elt F) f7) kr k0_t3.val (fun c d => s0 c d 8)) rfl ?_
  refine step_dead fun _ => ?_
  refine step_store ((k0_off44_eq k0_t3)) rfl ?_
  refine step_assume (chk_of hg fun x => row0_lt _ 9) ?_
  refine step_gather hg (lv (arg6.view.read (Elt F) f5) (arg7.view.read (Elt F) f7) kr k0_t3.val (fun c d => s0 c d 9)) rfl ?_
  refine step_dead fun _ => ?_
  refine step_store ((k0_off45_eq k0_t3)) rfl ?_
  exact step_ret (done_ret rfl)

/-- Part 20 of the trip: gathers; no channel stored. -/
theorem part20_spec (k0_t3 : Fin k0_t3_loop.trips) :
    Rs d i arg6 arg7 arg9 f5 f7 (Done (arg6.view.read (Elt F) f5) (arg7.view.read (Elt F) f7) kr k0_t3.val 9)
      ⊢ wp frame (wpE (defs₀ (F := F)) 𝒱₀ (thr d i) none) Set.univ
        (k0_part20 i arg2 harg2 arg3 harg3 arg4 harg4 arg5 harg5 arg6 harg6 arg7 harg7 arg8 harg8 arg9 harg9 arg10 arg11 arg12 arg13 v52_r0 (colv k0_t3.val) (lv (arg6.view.read (Elt F) f5) (arg7.view.read (Elt F) f7) kr k0_t3.val (fun _ d => d)) (lv (arg6.view.read (Elt F) f5) (arg7.view.read (Elt F) f7) kr k0_t3.val (fun _ d => t1 d)) quarter)
        (fun r => iprop(⌜r = ⟨(lv (arg6.view.read (Elt F) f5) (arg7.view.read (Elt F) f7) kr k0_t3.val (fun _ d => fr2 d)), (lv (arg6.view.read (Elt F) f5) (arg7.view.read (Elt F) f7) kr k0_t3.val (fun _ d => qb d)), (lv (arg6.view.read (Elt F) f5) (arg7.view.read (Elt F) f7) kr k0_t3.val (fun _ d => emask d)), (lv (arg6.view.read (Elt F) f5) (arg7.view.read (Elt F) f7) kr k0_t3.val (fun c d => pr c d 0)), (lv (arg6.view.read (Elt F) f5) (arg7.view.read (Elt F) f7) kr k0_t3.val (fun c d => pr c d 1)), (fun _ => 2#32)⟩⌝ ∗ Rs d i arg6 arg7 arg9 f5 f7 (Done (arg6.view.read (Elt F) f5) (arg7.view.read (Elt F) f7) kr k0_t3.val 9))) := by
  have hg : k0_t3.val < 16 := k0_t3.isLt
  rw [k0_part20_eq_skeleton]; unfold k0_part20_skel
  refine step_assume (chk_of hg fun x => prow_lt _ 0) ?_
  refine step_gather hg (lv (arg6.view.read (Elt F) f5) (arg7.view.read (Elt F) f7) kr k0_t3.val (fun c d => c (prow d 0).toNat)) rfl ?_
  refine step_assume (chk_of hg fun x => prow_succ_lt _ 0) ?_
  refine step_gather hg (lv (arg6.view.read (Elt F) f5) (arg7.view.read (Elt F) f7) kr k0_t3.val (fun c d => c (IntOp.addi (prow d 0) 1#32).toNat)) rfl ?_
  refine step_assume (chk_of hg fun x => prow_lt _ 1) ?_
  refine step_gather hg (lv (arg6.view.read (Elt F) f5) (arg7.view.read (Elt F) f7) kr k0_t3.val (fun c d => c (prow d 1).toNat)) rfl ?_
  refine step_assume (chk_of hg fun x => prow_succ_lt _ 1) ?_
  refine step_gather hg (lv (arg6.view.read (Elt F) f5) (arg7.view.read (Elt F) f7) kr k0_t3.val (fun c d => c (IntOp.addi (prow d 1) 1#32).toNat)) rfl ?_
  exact step_ret (done_ret rfl)

/-- Part 21 of the trip: gathers; no channel stored. -/
theorem part21_spec (k0_t3 : Fin k0_t3_loop.trips) :
    Rs d i arg6 arg7 arg9 f5 f7 (Done (arg6.view.read (Elt F) f5) (arg7.view.read (Elt F) f7) kr k0_t3.val 9)
      ⊢ wp frame (wpE (defs₀ (F := F)) 𝒱₀ (thr d i) none) Set.univ
        (k0_part21 i arg2 harg2 arg3 harg3 arg4 harg4 arg5 harg5 arg6 harg6 arg7 harg7 arg8 harg8 arg9 harg9 arg10 arg11 arg12 arg13 v52_r0 (colv k0_t3.val) (lv (arg6.view.read (Elt F) f5) (arg7.view.read (Elt F) f7) kr k0_t3.val (fun _ d => qb d)) (fun _ => 2#32))
        (fun r => iprop(⌜r = ⟨(lv (arg6.view.read (Elt F) f5) (arg7.view.read (Elt F) f7) kr k0_t3.val (fun c d => pr c d 2)), (lv (arg6.view.read (Elt F) f5) (arg7.view.read (Elt F) f7) kr k0_t3.val (fun c d => pr c d 3)), (lv (arg6.view.read (Elt F) f5) (arg7.view.read (Elt F) f7) kr k0_t3.val (fun c d => pr c d 4)), (fun _ => 5#32)⟩⌝ ∗ Rs d i arg6 arg7 arg9 f5 f7 (Done (arg6.view.read (Elt F) f5) (arg7.view.read (Elt F) f7) kr k0_t3.val 9))) := by
  have hg : k0_t3.val < 16 := k0_t3.isLt
  rw [k0_part21_eq_skeleton]; unfold k0_part21_skel
  refine step_assume (chk_of hg fun x => prow_lt _ 2) ?_
  refine step_gather hg (lv (arg6.view.read (Elt F) f5) (arg7.view.read (Elt F) f7) kr k0_t3.val (fun c d => c (prow d 2).toNat)) rfl ?_
  refine step_assume (chk_of hg fun x => prow_succ_lt _ 2) ?_
  refine step_gather hg (lv (arg6.view.read (Elt F) f5) (arg7.view.read (Elt F) f7) kr k0_t3.val (fun c d => c (IntOp.addi (prow d 2) 1#32).toNat)) rfl ?_
  refine step_assume (chk_of hg fun x => prow_lt _ 3) ?_
  refine step_gather hg (lv (arg6.view.read (Elt F) f5) (arg7.view.read (Elt F) f7) kr k0_t3.val (fun c d => c (prow d 3).toNat)) rfl ?_
  refine step_assume (chk_of hg fun x => prow_succ_lt _ 3) ?_
  refine step_gather hg (lv (arg6.view.read (Elt F) f5) (arg7.view.read (Elt F) f7) kr k0_t3.val (fun c d => c (IntOp.addi (prow d 3) 1#32).toNat)) rfl ?_
  refine step_assume (chk_of hg fun x => prow_lt _ 4) ?_
  refine step_gather hg (lv (arg6.view.read (Elt F) f5) (arg7.view.read (Elt F) f7) kr k0_t3.val (fun c d => c (prow d 4).toNat)) rfl ?_
  refine step_assume (chk_of hg fun x => prow_succ_lt _ 4) ?_
  refine step_gather hg (lv (arg6.view.read (Elt F) f5) (arg7.view.read (Elt F) f7) kr k0_t3.val (fun c d => c (IntOp.addi (prow d 4) 1#32).toNat)) rfl ?_
  exact step_ret (done_ret rfl)

/-- Part 22 of the trip: gathers; no channel stored. -/
theorem part22_spec (k0_t3 : Fin k0_t3_loop.trips) :
    Rs d i arg6 arg7 arg9 f5 f7 (Done (arg6.view.read (Elt F) f5) (arg7.view.read (Elt F) f7) kr k0_t3.val 9)
      ⊢ wp frame (wpE (defs₀ (F := F)) 𝒱₀ (thr d i) none) Set.univ
        (k0_part22 i arg2 harg2 arg3 harg3 arg4 harg4 arg5 harg5 arg6 harg6 arg7 harg7 arg8 harg8 arg9 harg9 arg10 arg11 arg12 arg13 v52_r0 (colv k0_t3.val) (lv (arg6.view.read (Elt F) f5) (arg7.view.read (Elt F) f7) kr k0_t3.val (fun _ d => qb d)) (fun _ => 5#32))
        (fun r => iprop(⌜r = ⟨(lv (arg6.view.read (Elt F) f5) (arg7.view.read (Elt F) f7) kr k0_t3.val (fun c d => pr c d 5)), (lv (arg6.view.read (Elt F) f5) (arg7.view.read (Elt F) f7) kr k0_t3.val (fun c d => pr c d 6)), (lv (arg6.view.read (Elt F) f5) (arg7.view.read (Elt F) f7) kr k0_t3.val (fun c d => pr c d 7)), (fun _ => 8#32)⟩⌝ ∗ Rs d i arg6 arg7 arg9 f5 f7 (Done (arg6.view.read (Elt F) f5) (arg7.view.read (Elt F) f7) kr k0_t3.val 9))) := by
  have hg : k0_t3.val < 16 := k0_t3.isLt
  rw [k0_part22_eq_skeleton]; unfold k0_part22_skel
  refine step_assume (chk_of hg fun x => prow_lt _ 5) ?_
  refine step_gather hg (lv (arg6.view.read (Elt F) f5) (arg7.view.read (Elt F) f7) kr k0_t3.val (fun c d => c (prow d 5).toNat)) rfl ?_
  refine step_assume (chk_of hg fun x => prow_succ_lt _ 5) ?_
  refine step_gather hg (lv (arg6.view.read (Elt F) f5) (arg7.view.read (Elt F) f7) kr k0_t3.val (fun c d => c (IntOp.addi (prow d 5) 1#32).toNat)) rfl ?_
  refine step_assume (chk_of hg fun x => prow_lt _ 6) ?_
  refine step_gather hg (lv (arg6.view.read (Elt F) f5) (arg7.view.read (Elt F) f7) kr k0_t3.val (fun c d => c (prow d 6).toNat)) rfl ?_
  refine step_assume (chk_of hg fun x => prow_succ_lt _ 6) ?_
  refine step_gather hg (lv (arg6.view.read (Elt F) f5) (arg7.view.read (Elt F) f7) kr k0_t3.val (fun c d => c (IntOp.addi (prow d 6) 1#32).toNat)) rfl ?_
  refine step_assume (chk_of hg fun x => prow_lt _ 7) ?_
  refine step_gather hg (lv (arg6.view.read (Elt F) f5) (arg7.view.read (Elt F) f7) kr k0_t3.val (fun c d => c (prow d 7).toNat)) rfl ?_
  refine step_assume (chk_of hg fun x => prow_succ_lt _ 7) ?_
  refine step_gather hg (lv (arg6.view.read (Elt F) f5) (arg7.view.read (Elt F) f7) kr k0_t3.val (fun c d => c (IntOp.addi (prow d 7) 1#32).toNat)) rfl ?_
  exact step_ret (done_ret rfl)

/-- Part 23 of the trip: gathers; no channel stored. -/
theorem part23_spec (k0_t3 : Fin k0_t3_loop.trips) :
    Rs d i arg6 arg7 arg9 f5 f7 (Done (arg6.view.read (Elt F) f5) (arg7.view.read (Elt F) f7) kr k0_t3.val 9)
      ⊢ wp frame (wpE (defs₀ (F := F)) 𝒱₀ (thr d i) none) Set.univ
        (k0_part23 i arg2 harg2 arg3 harg3 arg4 harg4 arg5 harg5 arg6 harg6 arg7 harg7 arg8 harg8 arg9 harg9 arg10 arg11 arg12 arg13 v52_r0 (colv k0_t3.val) (lv (arg6.view.read (Elt F) f5) (arg7.view.read (Elt F) f7) kr k0_t3.val (fun _ d => qb d)) (fun _ => 8#32))
        (fun r => iprop(⌜r = ⟨(lv (arg6.view.read (Elt F) f5) (arg7.view.read (Elt F) f7) kr k0_t3.val (fun c d => pr c d 8)), (lv (arg6.view.read (Elt F) f5) (arg7.view.read (Elt F) f7) kr k0_t3.val (fun c d => pr c d 9)), (lv (arg6.view.read (Elt F) f5) (arg7.view.read (Elt F) f7) kr k0_t3.val (fun c d => pr c d 10)), (fun _ => 11#32)⟩⌝ ∗ Rs d i arg6 arg7 arg9 f5 f7 (Done (arg6.view.read (Elt F) f5) (arg7.view.read (Elt F) f7) kr k0_t3.val 9))) := by
  have hg : k0_t3.val < 16 := k0_t3.isLt
  rw [k0_part23_eq_skeleton]; unfold k0_part23_skel
  refine step_assume (chk_of hg fun x => prow_lt _ 8) ?_
  refine step_gather hg (lv (arg6.view.read (Elt F) f5) (arg7.view.read (Elt F) f7) kr k0_t3.val (fun c d => c (prow d 8).toNat)) rfl ?_
  refine step_assume (chk_of hg fun x => prow_succ_lt _ 8) ?_
  refine step_gather hg (lv (arg6.view.read (Elt F) f5) (arg7.view.read (Elt F) f7) kr k0_t3.val (fun c d => c (IntOp.addi (prow d 8) 1#32).toNat)) rfl ?_
  refine step_assume (chk_of hg fun x => prow_lt _ 9) ?_
  refine step_gather hg (lv (arg6.view.read (Elt F) f5) (arg7.view.read (Elt F) f7) kr k0_t3.val (fun c d => c (prow d 9).toNat)) rfl ?_
  refine step_assume (chk_of hg fun x => prow_succ_lt _ 9) ?_
  refine step_gather hg (lv (arg6.view.read (Elt F) f5) (arg7.view.read (Elt F) f7) kr k0_t3.val (fun c d => c (IntOp.addi (prow d 9) 1#32).toNat)) rfl ?_
  refine step_assume (chk_of hg fun x => prow_lt _ 10) ?_
  refine step_gather hg (lv (arg6.view.read (Elt F) f5) (arg7.view.read (Elt F) f7) kr k0_t3.val (fun c d => c (prow d 10).toNat)) rfl ?_
  refine step_assume (chk_of hg fun x => prow_succ_lt _ 10) ?_
  refine step_gather hg (lv (arg6.view.read (Elt F) f5) (arg7.view.read (Elt F) f7) kr k0_t3.val (fun c d => c (IntOp.addi (prow d 10) 1#32).toNat)) rfl ?_
  exact step_ret (done_ret rfl)

/-- Part 24 of the trip: gathers; no channel stored. -/
theorem part24_spec (k0_t3 : Fin k0_t3_loop.trips) :
    Rs d i arg6 arg7 arg9 f5 f7 (Done (arg6.view.read (Elt F) f5) (arg7.view.read (Elt F) f7) kr k0_t3.val 9)
      ⊢ wp frame (wpE (defs₀ (F := F)) 𝒱₀ (thr d i) none) Set.univ
        (k0_part24 i arg2 harg2 arg3 harg3 arg4 harg4 arg5 harg5 arg6 harg6 arg7 harg7 arg8 harg8 arg9 harg9 arg10 arg11 arg12 arg13 v52_r0 (colv k0_t3.val) (lv (arg6.view.read (Elt F) f5) (arg7.view.read (Elt F) f7) kr k0_t3.val (fun _ d => qb d)) (fun _ => 11#32))
        (fun r => iprop(⌜r = ⟨(lv (arg6.view.read (Elt F) f5) (arg7.view.read (Elt F) f7) kr k0_t3.val (fun c d => pr c d 11)), (lv (arg6.view.read (Elt F) f5) (arg7.view.read (Elt F) f7) kr k0_t3.val (fun c d => pr c d 12)), (lv (arg6.view.read (Elt F) f5) (arg7.view.read (Elt F) f7) kr k0_t3.val (fun c d => pr c d 13)), (fun _ => 14#32)⟩⌝ ∗ Rs d i arg6 arg7 arg9 f5 f7 (Done (arg6.view.read (Elt F) f5) (arg7.view.read (Elt F) f7) kr k0_t3.val 9))) := by
  have hg : k0_t3.val < 16 := k0_t3.isLt
  rw [k0_part24_eq_skeleton]; unfold k0_part24_skel
  refine step_assume (chk_of hg fun x => prow_lt _ 11) ?_
  refine step_gather hg (lv (arg6.view.read (Elt F) f5) (arg7.view.read (Elt F) f7) kr k0_t3.val (fun c d => c (prow d 11).toNat)) rfl ?_
  refine step_assume (chk_of hg fun x => prow_succ_lt _ 11) ?_
  refine step_gather hg (lv (arg6.view.read (Elt F) f5) (arg7.view.read (Elt F) f7) kr k0_t3.val (fun c d => c (IntOp.addi (prow d 11) 1#32).toNat)) rfl ?_
  refine step_assume (chk_of hg fun x => prow_lt _ 12) ?_
  refine step_gather hg (lv (arg6.view.read (Elt F) f5) (arg7.view.read (Elt F) f7) kr k0_t3.val (fun c d => c (prow d 12).toNat)) rfl ?_
  refine step_assume (chk_of hg fun x => prow_succ_lt _ 12) ?_
  refine step_gather hg (lv (arg6.view.read (Elt F) f5) (arg7.view.read (Elt F) f7) kr k0_t3.val (fun c d => c (IntOp.addi (prow d 12) 1#32).toNat)) rfl ?_
  refine step_assume (chk_of hg fun x => prow_lt _ 13) ?_
  refine step_gather hg (lv (arg6.view.read (Elt F) f5) (arg7.view.read (Elt F) f7) kr k0_t3.val (fun c d => c (prow d 13).toNat)) rfl ?_
  refine step_assume (chk_of hg fun x => prow_succ_lt _ 13) ?_
  refine step_gather hg (lv (arg6.view.read (Elt F) f5) (arg7.view.read (Elt F) f7) kr k0_t3.val (fun c d => c (IntOp.addi (prow d 13) 1#32).toNat)) rfl ?_
  exact step_ret (done_ret rfl)

/-- Part 25 of the trip: gathers; no channel stored. -/
theorem part25_spec (k0_t3 : Fin k0_t3_loop.trips) :
    Rs d i arg6 arg7 arg9 f5 f7 (Done (arg6.view.read (Elt F) f5) (arg7.view.read (Elt F) f7) kr k0_t3.val 9)
      ⊢ wp frame (wpE (defs₀ (F := F)) 𝒱₀ (thr d i) none) Set.univ
        (k0_part25 i arg2 harg2 arg3 harg3 arg4 harg4 arg5 harg5 arg6 harg6 arg7 harg7 arg8 harg8 arg9 harg9 arg10 arg11 arg12 arg13 v52_r0 (colv k0_t3.val) (lv (arg6.view.read (Elt F) f5) (arg7.view.read (Elt F) f7) kr k0_t3.val (fun _ d => qb d)) (fun _ => 14#32))
        (fun r => iprop(⌜r = ⟨(lv (arg6.view.read (Elt F) f5) (arg7.view.read (Elt F) f7) kr k0_t3.val (fun c d => pr c d 14)), (lv (arg6.view.read (Elt F) f5) (arg7.view.read (Elt F) f7) kr k0_t3.val (fun c d => pr c d 15)), (lv (arg6.view.read (Elt F) f5) (arg7.view.read (Elt F) f7) kr k0_t3.val (fun c d => pr c d 16)), (fun _ => 17#32)⟩⌝ ∗ Rs d i arg6 arg7 arg9 f5 f7 (Done (arg6.view.read (Elt F) f5) (arg7.view.read (Elt F) f7) kr k0_t3.val 9))) := by
  have hg : k0_t3.val < 16 := k0_t3.isLt
  rw [k0_part25_eq_skeleton]; unfold k0_part25_skel
  refine step_assume (chk_of hg fun x => prow_lt _ 14) ?_
  refine step_gather hg (lv (arg6.view.read (Elt F) f5) (arg7.view.read (Elt F) f7) kr k0_t3.val (fun c d => c (prow d 14).toNat)) rfl ?_
  refine step_assume (chk_of hg fun x => prow_succ_lt _ 14) ?_
  refine step_gather hg (lv (arg6.view.read (Elt F) f5) (arg7.view.read (Elt F) f7) kr k0_t3.val (fun c d => c (IntOp.addi (prow d 14) 1#32).toNat)) rfl ?_
  refine step_assume (chk_of hg fun x => prow_lt _ 15) ?_
  refine step_gather hg (lv (arg6.view.read (Elt F) f5) (arg7.view.read (Elt F) f7) kr k0_t3.val (fun c d => c (prow d 15).toNat)) rfl ?_
  refine step_assume (chk_of hg fun x => prow_succ_lt _ 15) ?_
  refine step_gather hg (lv (arg6.view.read (Elt F) f5) (arg7.view.read (Elt F) f7) kr k0_t3.val (fun c d => c (IntOp.addi (prow d 15) 1#32).toNat)) rfl ?_
  refine step_assume (chk_of hg fun x => prow_lt _ 16) ?_
  refine step_gather hg (lv (arg6.view.read (Elt F) f5) (arg7.view.read (Elt F) f7) kr k0_t3.val (fun c d => c (prow d 16).toNat)) rfl ?_
  refine step_assume (chk_of hg fun x => prow_succ_lt _ 16) ?_
  refine step_gather hg (lv (arg6.view.read (Elt F) f5) (arg7.view.read (Elt F) f7) kr k0_t3.val (fun c d => c (IntOp.addi (prow d 16) 1#32).toNat)) rfl ?_
  exact step_ret (done_ret rfl)

/-- Part 26 of the trip: gathers; no channel stored. -/
theorem part26_spec (k0_t3 : Fin k0_t3_loop.trips) :
    Rs d i arg6 arg7 arg9 f5 f7 (Done (arg6.view.read (Elt F) f5) (arg7.view.read (Elt F) f7) kr k0_t3.val 9)
      ⊢ wp frame (wpE (defs₀ (F := F)) 𝒱₀ (thr d i) none) Set.univ
        (k0_part26 i arg2 harg2 arg3 harg3 arg4 harg4 arg5 harg5 arg6 harg6 arg7 harg7 arg8 harg8 arg9 harg9 arg10 arg11 arg12 arg13 v52_r0 (colv k0_t3.val) (lv (arg6.view.read (Elt F) f5) (arg7.view.read (Elt F) f7) kr k0_t3.val (fun _ d => qb d)) (fun _ => 17#32))
        (fun r => iprop(⌜r = ⟨(lv (arg6.view.read (Elt F) f5) (arg7.view.read (Elt F) f7) kr k0_t3.val (fun c d => pr c d 17)), (lv (arg6.view.read (Elt F) f5) (arg7.view.read (Elt F) f7) kr k0_t3.val (fun c d => pr c d 18)), (lv (arg6.view.read (Elt F) f5) (arg7.view.read (Elt F) f7) kr k0_t3.val (fun c d => pr c d 19)), (fun _ => 124#32)⟩⌝ ∗ Rs d i arg6 arg7 arg9 f5 f7 (Done (arg6.view.read (Elt F) f5) (arg7.view.read (Elt F) f7) kr k0_t3.val 9))) := by
  have hg : k0_t3.val < 16 := k0_t3.isLt
  rw [k0_part26_eq_skeleton]; unfold k0_part26_skel
  refine step_assume (chk_of hg fun x => prow_lt _ 17) ?_
  refine step_gather hg (lv (arg6.view.read (Elt F) f5) (arg7.view.read (Elt F) f7) kr k0_t3.val (fun c d => c (prow d 17).toNat)) rfl ?_
  refine step_assume (chk_of hg fun x => prow_succ_lt _ 17) ?_
  refine step_gather hg (lv (arg6.view.read (Elt F) f5) (arg7.view.read (Elt F) f7) kr k0_t3.val (fun c d => c (IntOp.addi (prow d 17) 1#32).toNat)) rfl ?_
  refine step_assume (chk_of hg fun x => prow_lt _ 18) ?_
  refine step_gather hg (lv (arg6.view.read (Elt F) f5) (arg7.view.read (Elt F) f7) kr k0_t3.val (fun c d => c (prow d 18).toNat)) rfl ?_
  refine step_assume (chk_of hg fun x => prow_succ_lt _ 18) ?_
  refine step_gather hg (lv (arg6.view.read (Elt F) f5) (arg7.view.read (Elt F) f7) kr k0_t3.val (fun c d => c (IntOp.addi (prow d 18) 1#32).toNat)) rfl ?_
  refine step_assume (chk_of hg fun x => prow_lt _ 19) ?_
  refine step_gather hg (lv (arg6.view.read (Elt F) f5) (arg7.view.read (Elt F) f7) kr k0_t3.val (fun c d => c (prow d 19).toNat)) rfl ?_
  refine step_assume (chk_of hg fun x => prow_succ_lt _ 19) ?_
  refine step_gather hg (lv (arg6.view.read (Elt F) f5) (arg7.view.read (Elt F) f7) kr k0_t3.val (fun c d => c (IntOp.addi (prow d 19) 1#32).toNat)) rfl ?_
  exact step_ret (done_ret rfl)

/-- Part 27 of the trip: channels 9 to 11 stored. -/
theorem part27_spec (k0_t3 : Fin k0_t3_loop.trips) (v93 : BitVec 32) :
    Rs d i arg6 arg7 arg9 f5 f7 (Done (arg6.view.read (Elt F) f5) (arg7.view.read (Elt F) f7) kr k0_t3.val 9)
      ⊢ wp frame (wpE (defs₀ (F := F)) 𝒱₀ (thr d i) none) Set.univ
        (k0_part27 i arg2 harg2 arg3 harg3 arg4 harg4 arg5 harg5 arg6 harg6 arg7 harg7 arg8 harg8 arg9 harg9 arg10 arg11 arg12 arg13 v52_r0 k0_t3 v93 (colv k0_t3.val) (lv (arg6.view.read (Elt F) f5) (arg7.view.read (Elt F) f7) kr k0_t3.val (fun _ d => fr1 d)) (lv (arg6.view.read (Elt F) f5) (arg7.view.read (Elt F) f7) kr k0_t3.val (fun _ d => emask d)) (lv (arg6.view.read (Elt F) f5) (arg7.view.read (Elt F) f7) kr k0_t3.val (fun c d => pr c d 4)) (lv (arg6.view.read (Elt F) f5) (arg7.view.read (Elt F) f7) kr k0_t3.val (fun c d => pr c d 5)) (lv (arg6.view.read (Elt F) f5) (arg7.view.read (Elt F) f7) kr k0_t3.val (fun c d => pr c d 6)) (lv (arg6.view.read (Elt F) f5) (arg7.view.read (Elt F) f7) kr k0_t3.val (fun c d => pr c d 7)) (lv (arg6.view.read (Elt F) f5) (arg7.view.read (Elt F) f7) kr k0_t3.val (fun c d => pr c d 8)) (lv (arg6.view.read (Elt F) f5) (arg7.view.read (Elt F) f7) kr k0_t3.val (fun c d => pr c d 9)) (fun _ => 124#32))
        (fun r => iprop(⌜r = ⟨(lv (arg6.view.read (Elt F) f5) (arg7.view.read (Elt F) f7) kr k0_t3.val (fun c _ => p62 c)), (lv (arg6.view.read (Elt F) f5) (arg7.view.read (Elt F) f7) kr k0_t3.val (fun c _ => p1 c)), (lv (arg6.view.read (Elt F) f5) (arg7.view.read (Elt F) f7) kr k0_t3.val (fun _ d => w1b d)), (lv (arg6.view.read (Elt F) f5) (arg7.view.read (Elt F) f7) kr k0_t3.val (fun _ d => w0b d)), (lv (arg6.view.read (Elt F) f5) (arg7.view.read (Elt F) f7) kr k0_t3.val (fun c d => s1 c d 3)), (lv (arg6.view.read (Elt F) f5) (arg7.view.read (Elt F) f7) kr k0_t3.val (fun c d => s1 c d 4))⟩⌝ ∗ Rs d i arg6 arg7 arg9 f5 f7 (Done (arg6.view.read (Elt F) f5) (arg7.view.read (Elt F) f7) kr k0_t3.val 12))) := by
  have hg : k0_t3.val < 16 := k0_t3.isLt
  rw [k0_part27_eq_skeleton]; unfold k0_part27_skel
  refine step_assume (chk_of hg fun x => show (124#32 : BitVec 32).toNat < 128 from by decide) ?_
  refine step_gather hg (lv (arg6.view.read (Elt F) f5) (arg7.view.read (Elt F) f7) kr k0_t3.val (fun c _ => c (124#32).toNat)) rfl ?_
  refine step_assume (chk_of hg fun x => show (125#32 : BitVec 32).toNat < 128 from by decide) ?_
  refine step_gather hg (lv (arg6.view.read (Elt F) f5) (arg7.view.read (Elt F) f7) kr k0_t3.val (fun c _ => c (125#32).toNat)) rfl ?_
  refine step_assume (chk_of hg fun x => show (2#32 : BitVec 32).toNat < 128 from by decide) ?_
  refine step_gather hg (lv (arg6.view.read (Elt F) f5) (arg7.view.read (Elt F) f7) kr k0_t3.val (fun c _ => c (2#32).toNat)) rfl ?_
  refine step_assume (chk_of hg fun x => show (3#32 : BitVec 32).toNat < 128 from by decide) ?_
  refine step_gather hg (lv (arg6.view.read (Elt F) f5) (arg7.view.read (Elt F) f7) kr k0_t3.val (fun c _ => c (3#32).toNat)) rfl ?_
  refine step_dead fun _ => ?_
  refine step_store ((k0_off46_eq k0_t3)) rfl ?_
  refine step_dead fun _ => ?_
  refine step_store ((k0_off47_eq k0_t3)) rfl ?_
  refine step_dead fun _ => ?_
  refine step_store ((k0_off48_eq k0_t3)) rfl ?_
  exact step_ret (done_ret rfl)

/-- Part 28 of the trip: channels 12 to 16 stored. -/
theorem part28_spec (k0_t3 : Fin k0_t3_loop.trips) (v93 : BitVec 32) :
    Rs d i arg6 arg7 arg9 f5 f7 (Done (arg6.view.read (Elt F) f5) (arg7.view.read (Elt F) f7) kr k0_t3.val 12)
      ⊢ wp frame (wpE (defs₀ (F := F)) 𝒱₀ (thr d i) none) Set.univ
        (k0_part28 i arg2 harg2 arg3 harg3 arg4 harg4 arg5 harg5 arg6 harg6 arg7 harg7 arg8 harg8 arg9 harg9 arg10 arg11 arg12 arg13 v52_r0 k0_t3 v93 (lv (arg6.view.read (Elt F) f5) (arg7.view.read (Elt F) f7) kr k0_t3.val (fun _ d => emask d)) (lv (arg6.view.read (Elt F) f5) (arg7.view.read (Elt F) f7) kr k0_t3.val (fun c d => pr c d 9)) (lv (arg6.view.read (Elt F) f5) (arg7.view.read (Elt F) f7) kr k0_t3.val (fun c d => pr c d 10)) (lv (arg6.view.read (Elt F) f5) (arg7.view.read (Elt F) f7) kr k0_t3.val (fun c d => pr c d 11)) (lv (arg6.view.read (Elt F) f5) (arg7.view.read (Elt F) f7) kr k0_t3.val (fun c d => pr c d 12)) (lv (arg6.view.read (Elt F) f5) (arg7.view.read (Elt F) f7) kr k0_t3.val (fun c d => pr c d 13)) (lv (arg6.view.read (Elt F) f5) (arg7.view.read (Elt F) f7) kr k0_t3.val (fun c d => pr c d 14)) (lv (arg6.view.read (Elt F) f5) (arg7.view.read (Elt F) f7) kr k0_t3.val (fun _ d => w1b d)) (lv (arg6.view.read (Elt F) f5) (arg7.view.read (Elt F) f7) kr k0_t3.val (fun _ d => w0b d)) (lv (arg6.view.read (Elt F) f5) (arg7.view.read (Elt F) f7) kr k0_t3.val (fun c d => s1 c d 3)) (lv (arg6.view.read (Elt F) f5) (arg7.view.read (Elt F) f7) kr k0_t3.val (fun c d => s1 c d 4)))
        (fun r => iprop(⌜r = ⟨(lv (arg6.view.read (Elt F) f5) (arg7.view.read (Elt F) f7) kr k0_t3.val (fun c d => s1 c d 8)), (lv (arg6.view.read (Elt F) f5) (arg7.view.read (Elt F) f7) kr k0_t3.val (fun c d => s1 c d 9))⟩⌝ ∗ Rs d i arg6 arg7 arg9 f5 f7 (Done (arg6.view.read (Elt F) f5) (arg7.view.read (Elt F) f7) kr k0_t3.val 17))) := by
  have hg : k0_t3.val < 16 := k0_t3.isLt
  rw [k0_part28_eq_skeleton]; unfold k0_part28_skel
  refine step_dead fun _ => ?_
  refine step_store ((k0_off49_eq k0_t3)) rfl ?_
  refine step_dead fun _ => ?_
  refine step_store ((k0_off50_eq k0_t3)) rfl ?_
  refine step_dead fun _ => ?_
  refine step_store ((k0_off51_eq k0_t3)) rfl ?_
  refine step_dead fun _ => ?_
  refine step_store ((k0_off52_eq k0_t3)) rfl ?_
  refine step_dead fun _ => ?_
  refine step_store ((k0_off53_eq k0_t3)) rfl ?_
  exact step_ret (done_ret rfl)

/-- Part 29 of the trip: channels 17 to 19 stored. -/
theorem part29_spec (k0_t3 : Fin k0_t3_loop.trips) (v93 : BitVec 32) :
    Rs d i arg6 arg7 arg9 f5 f7 (Done (arg6.view.read (Elt F) f5) (arg7.view.read (Elt F) f7) kr k0_t3.val 17)
      ⊢ wp frame (wpE (defs₀ (F := F)) 𝒱₀ (thr d i) none) Set.univ
        (k0_part29 i arg2 harg2 arg3 harg3 arg4 harg4 arg5 harg5 arg6 harg6 arg7 harg7 arg8 harg8 arg9 harg9 arg10 arg11 arg12 arg13 v52_r0 k0_t3 v93 (lv (arg6.view.read (Elt F) f5) (arg7.view.read (Elt F) f7) kr k0_t3.val (fun _ d => fr2 d)) (lv (arg6.view.read (Elt F) f5) (arg7.view.read (Elt F) f7) kr k0_t3.val (fun _ d => qb d)) (lv (arg6.view.read (Elt F) f5) (arg7.view.read (Elt F) f7) kr k0_t3.val (fun c d => pr c d 0)) (lv (arg6.view.read (Elt F) f5) (arg7.view.read (Elt F) f7) kr k0_t3.val (fun c d => pr c d 1)) (lv (arg6.view.read (Elt F) f5) (arg7.view.read (Elt F) f7) kr k0_t3.val (fun c d => pr c d 2)) (lv (arg6.view.read (Elt F) f5) (arg7.view.read (Elt F) f7) kr k0_t3.val (fun c d => pr c d 3)) (lv (arg6.view.read (Elt F) f5) (arg7.view.read (Elt F) f7) kr k0_t3.val (fun c d => pr c d 4)) (lv (arg6.view.read (Elt F) f5) (arg7.view.read (Elt F) f7) kr k0_t3.val (fun c d => pr c d 5)) (lv (arg6.view.read (Elt F) f5) (arg7.view.read (Elt F) f7) kr k0_t3.val (fun c d => pr c d 6)) (lv (arg6.view.read (Elt F) f5) (arg7.view.read (Elt F) f7) kr k0_t3.val (fun c d => pr c d 7)) (lv (arg6.view.read (Elt F) f5) (arg7.view.read (Elt F) f7) kr k0_t3.val (fun c _ => p1 c)) (lv (arg6.view.read (Elt F) f5) (arg7.view.read (Elt F) f7) kr k0_t3.val (fun _ d => w1b d)) (lv (arg6.view.read (Elt F) f5) (arg7.view.read (Elt F) f7) kr k0_t3.val (fun _ d => w0b d)) (lv (arg6.view.read (Elt F) f5) (arg7.view.read (Elt F) f7) kr k0_t3.val (fun c d => s1 c d 8)) (lv (arg6.view.read (Elt F) f5) (arg7.view.read (Elt F) f7) kr k0_t3.val (fun c d => s1 c d 9)))
        (fun r => iprop(⌜r = ⟨(lv (arg6.view.read (Elt F) f5) (arg7.view.read (Elt F) f7) kr k0_t3.val (fun _ d => w1c d)), (lv (arg6.view.read (Elt F) f5) (arg7.view.read (Elt F) f7) kr k0_t3.val (fun _ d => w0c d)), (lv (arg6.view.read (Elt F) f5) (arg7.view.read (Elt F) f7) kr k0_t3.val (fun c d => s2 c d 3)), (lv (arg6.view.read (Elt F) f5) (arg7.view.read (Elt F) f7) kr k0_t3.val (fun c d => FloatOps.mulf (w0c d) (s2 c d 2)))⟩⌝ ∗ Rs d i arg6 arg7 arg9 f5 f7 (Done (arg6.view.read (Elt F) f5) (arg7.view.read (Elt F) f7) kr k0_t3.val 20))) := by
  have hg : k0_t3.val < 16 := k0_t3.isLt
  rw [k0_part29_eq_skeleton]; unfold k0_part29_skel
  refine step_dead fun _ => ?_
  refine step_store ((k0_off54_eq k0_t3)) rfl ?_
  refine step_dead fun _ => ?_
  refine step_store ((k0_off55_eq k0_t3)) rfl ?_
  refine step_dead fun _ => ?_
  refine step_store ((k0_off56_eq k0_t3)) rfl ?_
  exact step_ret (done_ret rfl)

/-- Part 30 of the trip: channels 20 to 23 stored. -/
theorem part30_spec (k0_t3 : Fin k0_t3_loop.trips) (v93 : BitVec 32) :
    Rs d i arg6 arg7 arg9 f5 f7 (Done (arg6.view.read (Elt F) f5) (arg7.view.read (Elt F) f7) kr k0_t3.val 20)
      ⊢ wp frame (wpE (defs₀ (F := F)) 𝒱₀ (thr d i) none) Set.univ
        (k0_part30 i arg2 harg2 arg3 harg3 arg4 harg4 arg5 harg5 arg6 harg6 arg7 harg7 arg8 harg8 arg9 harg9 arg10 arg11 arg12 arg13 v52_r0 k0_t3 v93 (lv (arg6.view.read (Elt F) f5) (arg7.view.read (Elt F) f7) kr k0_t3.val (fun _ d => qb d)) (lv (arg6.view.read (Elt F) f5) (arg7.view.read (Elt F) f7) kr k0_t3.val (fun c d => pr c d 8)) (lv (arg6.view.read (Elt F) f5) (arg7.view.read (Elt F) f7) kr k0_t3.val (fun c d => pr c d 9)) (lv (arg6.view.read (Elt F) f5) (arg7.view.read (Elt F) f7) kr k0_t3.val (fun c d => pr c d 10)) (lv (arg6.view.read (Elt F) f5) (arg7.view.read (Elt F) f7) kr k0_t3.val (fun c d => pr c d 11)) (lv (arg6.view.read (Elt F) f5) (arg7.view.read (Elt F) f7) kr k0_t3.val (fun c d => pr c d 12)) (lv (arg6.view.read (Elt F) f5) (arg7.view.read (Elt F) f7) kr k0_t3.val (fun c d => pr c d 13)) (lv (arg6.view.read (Elt F) f5) (arg7.view.read (Elt F) f7) kr k0_t3.val (fun c d => pr c d 14)) (lv (arg6.view.read (Elt F) f5) (arg7.view.read (Elt F) f7) kr k0_t3.val (fun c d => pr c d 15)) (lv (arg6.view.read (Elt F) f5) (arg7.view.read (Elt F) f7) kr k0_t3.val (fun c _ => p62 c)) (lv (arg6.view.read (Elt F) f5) (arg7.view.read (Elt F) f7) kr k0_t3.val (fun _ d => w1c d)) (lv (arg6.view.read (Elt F) f5) (arg7.view.read (Elt F) f7) kr k0_t3.val (fun _ d => w0c d)) (lv (arg6.view.read (Elt F) f5) (arg7.view.read (Elt F) f7) kr k0_t3.val (fun c d => s2 c d 3)) (lv (arg6.view.read (Elt F) f5) (arg7.view.read (Elt F) f7) kr k0_t3.val (fun c d => FloatOps.mulf (w0c d) (s2 c d 2))))
        (fun r => iprop(⌜r = ⟨(lv (arg6.view.read (Elt F) f5) (arg7.view.read (Elt F) f7) kr k0_t3.val (fun c d => s2 c d 7)), (lv (arg6.view.read (Elt F) f5) (arg7.view.read (Elt F) f7) kr k0_t3.val (fun c d => FloatOps.mulf (w0c d) (s2 c d 6)))⟩⌝ ∗ Rs d i arg6 arg7 arg9 f5 f7 (Done (arg6.view.read (Elt F) f5) (arg7.view.read (Elt F) f7) kr k0_t3.val 24))) := by
  have hg : k0_t3.val < 16 := k0_t3.isLt
  rw [k0_part30_eq_skeleton]; unfold k0_part30_skel
  refine step_dead fun _ => ?_
  refine step_store ((k0_off57_eq k0_t3)) rfl ?_
  refine step_dead fun _ => ?_
  refine step_store ((k0_off58_eq k0_t3)) rfl ?_
  refine step_dead fun _ => ?_
  refine step_store ((k0_off59_eq k0_t3)) rfl ?_
  refine step_dead fun _ => ?_
  refine step_store ((k0_off60_eq k0_t3)) rfl ?_
  exact step_ret (done_ret rfl)

end Cert.Proof.Sc
-- ==== Proof.Sc.Trip.lean ====
/- A whole trip over a group of sixteen lanes of a row, and the sixteen trips: after them every cell of the result
   block holds its channel at its column. -/
module

public import proofs.«01_k».proof.Proof.Sc.TripA
public import proofs.«01_k».proof.Proof.Sc.TripB

@[expose] public section

set_option maxRecDepth 65536

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A part that returns `v`, then the rest of the program at `v`. -/
theorem step_part {α β : Type} {d : Dev nD} {i : grid0.Coords} {Q : α → sProp 𝕄} {R R' : sProp 𝕄} {v : β}
    {p : Prog (TpuEff nD τ sig (Elt F) Λ₀ (thr d i).2) β} {k : β → Prog (TpuEff nD τ sig (Elt F) Λ₀ (thr d i).2) α}
    (hp : R ⊢ wp frame (wpE (defs₀ (F := F)) 𝒱₀ (thr d i) none) Set.univ p (fun r => iprop(⌜r = v⌝ ∗ R')))
    (hk : R' ⊢ wp frame (wpE (defs₀ (F := F)) 𝒱₀ (thr d i) none) Set.univ (k v) Q) :
    R ⊢ wp frame (wpE (defs₀ (F := F)) 𝒱₀ (thr d i) none) Set.univ (p >>= k) Q := by
  rw [wp_bind]
  refine hp.trans (wp_mono _ _ _ fun r => ?_)
  iintro ⟨%hr, HR⟩
  subst hr
  iapply hk
  iexact HR

/-- What is known of the result block may be weakened. -/
theorem Rs_mono {d : Dev nD} {i : grid0.Coords} {m5 : Memref sig .scVector .vmem S128x256 .f32} {m7 : Memref sig .scVector .vmem S16x256 .f32}
    {m8 : Memref sig .scVector .vmem S27x256 .f32} {f5 : Buf (Elt F) (m5.view.loc (thr d i))} {f7 : Buf (Elt F) (m7.view.loc (thr d i))}
    {St St' : (S27x256.Idx → F .f32) → Prop} (h : ∀ o, St o → St' o) : Rs d i m5 m7 m8 f5 f7 St ⊢ Rs d i m5 m7 m8 f5 f7 St' := by
  iintro HR
  ihave HR' := (Entails.of_eq (Rs_eq (F := F) d i m5 m7 m8 f5 f7 St)) $$ HR
  icases HR' with ⟨H5, H7, %f8, %hs, H8⟩
  iapply (Entails.of_eq (Rs_eq (F := F) d i m5 m7 m8 f5 f7 St').symm)
  isplitl [H5]; · iexact H5
  isplitl [H7]; · iexact H7
  iexists f8
  isplitr; · ipureintro; exact h _ hs
  iexact H8

variable (d : Dev nD) (i : grid0.Coords) (arg2 : Memref sig .scVector .hbm S4x128x128x256 .f32) (harg2 : arg2.IsWhole) (arg3 : Memref sig .scVector .hbm S4x1x128x256 .f32) (harg3 : arg3.IsWhole) (arg4 : Memref sig .scVector .hbm S4x27x128x256 .f32) (harg4 : arg4.IsWhole) (arg5 : Memref sig .scVector .vmem S128x256 .f32) (harg5 : arg5.IsWhole) (arg6 : Memref sig .scVector .vmem S128x256 .f32) (harg6 : arg6.IsWhole) (arg7 : Memref sig .scVector .vmem S16x256 .f32) (harg7 : arg7.IsWhole) (arg8 : Memref sig .scVector .vmem S27x256 .f32) (harg8 : arg8.IsWhole) (arg9 : Memref sig .scVector .vmem S27x256 .f32) (harg9 : arg9.IsWhole) (arg10 : DmaSems sig S_) (arg11 : DmaSems sig S_) (arg12 : DmaSems sig S_) (arg13 : DmaSems sig S_) (v52_r0 : DmaSems sig S_)

/-- A trip over group `k0_t2` of an even row: the group's 27 channels are done. -/
theorem tripA (f5 : Buf (Elt F) (arg5.view.loc (thr d i))) (f7 : Buf (Elt F) (arg7.view.loc (thr d i))) (v29 : BitVec 32) (c0 c1 : BitVec 32) (k0_t1 : Fin k0_t1_loop.trips) (v54 : BitVec 32)
    (k0_t2 : Fin k0_t2_loop.trips) (u : Unit) :
    Rs d i arg5 arg7 arg8 f5 f7 (Done (arg5.view.read (Elt F) f5) (arg7.view.read (Elt F) f7) (2 * k0_t1.val) k0_t2.val 0)
      ⊢ wp frame (wpE (defs₀ (F := F)) 𝒱₀ (thr d i) none) Set.univ
        (k0_t2_body i arg2 harg2 arg3 harg3 arg4 harg4 arg5 harg5 arg6 harg6 arg7 harg7 arg8 harg8 arg9 harg9 arg10 arg11 arg12 arg13 v52_r0 v29 (iota .scVector S16 32 [0] iota_S16_d0_w32_scVector) c0 c1 k0_t1 v54 k0_t2 u)
        (fun _ => Rs d i arg5 arg7 arg8 f5 f7 (Done (arg5.view.read (Elt F) f5) (arg7.view.read (Elt F) f7) (2 * k0_t1.val) (k0_t2.val + 1) 0)) := by
  unfold k0_t2_body
  refine step_part (part1_spec d i arg2 harg2 arg3 harg3 arg4 harg4 arg5 harg5 arg6 harg6 arg7 harg7 arg8 harg8 arg9 harg9 arg10 arg11 arg12 arg13 v52_r0 f5 f7 (2 * k0_t1.val) k0_t1 v54 k0_t2 rfl) ?_
  refine step_part (part2_spec d i arg2 harg2 arg3 harg3 arg4 harg4 arg5 harg5 arg6 harg6 arg7 harg7 arg8 harg8 arg9 harg9 arg10 arg11 arg12 arg13 v52_r0 f5 f7 (2 * k0_t1.val) k0_t2 _) ?_
  refine step_part (part3_spec d i arg2 harg2 arg3 harg3 arg4 harg4 arg5 harg5 arg6 harg6 arg7 harg7 arg8 harg8 arg9 harg9 arg10 arg11 arg12 arg13 v52_r0 f5 f7 (2 * k0_t1.val) k0_t2 _) ?_
  refine step_part (part4_spec d i arg2 harg2 arg3 harg3 arg4 harg4 arg5 harg5 arg6 harg6 arg7 harg7 arg8 harg8 arg9 harg9 arg10 arg11 arg12 arg13 v52_r0 f5 f7 (2 * k0_t1.val) k0_t2 _) ?_
  refine step_part (part5_spec d i arg2 harg2 arg3 harg3 arg4 harg4 arg5 harg5 arg6 harg6 arg7 harg7 arg8 harg8 arg9 harg9 arg10 arg11 arg12 arg13 v52_r0 f5 f7 (2 * k0_t1.val) k0_t2) ?_
  refine step_part (part6_spec d i arg2 harg2 arg3 harg3 arg4 harg4 arg5 harg5 arg6 harg6 arg7 harg7 arg8 harg8 arg9 harg9 arg10 arg11 arg12 arg13 v52_r0 f5 f7 (2 * k0_t1.val) k0_t2) ?_
  refine step_part (part7_spec d i arg2 harg2 arg3 harg3 arg4 harg4 arg5 harg5 arg6 harg6 arg7 harg7 arg8 harg8 arg9 harg9 arg10 arg11 arg12 arg13 v52_r0 f5 f7 (2 * k0_t1.val) k0_t2) ?_
  refine step_part (part8_spec d i arg2 harg2 arg3 harg3 arg4 harg4 arg5 harg5 arg6 harg6 arg7 harg7 arg8 harg8 arg9 harg9 arg10 arg11 arg12 arg13 v52_r0 f5 f7 (2 * k0_t1.val) k0_t2) ?_
  refine step_part (part9_spec d i arg2 harg2 arg3 harg3 arg4 harg4 arg5 harg5 arg6 harg6 arg7 harg7 arg8 harg8 arg9 harg9 arg10 arg11 arg12 arg13 v52_r0 f5 f7 (2 * k0_t1.val) k0_t2) ?_
  refine step_part (part10_spec d i arg2 harg2 arg3 harg3 arg4 harg4 arg5 harg5 arg6 harg6 arg7 harg7 arg8 harg8 arg9 harg9 arg10 arg11 arg12 arg13 v52_r0 f5 f7 (2 * k0_t1.val) k0_t2) ?_
  refine step_part (part11_spec d i arg2 harg2 arg3 harg3 arg4 harg4 arg5 harg5 arg6 harg6 arg7 harg7 arg8 harg8 arg9 harg9 arg10 arg11 arg12 arg13 v52_r0 f5 f7 (2 * k0_t1.val) k0_t2) ?_
  refine step_part (part12_spec d i arg2 harg2 arg3 harg3 arg4 harg4 arg5 harg5 arg6 harg6 arg7 harg7 arg8 harg8 arg9 harg9 arg10 arg11 arg12 arg13 v52_r0 f5 f7 (2 * k0_t1.val) k0_t2 _) ?_
  refine step_part (part13_spec d i arg2 harg2 arg3 harg3 arg4 harg4 arg5 harg5 arg6 harg6 arg7 harg7 arg8 harg8 arg9 harg9 arg10 arg11 arg12 arg13 v52_r0 f5 f7 (2 * k0_t1.val) k0_t2 _) ?_
  refine step_part (part14_spec d i arg2 harg2 arg3 harg3 arg4 harg4 arg5 harg5 arg6 harg6 arg7 harg7 arg8 harg8 arg9 harg9 arg10 arg11 arg12 arg13 v52_r0 f5 f7 (2 * k0_t1.val) k0_t2 _) ?_
  refine step_part (part15_spec d i arg2 harg2 arg3 harg3 arg4 harg4 arg5 harg5 arg6 harg6 arg7 harg7 arg8 harg8 arg9 harg9 arg10 arg11 arg12 arg13 v52_r0 f5 f7 (2 * k0_t1.val) k0_t2 _) ?_
  refine step_dead fun _ => ?_
  refine step_store (k0_off30_eq k0_t2) rfl ?_
  refine step_dead fun _ => ?_
  refine step_store (k0_off31_eq k0_t2) rfl ?_
  refine step_dead fun _ => ?_
  refine step_store (k0_off32_eq k0_t2) rfl ?_
  exact step_ret (Rs_mono fun _ h => h.next)

/-- The sixteen trips over an even row: every cell of the result block holds its channel at its column. -/
theorem rowA (f5 : Buf (Elt F) (arg5.view.loc (thr d i))) (f7 : Buf (Elt F) (arg7.view.loc (thr d i))) (v29 : BitVec 32) (c0 c1 : BitVec 32) (k0_t1 : Fin k0_t1_loop.trips) (v54 : BitVec 32) :
    Rs d i arg5 arg7 arg8 f5 f7 (fun _ => True)
      ⊢ wp frame (wpE (defs₀ (F := F)) 𝒱₀ (thr d i) none) Set.univ
        (Scf.Loop.for k0_t2_loop k0_t2_ok ⟨⟩ (k0_t2_body i arg2 harg2 arg3 harg3 arg4 harg4 arg5 harg5 arg6 harg6 arg7 harg7 arg8 harg8 arg9 harg9 arg10 arg11 arg12 arg13 v52_r0 v29 (iota .scVector S16 32 [0] iota_S16_d0_w32_scVector) c0 c1 k0_t1 v54))
        (fun _ => Rs d i arg5 arg7 arg8 f5 f7 (fun o => ∀ y, o y = outS (colOf (arg5.view.read (Elt F) f5) (y 1).val) (dispOf (arg7.view.read (Elt F) f7) (2 * k0_t1.val) (y 1).val) (y 0).val)) := by
  refine BIBase.Entails.trans ?_ (Scf.wp_for Idealize.ShloMosaic.frame (wpE (defs₀ (F := F)) 𝒱₀ (thr d i) none) Set.univ k0_t2_loop.lb k0_t2_loop.ub k0_t2_loop.st k0_t2_ok ()
    (k0_t2_body i arg2 harg2 arg3 harg3 arg4 harg4 arg5 harg5 arg6 harg6 arg7 harg7 arg8 harg8 arg9 harg9 arg10 arg11 arg12 arg13 v52_r0 v29 (iota .scVector S16 32 [0] iota_S16_d0_w32_scVector) c0 c1 k0_t1 v54)
    (fun n _ => Rs d i arg5 arg7 arg8 f5 f7 (Done (arg5.view.read (Elt F) f5) (arg7.view.read (Elt F) f7) (2 * k0_t1.val) n 0))
    (fun k0_t2 u => tripA d i arg2 harg2 arg3 harg3 arg4 harg4 arg5 harg5 arg6 harg6 arg7 harg7 arg8 harg8 arg9 harg9 arg10 arg11 arg12 arg13 v52_r0 f5 f7 v29 c0 c1 k0_t1 v54 k0_t2 u))
  iintro HR
  isplitl [HR]
  · iapply (Rs_mono (fun o _ => Done.zero (arg5.view.read (Elt F) f5) (arg7.view.read (Elt F) f7) (2 * k0_t1.val) o)) $$ HR
  · iintro %u HR
    iapply (Rs_mono (fun o h y => h y (.inl (y 1).isLt))) $$ HR

/-- A trip over group `k0_t3` of an odd row: the group's 27 channels are done. -/
theorem tripB (f5 : Buf (Elt F) (arg6.view.loc (thr d i))) (f7 : Buf (Elt F) (arg7.view.loc (thr d i))) (k0_t1 : Fin k0_t1_loop.trips) (v73 : BitVec 32)
    (k0_t3 : Fin k0_t3_loop.trips) (u : Unit) :
    Rs d i arg6 arg7 arg9 f5 f7 (Done (arg6.view.read (Elt F) f5) (arg7.view.read (Elt F) f7) (2 * k0_t1.val + 1) k0_t3.val 0)
      ⊢ wp frame (wpE (defs₀ (F := F)) 𝒱₀ (thr d i) none) Set.univ
        (k0_t3_body i arg2 harg2 arg3 harg3 arg4 harg4 arg5 harg5 arg6 harg6 arg7 harg7 arg8 harg8 arg9 harg9 arg10 arg11 arg12 arg13 v52_r0 (iota .scVector S16 32 [0] iota_S16_d0_w32_scVector) k0_t1 v73 k0_t3 u)
        (fun _ => Rs d i arg6 arg7 arg9 f5 f7 (Done (arg6.view.read (Elt F) f5) (arg7.view.read (Elt F) f7) (2 * k0_t1.val + 1) (k0_t3.val + 1) 0)) := by
  unfold k0_t3_body
  refine step_part (part16_spec d i arg2 harg2 arg3 harg3 arg4 harg4 arg5 harg5 arg6 harg6 arg7 harg7 arg8 harg8 arg9 harg9 arg10 arg11 arg12 arg13 v52_r0 f5 f7 (2 * k0_t1.val + 1) k0_t1 v73 k0_t3 rfl) ?_
  refine step_part (part17_spec d i arg2 harg2 arg3 harg3 arg4 harg4 arg5 harg5 arg6 harg6 arg7 harg7 arg8 harg8 arg9 harg9 arg10 arg11 arg12 arg13 v52_r0 f5 f7 (2 * k0_t1.val + 1) k0_t3 _) ?_
  refine step_part (part18_spec d i arg2 harg2 arg3 harg3 arg4 harg4 arg5 harg5 arg6 harg6 arg7 harg7 arg8 harg8 arg9 harg9 arg10 arg11 arg12 arg13 v52_r0 f5 f7 (2 * k0_t1.val + 1) k0_t3 _) ?_
  refine step_part (part19_spec d i arg2 harg2 arg3 harg3 arg4 harg4 arg5 harg5 arg6 harg6 arg7 harg7 arg8 harg8 arg9 harg9 arg10 arg11 arg12 arg13 v52_r0 f5 f7 (2 * k0_t1.val + 1) k0_t3 _) ?_
  refine step_part (part20_spec d i arg2 harg2 arg3 harg3 arg4 harg4 arg5 harg5 arg6 harg6 arg7 harg7 arg8 harg8 arg9 harg9 arg10 arg11 arg12 arg13 v52_r0 f5 f7 (2 * k0_t1.val + 1) k0_t3) ?_
  refine step_part (part21_spec d i arg2 harg2 arg3 harg3 arg4 harg4 arg5 harg5 arg6 harg6 arg7 harg7 arg8 harg8 arg9 harg9 arg10 arg11 arg12 arg13 v52_r0 f5 f7 (2 * k0_t1.val + 1) k0_t3) ?_
  refine step_part (part22_spec d i arg2 harg2 arg3 harg3 arg4 harg4 arg5 harg5 arg6 harg6 arg7 harg7 arg8 harg8 arg9 harg9 arg10 arg11 arg12 arg13 v52_r0 f5 f7 (2 * k0_t1.val + 1) k0_t3) ?_
  refine step_part (part23_spec d i arg2 harg2 arg3 harg3 arg4 harg4 arg5 harg5 arg6 harg6 arg7 harg7 arg8 harg8 arg9 harg9 arg10 arg11 arg12 arg13 v52_r0 f5 f7 (2 * k0_t1.val + 1) k0_t3) ?_
  refine step_part (part24_spec d i arg2 harg2 arg3 harg3 arg4 harg4 arg5 harg5 arg6 harg6 arg7 harg7 arg8 harg8 arg9 harg9 arg10 arg11 arg12 arg13 v52_r0 f5 f7 (2 * k0_t1.val + 1) k0_t3) ?_
  refine step_part (part25_spec d i arg2 harg2 arg3 harg3 arg4 harg4 arg5 harg5 arg6 harg6 arg7 harg7 arg8 harg8 arg9 harg9 arg10 arg11 arg12 arg13 v52_r0 f5 f7 (2 * k0_t1.val + 1) k0_t3) ?_
  refine step_part (part26_spec d i arg2 harg2 arg3 harg3 arg4 harg4 arg5 harg5 arg6 harg6 arg7 harg7 arg8 harg8 arg9 harg9 arg10 arg11 arg12 arg13 v52_r0 f5 f7 (2 * k0_t1.val + 1) k0_t3) ?_
  refine step_part (part27_spec d i arg2 harg2 arg3 harg3 arg4 harg4 arg5 harg5 arg6 harg6 arg7 harg7 arg8 harg8 arg9 harg9 arg10 arg11 arg12 arg13 v52_r0 f5 f7 (2 * k0_t1.val + 1) k0_t3 _) ?_
  refine step_part (part28_spec d i arg2 harg2 arg3 harg3 arg4 harg4 arg5 harg5 arg6 harg6 arg7 harg7 arg8 harg8 arg9 harg9 arg10 arg11 arg12 arg13 v52_r0 f5 f7 (2 * k0_t1.val + 1) k0_t3 _) ?_
  refine step_part (part29_spec d i arg2 harg2 arg3 harg3 arg4 harg4 arg5 harg5 arg6 harg6 arg7 harg7 arg8 harg8 arg9 harg9 arg10 arg11 arg12 arg13 v52_r0 f5 f7 (2 * k0_t1.val + 1) k0_t3 _) ?_
  refine step_part (part30_spec d i arg2 harg2 arg3 harg3 arg4 harg4 arg5 harg5 arg6 harg6 arg7 harg7 arg8 harg8 arg9 harg9 arg10 arg11 arg12 arg13 v52_r0 f5 f7 (2 * k0_t1.val + 1) k0_t3 _) ?_
  refine step_dead fun _ => ?_
  refine step_store (k0_off61_eq k0_t3) rfl ?_
  refine step_dead fun _ => ?_
  refine step_store (k0_off62_eq k0_t3) rfl ?_
  refine step_dead fun _ => ?_
  refine step_store (k0_off63_eq k0_t3) rfl ?_
  exact step_ret (Rs_mono fun _ h => h.next)

/-- The sixteen trips over an odd row: every cell of the result block holds its channel at its column. -/
theorem rowB (f5 : Buf (Elt F) (arg6.view.loc (thr d i))) (f7 : Buf (Elt F) (arg7.view.loc (thr d i))) (k0_t1 : Fin k0_t1_loop.trips) (v73 : BitVec 32) :
    Rs d i arg6 arg7 arg9 f5 f7 (fun _ => True)
      ⊢ wp frame (wpE (defs₀ (F := F)) 𝒱₀ (thr d i) none) Set.univ
        (Scf.Loop.for k0_t3_loop k0_t3_ok ⟨⟩ (k0_t3_body i arg2 harg2 arg3 harg3 arg4 harg4 arg5 harg5 arg6 harg6 arg7 harg7 arg8 harg8 arg9 harg9 arg10 arg11 arg12 arg13 v52_r0 (iota .scVector S16 32 [0] iota_S16_d0_w32_scVector) k0_t1 v73))
        (fun _ => Rs d i arg6 arg7 arg9 f5 f7 (fun o => ∀ y, o y = outS (colOf (arg6.view.read (Elt F) f5) (y 1).val) (dispOf (arg7.view.read (Elt F) f7) (2 * k0_t1.val + 1) (y 1).val) (y 0).val)) := by
  refine BIBase.Entails.trans ?_ (Scf.wp_for Idealize.ShloMosaic.frame (wpE (defs₀ (F := F)) 𝒱₀ (thr d i) none) Set.univ k0_t3_loop.lb k0_t3_loop.ub k0_t3_loop.st k0_t3_ok ()
    (k0_t3_body i arg2 harg2 arg3 harg3 arg4 harg4 arg5 harg5 arg6 harg6 arg7 harg7 arg8 harg8 arg9 harg9 arg10 arg11 arg12 arg13 v52_r0 (iota .scVector S16 32 [0] iota_S16_d0_w32_scVector) k0_t1 v73)
    (fun n _ => Rs d i arg6 arg7 arg9 f5 f7 (Done (arg6.view.read (Elt F) f5) (arg7.view.read (Elt F) f7) (2 * k0_t1.val + 1) n 0))
    (fun k0_t3 u => tripB d i arg2 harg2 arg3 harg3 arg4 harg4 arg5 harg5 arg6 harg6 arg7 harg7 arg8 harg8 arg9 harg9 arg10 arg11 arg12 arg13 v52_r0 f5 f7 k0_t1 v73 k0_t3 u))
  iintro HR
  isplitl [HR]
  · iapply (Rs_mono (fun o _ => Done.zero (arg6.view.read (Elt F) f5) (arg7.view.read (Elt F) f7) (2 * k0_t1.val + 1) o)) $$ HR
  · iintro %u HR
    iapply (Rs_mono (fun o h y => h y (.inl (y 1).isLt))) $$ HR

end Cert.Proof.Sc
-- ==== Proof.Sc.Moves.lean ====
/- The transfers of a tile: fetching a row of the cost volume into a buffer, writing a buffer out to a row of the
   result, and the waits. A transfer in flight delivers at its wait what it moved: the row's block in the buffer, or the
   row of the result holding the result's values. -/
module

public import proofs.«01_k».proof.Proof.Sc.Rows
public import proofs.«01_k».proof.Proof.Sc.Trip

@[expose] public section

set_option maxRecDepth 16384

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode
open Idealize.SL.Sem

variable {F : FTy → Type} [FloatOps F]

local notation "𝕄" => MT nD τ sig (HIx 1) (Elt F) ℕ UU ℕ

/-! ## The result -/

/-- What the result holds at an element: channel `x 1` at its column of the cost volume and its disparity. -/
def resE (cv : S4x128x128x256.Idx → F .f32) (dp : S4x1x128x256.Idx → F .f32) : S4x27x128x256.Idx → F .f32 := fun x =>
  outS (fun n => cv (ix4 (x 0) (⟨n % 128, Nat.mod_lt _ (by decide)⟩ : Fin 128) (x 2) (x 3))) (dp (ix4 (x 0) (0 : Fin 1) (x 2) (x 3))) (x 1).val

/-- What a block of 27 rows is to hold, computed from a block of the cost volume and the tile's disparities at row `r`. -/
def blockE (cv : S4x128x128x256.Idx → F .f32) (dp : S4x1x128x256.Idx → F .f32) (i : grid0.Coords) (r : ℕ) : S27x256.Idx → F .f32 := fun y =>
  outS (colOf (rowC cv i r) (y 1).val) (dispOf (rowsD dp i) r (y 1).val) (y 0).val

/-- On the tile's row `r` the block is the result. -/
theorem blockE_eq (cv : S4x128x128x256.Idx → F .f32) (dp : S4x1x128x256.Idx → F .f32) {i : grid0.Coords} {r : ℕ} (hr : r < 16)
    {x : S4x27x128x256.Idx} (hx : x ∈ outRow i r) : blockE cv dp i r (ix2 (x 1) (x 3)) = resE cv dp x := by
  obtain ⟨h0, h2⟩ := mem_outRow.mp hx
  have e0 : (⟨bI i, bI_lt i⟩ : Fin 4) = x 0 := Fin.ext h0.symm
  have e2 : (⟨hI i r % 128, Nat.mod_lt _ (by decide)⟩ : Fin 128) = x 2 := Fin.ext ((Nat.mod_eq_of_lt (hI_lt hr)).trans h2.symm)
  have e2' : (⟨hI i (r % 16) % 128, Nat.mod_lt _ (by decide)⟩ : Fin 128) = x 2 := by rw [← e2]; apply Fin.ext; simp only [Nat.mod_eq_of_lt hr]
  have e3 : (⟨(x 3).val % 256, Nat.mod_lt _ (by decide)⟩ : Fin 256) = x 3 := Fin.ext (Nat.mod_eq_of_lt (x 3).isLt)
  show outS (fun n => cv (ix4 (⟨bI i, bI_lt i⟩ : Fin 4) (⟨n % 128, Nat.mod_lt _ (by decide)⟩ : Fin 128) (⟨hI i r % 128, Nat.mod_lt _ (by decide)⟩ : Fin 128) (⟨(x 3).val % 256, Nat.mod_lt _ (by decide)⟩ : Fin 256)))
    (dp (ix4 (⟨bI i, bI_lt i⟩ : Fin 4) (0 : Fin 1) (⟨hI i (r % 16) % 128, Nat.mod_lt _ (by decide)⟩ : Fin 128) (⟨(x 3).val % 256, Nat.mod_lt _ (by decide)⟩ : Fin 256))) (x 1).val = _
  rw [e0, e2, e2', e3]
  rfl

/-! ## Transfers -/

/-- The arrays as the whole device names them. -/
abbrev cvLoc (d : Dev nD) : Loc nD τ sig := (SparseCore.T d).loc main_arg0
abbrev dispLoc (d : Dev nD) : Loc nD τ sig := (SparseCore.T d).loc main_arg2
abbrev outLoc (d : Dev nD) : Loc nD τ sig := (SparseCore.T d).loc main_v0

section Moves

variable (d : Dev nD) (i : grid0.Coords)

/-- What a tile owes, with the right to wait: from `W` on only waits at the index of no call. -/
def Ow (O : CellTallies nD τ sig (HIx 1)) (W : Waits sig (HIx 1)) : sProp 𝕄 :=
  iprop(MayWaits (thr d i) none O ∗ ∃ W', ⌜∀ p ∈ W', p ∈ W ∨ p.2 = none⌝ ∗ owes (thr d i) O W')

/-- A buffer and its semaphore at rest. -/
def Idle {s : Shape} (m : Memref sig .scVector .vmem s .f32) (sm : DmaSems sig S_) : sProp 𝕄 :=
  iprop((∃ f, m.view.loc (thr d i) ↦{fullShare} f) ∗ semVal (thr d i, SemLoc.dma sm.sem) 0)

/-- A buffer holding row `r`'s block of the cost volume, beside the row. -/
def Fetched (m : Memref sig .scVector .vmem S128x256 .f32) (cv : S4x128x128x256.Idx → F .f32) (r : ℕ) : sProp 𝕄 :=
  iprop((∃ f : Buf (Elt F) (m.view.loc (thr d i)), ⌜m.view.read (Elt F) f = rowC cv i r⌝ ∗ m.view.loc (thr d i) ↦{fullShare} f)
    ∗ cvLoc d ↦[cvRow i r]{fullShare} cv)

/-- The fetch of row `r` in flight. -/
def InFl (m : Memref sig .scVector .vmem S128x256 .f32) (sm : DmaSems sig S_) (cv : S4x128x128x256.Idx → F .f32) (r : ℕ) : sProp 𝕄 :=
  Flight countersEmb (thr d i) (SemLoc.dma sm.sem) none m.view.dmaCredit (Fetched d i m cv r)

/-- Row `r` of the result written, beside the buffer it came from. -/
def Written (m : Memref sig .scVector .vmem S27x256 .f32) (cv : S4x128x128x256.Idx → F .f32) (dp : S4x1x128x256.Idx → F .f32) (r : ℕ) : sProp 𝕄 :=
  iprop((outLoc d ↦[outRow i r]{fullShare} resE cv dp) ∗ ∃ f, m.view.loc (thr d i) ↦{fullShare} f)

/-- The credit of a transfer to a row of the result. -/
def outCredit : ℕ := (outSl (fun _ => 0) (by decide)).view.dmaCredit

/-- The write-out of row `r` in flight. -/
def OutFl (m : Memref sig .scVector .vmem S27x256 .f32) (sm : DmaSems sig S_) (cv : S4x128x128x256.Idx → F .f32) (dp : S4x1x128x256.Idx → F .f32) (r : ℕ) : sProp 𝕄 :=
  Flight countersEmb (thr d i) (SemLoc.dma sm.sem) none outCredit (Written d i m cv dp r)

variable {d i}

/-- A wait for a transfer in flight. -/
theorem step_wait {α : Type} {Q : α → sProp 𝕄} {sp sp' : Space} {s s' : Shape} {e e' : EltTy} {sem : DmaSem sig} {srcw : Memref sig .scVector sp' s' e'} {dstw : Memref sig .scVector sp s e}
    {hsrc : srcw.view.WordExact} {hdst : dstw.view.WordExact} {k : PUnit → Prog (TpuEff nD τ sig (Elt F) Λ₀ (thr d i).2) α} {N : ℕ} (hN : dstw.view.dmaCredit = N)
    {Dl : sProp 𝕄} {O : CellTallies nD τ sig (HIx 1)} {W : Waits sig (HIx 1)} :
    iprop(Flight countersEmb (thr d i) (SemLoc.dma sem) none N Dl ∗ Ow d i O W)
      ⊢ iprop((iprop(Dl ∗ semVal (thr d i, SemLoc.dma sem) 0 ∗ Ow d i O W) -∗ wp frame (wpE (defs₀ (F := F)) 𝒱₀ (thr d i) none) Set.univ (k ⟨⟩) Q)
          -∗ wp frame (wpE (defs₀ (F := F)) 𝒱₀ (thr d i) none) Set.univ (.op (.waitDma2 sem srcw dstw hsrc hdst) k) Q) := by
  unfold Ow
  iintro ⟨Hfl, #Hmw, %W', %hW', HO⟩ Hk
  iapply (wp_waitLocalO countersEmb 𝒱₀ (thr d i) none (none : HIx 1) hN) $$ [Hfl HO]
  · isplitl [Hfl]; · iexact Hfl
    isplitl [HO]; · iexact HO
    iapply (MayWaits.elim (SemLoc.dma sem)); iexact Hmw
  iintro ⟨HD, Hv, HO⟩
  iapply Hk
  isplitl [HD]; · iexact HD
  isplitl [Hv]; · iexact Hv
  isplitr; · iexact Hmw
  iexists (insert (SemLoc.dma sem, none) W')
  isplitr
  · ipureintro
    intro p hp
    rcases Finset.mem_insert.mp hp with h | h
    · right; rw [h]
    · exact hW' p h
  iexact HO

/-- The fetch of row `r`. -/
theorem step_fetch {α : Type} {Q : α → sProp 𝕄} {off : Fin 4 → ℕ} {inb : ∀ a, off a + S1x128x1x256.size a ≤ S4x128x128x256.size a} {r : ℕ} (hr : r < 16)
    (hoff : ∀ a, off a = (![bI i, 0, hI i r, 0] : Fin 4 → ℕ) a) (m : Memref sig .scVector .vmem S128x256 .f32) (sm : DmaSems sig S_)
    {cv : S4x128x128x256.Idx → F .f32} {hsrc : (cvSl off inb).view.WordExact} {hdst : m.view.WordExact}
    {hsem : DmaTarget.Typed (nD := nD) (τ := τ) .hbm (SemLoc.dma sm.sem) (DmaTarget.here (p := (thr d i).2) m)} {k : PUnit → Prog (TpuEff nD τ sig (Elt F) Λ₀ (thr d i).2) α} :
    iprop((cvLoc d ↦[cvRow i r]{fullShare} cv) ∗ Idle d i m sm)
      ⊢ iprop((InFl d i m sm cv r -∗ wp frame (wpE (defs₀ (F := F)) 𝒱₀ (thr d i) none) Set.univ (k ⟨⟩) Q)
          -∗ wp frame (wpE (defs₀ (F := F)) 𝒱₀ (thr d i) none) Set.univ (.op (.enqueueDma (cvSl off inb) (.here m) (SemLoc.dma sm.sem) hsrc hdst hsem) k) Q) := by
  unfold Idle
  iintro ⟨Hc, ⟨%f, Hm⟩, Hv⟩ Hk
  iapply (wp_dmaLocal countersEmb 𝒱₀ (thr d i) none (src := cvSl off inb) (dst := m) (Sd := Finset.univ) (fs := cv) (q := fullShare) (none : HIx 1) m.view.dmaCredit rfl
      (View.dmaCredit_pos _ (by decide)) (Finset.subset_univ _)) $$ [Hc Hm Hv]
  · isplitl [Hc]
    · rw [cvSl_set hr hoff]; iexact Hc
    isplitl [Hm]; · iexact Hm
    iexact Hv
  iintro Hfl
  iapply Hk
  unfold InFl
  iapply (Flight_mono countersEmb (thr d i) ?_) $$ Hfl
  unfold Fetched
  iintro ⟨Hm, Hc⟩
  isplitl [Hm]
  · iexists (m.view.write (Elt F) f (rowC cv i r) Finset.univ)
    isplitr
    · ipureintro; exact View.read_write_univ _ _
    · rw [← cvSl_read hr hoff cv]; iexact Hm
  · rw [cvSl_set hr hoff]; iexact Hc

/-- The write-out of row `r` from a buffer holding the row's block. -/
theorem step_emit {α : Type} {Q : α → sProp 𝕄} {off : Fin 4 → ℕ} {inb : ∀ a, off a + S1x27x1x256.size a ≤ S4x27x128x256.size a} {r : ℕ} (hr : r < 16)
    (hoff : ∀ a, off a = (![bI i, 0, hI i r, 0] : Fin 4 → ℕ) a) (m : Memref sig .scVector .vmem S27x256 .f32) (hm : m.view.set = Finset.univ) (sm : DmaSems sig S_)
    {cv : S4x128x128x256.Idx → F .f32} {dp : S4x1x128x256.Idx → F .f32} {fo : S4x27x128x256.Idx → F .f32} {f8 : Buf (Elt F) (m.view.loc (thr d i))}
    (hf8 : m.view.read (Elt F) f8 = blockE cv dp i r) {hsrc : m.view.WordExact} {hdst : (outSl off inb).view.WordExact}
    {hsem : DmaTarget.Typed (nD := nD) (τ := τ) .vmem (SemLoc.dma sm.sem) (DmaTarget.here (p := (thr d i).2) (outSl off inb))} {k : PUnit → Prog (TpuEff nD τ sig (Elt F) Λ₀ (thr d i).2) α} :
    iprop((m.view.loc (thr d i) ↦{fullShare} f8) ∗ (outLoc d ↦[outRow i r]{fullShare} fo) ∗ semVal (thr d i, SemLoc.dma sm.sem) 0)
      ⊢ iprop((OutFl d i m sm cv dp r -∗ wp frame (wpE (defs₀ (F := F)) 𝒱₀ (thr d i) none) Set.univ (k ⟨⟩) Q)
          -∗ wp frame (wpE (defs₀ (F := F)) 𝒱₀ (thr d i) none) Set.univ (.op (.enqueueDma m (.here (outSl off inb)) (SemLoc.dma sm.sem) hsrc hdst hsem) k) Q) := by
  have hc : (outLoc d ↦[outRow i r]{fullShare} ((outSl off inb).view.write (Elt F) fo (m.view.read (Elt F) f8) Finset.univ) : sProp 𝕄)
      = outLoc d ↦[outRow i r]{fullShare} resE cv dp :=
    pointsTo_congr (ℓ := outLoc d) fun x hx => by
      rw [hf8]; exact (outSl_write hr hoff fo _ hx).trans (blockE_eq cv dp hr hx)
  iintro ⟨Hm, Ho, Hv⟩ Hk
  iapply (wp_dmaLocal countersEmb 𝒱₀ (thr d i) none (src := m) (dst := outSl off inb) (Sd := outRow i r) (fs := f8) (fd := fo) (q := fullShare) (none : HIx 1) outCredit rfl
      (View.dmaCredit_pos _ (by decide)) (outSl_set hr hoff).subset) $$ [Hm Ho Hv]
  · isplitl [Hm]
    · rw [hm]; iexact Hm
    isplitl [Ho]; · iexact Ho
    iexact Hv
  iintro Hfl
  iapply Hk
  unfold OutFl
  iapply (Flight_mono countersEmb (thr d i) ?_) $$ Hfl
  unfold Written
  iintro ⟨Ho, Hm⟩
  isplitl [Ho]
  · iapply (Entails.of_eq hc) $$ Ho
  · iexists f8; rw [hm]; iexact Hm

end Moves

end Cert.Proof.Sc
-- ==== Proof.Sc.Half.lean ====
/- Half a trip of a tile's outer loop: one row. The row's fetch is waited for, the write-out of the row two before (if
   there is one) is waited for, the row is computed, its write-out is started, and so is the fetch of the row two on (if
   there is one). The even and the odd rows go through this alike, each with buffers and semaphores of its own. -/
module

public import proofs.«01_k».proof.Proof.Sc.Moves

@[expose] public section

set_option maxRecDepth 16384

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode
open Idealize.SL.Sem

variable {F : FTy → Type} [FloatOps F]

local notation "𝕄" => MT nD τ sig (HIx 1) (Elt F) ℕ UU ℕ

section Half

variable (d : Dev nD) (i : grid0.Coords)
variable (m5 : Memref sig .scVector .vmem S128x256 .f32) (m7 : Memref sig .scVector .vmem S16x256 .f32) (m8 : Memref sig .scVector .vmem S27x256 .f32)
variable (sm5 sm8 : DmaSems sig S_)
variable (cv : S4x128x128x256.Idx → F .f32) (dp : S4x1x128x256.Idx → F .f32) (fo : S4x27x128x256.Idx → F .f32)

/-- Before trip `k` the fetch of row `2 k + q` is in flight, unless all trips are done. -/
def InAt (q k : ℕ) : sProp 𝕄 := if k < 8 then InFl d i m5 sm5 cv (2 * k + q) else Idle d i m5 sm5
/-- Before trip `k` the write-out of trip `k - 1` is in flight, unless no trip is done. -/
def OutAt (q : ℕ) : ℕ → sProp 𝕄
  | 0 => Idle d i m8 sm8
  | k + 1 => OutFl d i m8 sm8 cv dp (2 * k + q)
/-- Row `2 k + q` of the cost volume, if trip `k` exists. -/
def CvPc (q k : ℕ) : sProp 𝕄 := if k < 8 then (cvLoc d ↦[cvRow i (2 * k + q)]{fullShare} cv) else iprop(emp)
/-- Row `2 k + q` of the result, not yet written, and written. -/
def NewPc (q k : ℕ) : sProp 𝕄 := outLoc d ↦[outRow i (2 * k + q)]{fullShare} fo
def DonePc (q k : ℕ) : sProp 𝕄 := outLoc d ↦[outRow i (2 * k + q)]{fullShare} resE cv dp
/-- The row written by the trip before `k`. -/
def PrevPc (q : ℕ) : ℕ → sProp 𝕄
  | 0 => iprop(emp)
  | k + 1 => DonePc d i cv dp q k
/-- The tile's disparities in their buffer. -/
def Disp : sProp 𝕄 := iprop(∃ f : Buf (Elt F) (m7.view.loc (thr d i)), ⌜m7.view.read (Elt F) f = rowsD dp i⌝ ∗ m7.view.loc (thr d i) ↦{fullShare} f)

variable {d i m5 m7 m8 sm5 sm8 cv dp fo}

/-- The wait for the write-out of the trip before, if there is one. -/
theorem step_waitOut {q k : ℕ} {c : BitVec 1} (hc : c = 1#1 ↔ k ≠ 0) {O : CellTallies nD τ sig (HIx 1)} {W : Waits sig (HIx 1)} {α : Type} {Q : α → sProp 𝕄}
    {B : Prog (TpuEff nD τ sig (Elt F) Λ₀ (thr d i).2) α} {srcw : c = 1#1 → Memref sig .scVector .vmem S27x256 .f32}
    {offw : c = 1#1 → Fin 4 → ℕ} {inbw : ∀ h a, offw h a + S1x27x1x256.size a ≤ S4x27x128x256.size a}
    {hsrc : ∀ h, (srcw h).view.WordExact} {hdst : ∀ h, (outSl (offw h) (inbw h)).view.WordExact} :
    iprop(OutAt d i m8 sm8 cv dp q k ∗ Ow d i O W)
      ⊢ iprop((iprop(Idle d i m8 sm8 ∗ PrevPc d i cv dp q k ∗ Ow d i O W) -∗ wp frame (wpE (defs₀ (F := F)) 𝒱₀ (thr d i) none) Set.univ B Q)
          -∗ wp frame (wpE (defs₀ (F := F)) 𝒱₀ (thr d i) none) Set.univ
              (if h : c = 1#1 then Prog.op (.waitDma2 sm8.sem (srcw h) (outSl (offw h) (inbw h)) (hsrc h) (hdst h)) (fun _ => B) else B) Q) := by
  cases k with
  | zero =>
    rw [dif_neg (fun h => hc.mp h rfl), show OutAt d i m8 sm8 cv dp q 0 = Idle d i m8 sm8 from rfl, show PrevPc d i cv dp q 0 = iprop(emp) from rfl]
    iintro ⟨Hout, How⟩ Hk
    iapply Hk
    isplitl [Hout]; · iexact Hout
    isplitr; · iempintro
    iexact How
  | succ k =>
    have h := hc.mpr (Nat.succ_ne_zero k)
    rw [dif_pos h, show OutAt d i m8 sm8 cv dp q (k + 1) = OutFl d i m8 sm8 cv dp (2 * k + q) from rfl, show PrevPc d i cv dp q (k + 1) = DonePc d i cv dp q k from rfl]
    unfold OutFl
    iintro ⟨Hout, How⟩ Hk
    iapply (step_wait (F := F) (d := d) (i := i) (dstw := outSl (offw h) (inbw h)) (N := outCredit) (Dl := Written d i m8 cv dp (2 * k + q)) rfl) $$ [Hout How]
    · isplitl [Hout]; · iexact Hout
      iexact How
    unfold Written
    iintro ⟨⟨Hd, Hm⟩, Hv, How⟩
    iapply Hk
    isplitl [Hm Hv]
    · unfold Idle
      isplitl [Hm]; · iexact Hm
      iexact Hv
    unfold DonePc
    isplitl [Hd]; · iexact Hd
    iexact How

/-- The fetch for the trip after, if there is one. -/
theorem step_fetchNext {q k : ℕ} (hq : q < 2) {c : BitVec 1} (hc : c = 1#1 ↔ k + 1 < 8) {α : Type} {Q : α → sProp 𝕄}
    {B : Prog (TpuEff nD τ sig (Elt F) Λ₀ (thr d i).2) α} {off : Fin 4 → ℕ} {inb : c = 1#1 → ∀ a, off a + S1x128x1x256.size a ≤ S4x128x128x256.size a}
    (hoff : ∀ a, off a = (![bI i, 0, hI i (2 * (k + 1) + q), 0] : Fin 4 → ℕ) a)
    {hsrc : ∀ h, (cvSl off (inb h)).view.WordExact} {hdst : c = 1#1 → m5.view.WordExact}
    {hsem : c = 1#1 → DmaTarget.Typed (nD := nD) (τ := τ) .hbm (SemLoc.dma sm5.sem) (DmaTarget.here (p := (thr d i).2) m5)} :
    iprop(CvPc d i cv q (k + 1) ∗ Idle d i m5 sm5)
      ⊢ iprop((InAt d i m5 sm5 cv q (k + 1) -∗ wp frame (wpE (defs₀ (F := F)) 𝒱₀ (thr d i) none) Set.univ B Q)
          -∗ wp frame (wpE (defs₀ (F := F)) 𝒱₀ (thr d i) none) Set.univ
              (if h : c = 1#1 then Prog.op (.enqueueDma (cvSl off (inb h)) (.here m5) (SemLoc.dma sm5.sem) (hsrc h) (hdst h) (hsem h)) (fun _ => B) else B) Q) := by
  by_cases hk : k + 1 < 8
  · have h := hc.mpr hk
    unfold CvPc InAt
    rw [dif_pos h, if_pos hk, if_pos hk]
    iintro ⟨Hc, Hi⟩ Hk
    iapply (step_fetch (F := F) (d := d) (i := i) (r := 2 * (k + 1) + q) (by omega) hoff m5 sm5 (cv := cv)) $$ [Hc Hi]
    · isplitl [Hc]; · iexact Hc
      iexact Hi
    iintro Hfl
    iapply Hk
    iexact Hfl
  · unfold CvPc InAt
    rw [dif_neg (fun h => hk (hc.mp h)), if_neg hk, if_neg hk]
    iintro ⟨-, Hi⟩ Hk
    iapply Hk
    iexact Hi

/-- Half a trip, from the row fetched on. -/
theorem halfTrip {q k : ℕ} (hk : k < 8) (hq : q < 2) (hm8 : m8.view.set = Finset.univ) {α : Type} {Q : α → sProp 𝕄}
    {O : CellTallies nD τ sig (HIx 1)} {W : Waits sig (HIx 1)}
    {c1 c2 : BitVec 1} (hc1 : c1 = 1#1 ↔ k ≠ 0) (hc2 : c2 = 1#1 ↔ k + 1 < 8)
    {srcw : c1 = 1#1 → Memref sig .scVector .vmem S27x256 .f32}
    {offw : c1 = 1#1 → Fin 4 → ℕ} {inbw : ∀ h a, offw h a + S1x27x1x256.size a ≤ S4x27x128x256.size a}
    {hsrc1 : ∀ h, (srcw h).view.WordExact} {hdst1 : ∀ h, (outSl (offw h) (inbw h)).view.WordExact}
    {loop : Prog (TpuEff nD τ sig (Elt F) Λ₀ (thr d i).2) Unit}
    (hloop : ∀ (f5 : Buf (Elt F) (m5.view.loc (thr d i))) (f7 : Buf (Elt F) (m7.view.loc (thr d i))), Rs d i m5 m7 m8 f5 f7 (fun _ => True)
      ⊢ wp frame (wpE (defs₀ (F := F)) 𝒱₀ (thr d i) none) Set.univ loop
        (fun _ => Rs d i m5 m7 m8 f5 f7 (fun o => ∀ y, o y = outS (colOf (m5.view.read (Elt F) f5) (y 1).val) (dispOf (m7.view.read (Elt F) f7) (2 * k + q) (y 1).val) (y 0).val)))
    {offo : Fin 4 → ℕ} {inbo : ∀ a, offo a + S1x27x1x256.size a ≤ S4x27x128x256.size a}
    (hoffo : ∀ a, offo a = (![bI i, 0, hI i (2 * k + q), 0] : Fin 4 → ℕ) a)
    {hsrc2 : m8.view.WordExact} {hdst2 : (outSl offo inbo).view.WordExact}
    {hsem2 : DmaTarget.Typed (nD := nD) (τ := τ) .vmem (SemLoc.dma sm8.sem) (DmaTarget.here (p := (thr d i).2) (outSl offo inbo))}
    {off : Fin 4 → ℕ} {inb : c2 = 1#1 → ∀ a, off a + S1x128x1x256.size a ≤ S4x128x128x256.size a}
    (hoff : ∀ a, off a = (![bI i, 0, hI i (2 * (k + 1) + q), 0] : Fin 4 → ℕ) a)
    {hsrc3 : ∀ h, (cvSl off (inb h)).view.WordExact} {hdst3 : c2 = 1#1 → m5.view.WordExact}
    {hsem3 : c2 = 1#1 → DmaTarget.Typed (nD := nD) (τ := τ) .hbm (SemLoc.dma sm5.sem) (DmaTarget.here (p := (thr d i).2) m5)}
    {rest : Prog (TpuEff nD τ sig (Elt F) Λ₀ (thr d i).2) α} :
    iprop(Fetched d i m5 cv (2 * k + q) ∗ semVal (thr d i, SemLoc.dma sm5.sem) 0 ∗ OutAt d i m8 sm8 cv dp q k ∗ Disp d i m7 dp ∗ CvPc d i cv q (k + 1) ∗ NewPc d i fo q k ∗ Ow d i O W)
      ⊢ iprop((iprop(InAt d i m5 sm5 cv q (k + 1) ∗ OutAt d i m8 sm8 cv dp q (k + 1) ∗ Disp d i m7 dp ∗ CvPc d i cv q k ∗ PrevPc d i cv dp q k ∗ Ow d i O W)
            -∗ wp frame (wpE (defs₀ (F := F)) 𝒱₀ (thr d i) none) Set.univ rest Q)
          -∗ wp frame (wpE (defs₀ (F := F)) 𝒱₀ (thr d i) none) Set.univ
              (if h : c1 = 1#1 then Prog.op (.waitDma2 sm8.sem (srcw h) (outSl (offw h) (inbw h)) (hsrc1 h) (hdst1 h)) (fun _ =>
                  loop >>= fun _ =>
                  Prog.op (.enqueueDma m8 (.here (outSl offo inbo)) (SemLoc.dma sm8.sem) hsrc2 hdst2 hsem2) fun _ =>
                  if h : c2 = 1#1 then Prog.op (.enqueueDma (cvSl off (inb h)) (.here m5) (SemLoc.dma sm5.sem) (hsrc3 h) (hdst3 h) (hsem3 h)) (fun _ => rest) else rest)
                else
                  loop >>= fun _ =>
                  Prog.op (.enqueueDma m8 (.here (outSl offo inbo)) (SemLoc.dma sm8.sem) hsrc2 hdst2 hsem2) fun _ =>
                  if h : c2 = 1#1 then Prog.op (.enqueueDma (cvSl off (inb h)) (.here m5) (SemLoc.dma sm5.sem) (hsrc3 h) (hdst3 h) (hsem3 h)) (fun _ => rest) else rest) Q) := by
  have hr : 2 * k + q < 16 := by omega
  rw [show CvPc d i cv q k = (cvLoc d ↦[cvRow i (2 * k + q)]{fullShare} cv) from if_pos hk,
    show OutAt d i m8 sm8 cv dp q (k + 1) = OutFl d i m8 sm8 cv dp (2 * k + q) from rfl]
  unfold Fetched
  iintro ⟨⟨⟨%f5, %hf5, H5⟩, Hc⟩, Hv5, Hout, H7, Hcv, Hnew, How⟩ Hk
  iapply (step_waitOut (F := F) (d := d) (i := i) (q := q) (k := k) hc1) $$ [Hout How]
  · isplitl [Hout]; · iexact Hout
    iexact How
  unfold Idle
  iintro ⟨⟨⟨%f8, H8⟩, Hv8⟩, Hprev, How⟩
  unfold Disp
  icases H7 with ⟨%f7, %hf7, H7⟩
  rw [wp_bind]
  ihave HRs : Rs d i m5 m7 m8 f5 f7 (fun _ => True) $$ [H5 H7 H8]
  · iapply (Entails.of_eq (Rs_eq d i m5 m7 m8 f5 f7 (fun _ => True)).symm)
    isplitl [H5]; · iexact H5
    isplitl [H7]; · iexact H7
    iexists f8
    isplitr; · ipureintro; trivial
    iexact H8
  ihave Hwp := (hloop f5 f7) $$ HRs
  iapply (wp_wand frame _ _) $$ Hwp
  iintro %u HRs
  ihave HRs' := (Entails.of_eq (Rs_eq (F := F) d i m5 m7 m8 f5 f7 _)) $$ HRs
  icases HRs' with ⟨H5, H7, %f8', %hf8, H8⟩
  unfold NewPc
  iapply (step_emit (F := F) (d := d) (i := i) (r := 2 * k + q) hr hoffo m8 hm8 sm8 (cv := cv) (dp := dp) (fo := fo) (f8 := f8')
      (funext fun y => (hf8 y).trans (by rw [hf5, hf7]; rfl))) $$ [H8 Hnew Hv8]
  · isplitl [H8]; · iexact H8
    isplitl [Hnew]; · iexact Hnew
    iexact Hv8
  iintro Hfl
  iapply (step_fetchNext (F := F) (d := d) (i := i) (m5 := m5) (sm5 := sm5) (cv := cv) (q := q) (k := k) hq hc2 hoff) $$ [Hcv H5 Hv5]
  · isplitl [Hcv]; · iexact Hcv
    unfold Idle
    isplitl [H5]; · iexists f5; iexact H5
    iexact Hv5
  iintro Hin
  iapply Hk
  isplitl [Hin]; · iexact Hin
  isplitl [Hfl]; · iexact Hfl
  isplitl [H7]
  · iexists f7
    isplitr; · ipureintro; exact hf7
    iexact H7
  isplitl [Hc]; · iexact Hc
  isplitl [Hprev]; · iexact Hprev
  iexact How

end Half

end Cert.Proof.Sc
-- ==== Proof.Sc.Loop.lean ====
/- The outer loop of a tile: eight trips of two rows each. Between trips each parity's rows of the cost volume are all
   back except the one whose fetch is in flight, and each parity's rows of the result are those still to be written, the
   one in flight, and those written. -/
module

public import proofs.«01_k».proof.Proof.Sc.Half
public import Idealize.SL.BI.BigOpNat

@[expose] public section

set_option maxRecDepth 65536

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode
open Idealize.SL.Sem

variable {F : FTy → Type} [FloatOps F]

local notation "𝕄" => MT nD τ sig (HIx 1) (Elt F) ℕ UU ℕ

section Rest

variable (d : Dev nD) (i : grid0.Coords)
variable (cv : S4x128x128x256.Idx → F .f32) (dp : S4x1x128x256.Idx → F .f32) (fo : S4x27x128x256.Idx → F .f32)

/-- The rows of one parity: of the cost volume all but trip `k`'s, of the result those of the trips from `k` on and those
    of the trips before `k - 1`. -/
def CvRest (q k : ℕ) : sProp 𝕄 := bigSep ((Finset.range 8).erase k) fun j => cvLoc d ↦[cvRow i (2 * j + q)]{fullShare} cv
def NewRest (q k : ℕ) : sProp 𝕄 := bigSep (Finset.Ico k 8) fun j => NewPc d i fo q j
def DoneRest (q k : ℕ) : sProp 𝕄 := bigSep (Finset.range (k - 1)) fun j => DonePc d i cv dp q j
/-- The rows of the cost volume besides those of trips `k` and `k + 1`. -/
def CvCore (q k : ℕ) : sProp 𝕄 := bigSep (((Finset.range 8).erase k).erase (k + 1)) fun j => cvLoc d ↦[cvRow i (2 * j + q)]{fullShare} cv

variable {d i cv dp fo}

theorem cvRest_take {q k : ℕ} : CvRest d i cv q k = iprop(CvPc d i cv q (k + 1) ∗ CvCore d i cv q k) := by
  unfold CvRest CvPc CvCore
  by_cases h : k + 1 < 8
  · rw [if_pos h]
    exact SparseCore.bigSep_erase' (Finset.mem_erase.mpr ⟨by omega, Finset.mem_range.mpr h⟩)
  · rw [if_neg h, Finset.erase_eq_of_notMem (a := k + 1) (fun hm => h (Finset.mem_range.mp (Finset.mem_erase.mp hm).2))]
    exact (equiv_iff.mp BI.emp_sep).symm

theorem cvRest_give {q k : ℕ} (hk : k < 8) : CvRest d i cv q (k + 1) = iprop(CvPc d i cv q k ∗ CvCore d i cv q k) := by
  unfold CvRest CvPc CvCore
  rw [if_pos hk, Finset.erase_right_comm]
  exact SparseCore.bigSep_erase' (Finset.mem_erase.mpr ⟨by omega, Finset.mem_range.mpr hk⟩)

theorem newRest_take {q k : ℕ} (hk : k < 8) : NewRest d i fo q k = iprop(NewPc d i fo q k ∗ NewRest d i fo q (k + 1)) :=
  BI.bigSep_Ico_succ_bot hk _

theorem doneRest_give {q k : ℕ} : DoneRest d i cv dp q (k + 1) = iprop(PrevPc d i cv dp q k ∗ DoneRest d i cv dp q k) := by
  cases k with
  | zero => exact (equiv_iff.mp BI.emp_sep).symm
  | succ k => exact BI.bigSep_range_succ k _

end Rest

section Loop

variable (d : Dev nD) (i : grid0.Coords)
variable (m5 : Memref sig .scVector .vmem S128x256 .f32) (hw5 : m5.IsWhole) (m6 : Memref sig .scVector .vmem S128x256 .f32) (hw6 : m6.IsWhole)
variable (m7 : Memref sig .scVector .vmem S16x256 .f32) (hw7 : m7.IsWhole)
variable (m8 : Memref sig .scVector .vmem S27x256 .f32) (hw8 : m8.IsWhole) (m9 : Memref sig .scVector .vmem S27x256 .f32) (hw9 : m9.IsWhole)
variable (sm5 sm6 sm8 sm9 sm7 : DmaSems sig S_)
variable (cv : S4x128x128x256.Idx → F .f32) (dp : S4x1x128x256.Idx → F .f32) (fo : S4x27x128x256.Idx → F .f32)
variable (O : CellTallies nD τ sig (HIx 1)) (W : Waits sig (HIx 1))

/-- What a tile holds between the trips of its outer loop. -/
def Inv (k : ℕ) : sProp 𝕄 :=
  iprop(InAt d i m5 sm5 cv 0 k ∗ OutAt d i m8 sm8 cv dp 0 k ∗ InAt d i m6 sm6 cv 1 k ∗ OutAt d i m9 sm9 cv dp 1 k
    ∗ Disp d i m7 dp ∗ Ow d i O W ∗ CvRest d i cv 0 k ∗ CvRest d i cv 1 k ∗ NewRest d i fo 0 k ∗ NewRest d i fo 1 k
    ∗ DoneRest d i cv dp 0 k ∗ DoneRest d i cv dp 1 k)

/-- One trip. -/
theorem trip_step (hm8 : m8.view.set = Finset.univ) (hm9 : m9.view.set = Finset.univ) (v29 : BitVec 32) (t : Fin k0_t1_loop.trips) (u : Unit) :
    Inv d i m5 m6 m7 m8 m9 sm5 sm6 sm8 sm9 cv dp fo O W t.val
      ⊢ wp frame (wpE (defs₀ (F := F)) 𝒱₀ (thr d i) none) Set.univ
        (k0_t1_body i cvM (Memref.isWhole_whole _) dispM (Memref.isWhole_whole _) outM (Memref.isWhole_whole _) m5 hw5 m6 hw6 m7 hw7 m8 hw8 m9 hw9
          sm5 sm6 sm8 sm9 sm7 v29 (iota .scVector S16 32 [0] iota_S16_d0_w32_scVector) t u)
        (fun _ => Inv d i m5 m6 m7 m8 m9 sm5 sm6 sm8 sm9 cv dp fo O W (t.val + 1)) := by
  have hk : t.val < 8 := t.isLt
  unfold k0_t1_body
  rw [wp_bind, k0_part31_eq_skeleton]
  unfold k0_part31_skel
  simp only [Prog.lift, Prog.bind_op, Prog.bind_ret, Prog.pure_eq_ret]
  unfold Inv
  rw [cvRest_take (q := 0), cvRest_take (q := 1), newRest_take (q := 0) hk, newRest_take (q := 1) hk,
    cvRest_give (q := 0) hk, cvRest_give (q := 1) hk, doneRest_give (q := 0), doneRest_give (q := 1),
    show InAt d i m5 sm5 cv 0 t.val = InFl d i m5 sm5 cv (2 * t.val + 0) from if_pos hk, show InAt d i m6 sm6 cv 1 t.val = InFl d i m6 sm6 cv (2 * t.val + 1) from if_pos hk]
  unfold InFl
  iintro ⟨Hi0, Ho0, Hi1, Ho1, H7, How, ⟨Hc0, Hr0⟩, ⟨Hc1, Hr1⟩, ⟨Hn0, Hs0⟩, ⟨Hn1, Hs1⟩, Hd0, Hd1⟩
  iapply (step_wait (F := F) (d := d) (i := i) (dstw := m5) (N := m5.view.dmaCredit) (Dl := Fetched d i m5 cv (2 * t.val + 0)) rfl) $$ [Hi0 How]
  · isplitl [Hi0]; · iexact Hi0
    iexact How
  iintro ⟨Hf0, Hv0, How⟩
  iapply (halfTrip (F := F) (d := d) (i := i) (m5 := m5) (m7 := m7) (m8 := m8) (sm5 := sm5) (sm8 := sm8) (cv := cv) (dp := dp) (fo := fo) (q := 0) (k := t.val) hk (by decide) hm8
      (cond1_iff t) (cond2_iff t)
      (fun f5 f7 => rowA d i cvM (Memref.isWhole_whole _) dispM (Memref.isWhole_whole _) outM (Memref.isWhole_whole _) m5 hw5 m6 hw6 m7 hw7 m8 hw8 m9 hw9 sm5 sm6 sm8 sm9 sm7 f5 f7 _ _ _ t _)
      (off33_at i t 0) (off34_at i t)) $$ [Hf0 Hv0 Ho0 H7 Hc0 Hn0 How]
  · isplitl [Hf0]; · iexact Hf0
    isplitl [Hv0]; · iexact Hv0
    isplitl [Ho0]; · iexact Ho0
    isplitl [H7]; · iexact H7
    isplitl [Hc0]; · iexact Hc0
    isplitl [Hn0]; · iexact Hn0
    iexact How
  iintro ⟨Hi0, Ho0, H7, Hc0, Hp0, How⟩
  iapply (step_wait (F := F) (d := d) (i := i) (dstw := m6) (N := m6.view.dmaCredit) (Dl := Fetched d i m6 cv (2 * t.val + 1)) rfl) $$ [Hi1 How]
  · isplitl [Hi1]; · iexact Hi1
    iexact How
  iintro ⟨Hf1, Hv1, How⟩
  rw [wp_ret]
  imodintro
  iapply (halfTrip (F := F) (d := d) (i := i) (m5 := m6) (m7 := m7) (m8 := m9) (sm5 := sm6) (sm8 := sm9) (cv := cv) (dp := dp) (fo := fo) (q := 1) (k := t.val) hk (by decide) hm9
      (cond3_iff t) (cond4_iff t)
      (fun f5 f7 => rowB d i cvM (Memref.isWhole_whole _) dispM (Memref.isWhole_whole _) outM (Memref.isWhole_whole _) m5 hw5 m6 hw6 m7 hw7 m8 hw8 m9 hw9 sm5 sm6 sm8 sm9 sm7 f5 f7 t _)
      (off33_at i t 1) (off64_at i t)) $$ [Hf1 Hv1 Ho1 H7 Hc1 Hn1 How]
  · isplitl [Hf1]; · iexact Hf1
    isplitl [Hv1]; · iexact Hv1
    isplitl [Ho1]; · iexact Ho1
    isplitl [H7]; · iexact H7
    isplitl [Hc1]; · iexact Hc1
    isplitl [Hn1]; · iexact Hn1
    iexact How
  iintro ⟨Hi1, Ho1, H7, Hc1, Hp1, How⟩
  rw [wp_ret]
  imodintro
  isplitl [Hi0]; · iexact Hi0
  isplitl [Ho0]; · iexact Ho0
  isplitl [Hi1]; · iexact Hi1
  isplitl [Ho1]; · iexact Ho1
  isplitl [H7]; · iexact H7
  isplitl [How]; · iexact How
  isplitl [Hc0 Hr0]
  · isplitl [Hc0]; · iexact Hc0
    iexact Hr0
  isplitl [Hc1 Hr1]
  · isplitl [Hc1]; · iexact Hc1
    iexact Hr1
  isplitl [Hs0]; · iexact Hs0
  isplitl [Hs1]; · iexact Hs1
  isplitl [Hp0 Hd0]
  · isplitl [Hp0]; · iexact Hp0
    iexact Hd0
  · isplitl [Hp1]; · iexact Hp1
    iexact Hd1

end Loop

end Cert.Proof.Sc
-- ==== Proof.Sc.Tile.lean ====
/- A whole tile: the disparities fetched, the first two rows' fetches started, the eight trips, and the waits for the last
   two rows. From its rows of the arrays the tile comes back with its rows of the result written. -/
module

public import proofs.«01_k».proof.Proof.Sc.Loop

@[expose] public section

set_option maxRecDepth 65536

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx ownBufs ownSems0 ownCells ownRefs mem_ownCells)
open Idealize.ShloMosaic.Transfers
open Idealize.SL Idealize.SL.RA Idealize.SL.BI
open scoped Idealize.SL.BI
open Idealize.SL.BI.BIBase Idealize.SL.BI.Laws Idealize.SL.ProofMode
open Idealize.SL.Sem

variable {F : FTy → Type} [FloatOps F]

local notation "𝕄" => MT nD τ sig (HIx 1) (Elt F) ℕ UU ℕ

/-! ## All eight trips -/

section All

variable (d : Dev nD) (i : grid0.Coords)
variable (m5 : Memref sig .scVector .vmem S128x256 .f32) (hw5 : m5.IsWhole) (m6 : Memref sig .scVector .vmem S128x256 .f32) (hw6 : m6.IsWhole)
variable (m7 : Memref sig .scVector .vmem S16x256 .f32) (hw7 : m7.IsWhole)
variable (m8 : Memref sig .scVector .vmem S27x256 .f32) (hw8 : m8.IsWhole) (m9 : Memref sig .scVector .vmem S27x256 .f32) (hw9 : m9.IsWhole)
variable (sm5 sm6 sm8 sm9 sm7 : DmaSems sig S_)
variable (cv : S4x128x128x256.Idx → F .f32) (dp : S4x1x128x256.Idx → F .f32) (fo : S4x27x128x256.Idx → F .f32)
variable (O : CellTallies nD τ sig (HIx 1)) (W : Waits sig (HIx 1))

/-- The loop, by its invariant. -/
theorem loop_all (hm8 : m8.view.set = Finset.univ) (hm9 : m9.view.set = Finset.univ) (v29 : BitVec 32) :
    Inv d i m5 m6 m7 m8 m9 sm5 sm6 sm8 sm9 cv dp fo O W 0
      ⊢ wp frame (wpE (defs₀ (F := F)) 𝒱₀ (thr d i) none) Set.univ
        (Scf.Loop.for k0_t1_loop k0_t1_ok ⟨⟩ (k0_t1_body i cvM (Memref.isWhole_whole _) dispM (Memref.isWhole_whole _) outM (Memref.isWhole_whole _) m5 hw5 m6 hw6 m7 hw7 m8 hw8 m9 hw9
          sm5 sm6 sm8 sm9 sm7 v29 (iota .scVector S16 32 [0] iota_S16_d0_w32_scVector)))
        (fun _ => Inv d i m5 m6 m7 m8 m9 sm5 sm6 sm8 sm9 cv dp fo O W 8) := by
  refine BIBase.Entails.trans ?_ (Scf.wp_for Idealize.ShloMosaic.frame (wpE (defs₀ (F := F)) 𝒱₀ (thr d i) none) Set.univ k0_t1_loop.lb k0_t1_loop.ub k0_t1_loop.st k0_t1_ok ()
    (k0_t1_body i cvM (Memref.isWhole_whole _) dispM (Memref.isWhole_whole _) outM (Memref.isWhole_whole _) m5 hw5 m6 hw6 m7 hw7 m8 hw8 m9 hw9
          sm5 sm6 sm8 sm9 sm7 v29 (iota .scVector S16 32 [0] iota_S16_d0_w32_scVector))
    (fun k _ => Inv d i m5 m6 m7 m8 m9 sm5 sm6 sm8 sm9 cv dp fo O W k)
    (fun t u => trip_step d i m5 hw5 m6 hw6 m7 hw7 m8 hw8 m9 hw9 sm5 sm6 sm8 sm9 sm7 cv dp fo O W hm8 hm9 v29 t u))
  iintro H
  isplitl [H]; · iexact H
  iintro %u H
  iexact H

variable {d i}

/-- The fetch of the tile's disparities. -/
theorem step_fetchDisp {off : Fin 4 → ℕ} {inb : ∀ a, off a + S1x1x16x256.size a ≤ S4x1x128x256.size a}
    (hoff : ∀ a, off a = (![bI i, 0, hI i 0, 0] : Fin 4 → ℕ) a) {α : Type} {Q : α → sProp 𝕄}
    {hsrc : (dispSl off inb).view.WordExact} {hdst : m7.view.WordExact}
    {hsem : DmaTarget.Typed (nD := nD) (τ := τ) .hbm (SemLoc.dma sm7.sem) (DmaTarget.here (p := (thr d i).2) m7)} {k : PUnit → Prog (TpuEff nD τ sig (Elt F) Λ₀ (thr d i).2) α} :
    iprop((dispLoc d ↦[dispRows i]{fullShare} dp) ∗ Idle d i m7 sm7)
      ⊢ iprop((Flight countersEmb (thr d i) (SemLoc.dma sm7.sem) none m7.view.dmaCredit iprop(Disp d i m7 dp ∗ dispLoc d ↦[dispRows i]{fullShare} dp)
            -∗ wp frame (wpE (defs₀ (F := F)) 𝒱₀ (thr d i) none) Set.univ (k ⟨⟩) Q)
          -∗ wp frame (wpE (defs₀ (F := F)) 𝒱₀ (thr d i) none) Set.univ (.op (.enqueueDma (dispSl off inb) (.here m7) (SemLoc.dma sm7.sem) hsrc hdst hsem) k) Q) := by
  unfold Idle
  iintro ⟨Hc, ⟨%f, Hm⟩, Hv⟩ Hk
  iapply (wp_dmaLocal countersEmb 𝒱₀ (thr d i) none (src := dispSl off inb) (dst := m7) (Sd := Finset.univ) (fs := dp) (q := fullShare) (none : HIx 1) m7.view.dmaCredit rfl
      (View.dmaCredit_pos _ (by decide)) (Finset.subset_univ _)) $$ [Hc Hm Hv]
  · isplitl [Hc]
    · rw [dispSl_set hoff]; iexact Hc
    isplitl [Hm]; · iexact Hm
    iexact Hv
  iintro Hfl
  iapply Hk
  iapply (Flight_mono countersEmb (thr d i) ?_) $$ Hfl
  unfold Disp
  iintro ⟨Hm, Hc⟩
  isplitl [Hm]
  · iexists (m7.view.write (Elt F) f (rowsD dp i) Finset.univ)
    isplitr
    · ipureintro; exact View.read_write_univ _ _
    · rw [← dispSl_read hoff dp]; iexact Hm
  · rw [dispSl_set hoff]; iexact Hc

end All

/-! ## The tile's buffers and semaphores -/

abbrev sA : Memref sig .scVector .vmem S128x256 .f32 := Memref.whole cc0_scratch0
abbrev sB : Memref sig .scVector .vmem S128x256 .f32 := Memref.whole cc0_scratch1
abbrev sD : Memref sig .scVector .vmem S16x256 .f32 := Memref.whole cc0_scratch2
abbrev sX : Memref sig .scVector .vmem S27x256 .f32 := Memref.whole cc0_scratch3
abbrev sY : Memref sig .scVector .vmem S27x256 .f32 := Memref.whole cc0_scratch4

section Tile

variable (d : Dev nD) (i : grid0.Coords)

abbrev cell (sm : DmaSems sig S_) : GSem nD τ sig := (thr d i, SemLoc.dma sm.sem)

omit [FloatOps F] in
/-- The five semaphores are among the tile's own. -/
theorem ownSems0_V :
    (ownSems0 (thr d i) : sProp 𝕄)
      = iprop(semVal (cell d i cc0_scratch5) 0 ∗ semVal (cell d i cc0_scratch6) 0 ∗ semVal (cell d i cc0_scratch7) 0 ∗ semVal (cell d i cc0_scratch8) 0 ∗ semVal (cell d i cc0_scoped0) 0
          ∗ bigSep ((((((ownCells (thr d i)).erase (cell d i cc0_scratch5)).erase (cell d i cc0_scratch6)).erase (cell d i cc0_scratch7)).erase (cell d i cc0_scratch8)).erase (cell d i cc0_scoped0))
              fun g => semVal g 0) := by
  have hne : ∀ a b : DmaSems sig S_, (SemLoc.dma a.sem : SemLoc sig) ≠ SemLoc.dma b.sem → cell d i a ≠ cell d i b := fun a b h e => h (Prod.mk.inj e).2
  have hmem : ∀ a : DmaSems sig S_, (SemLoc.dma a.sem : SemLoc sig).isScoped .scVector = true → cell d i a ∈ ownCells (thr d i) :=
    fun a h => mem_ownCells.mpr ⟨rfl, h⟩
  unfold SparseCore.Cfg.ownSems0
  rw [SparseCore.bigSep_erase' (hmem cc0_scratch5 (by decide)),
    SparseCore.bigSep_erase' (Finset.mem_erase.mpr ⟨hne cc0_scratch6 cc0_scratch5 (by decide), hmem cc0_scratch6 (by decide)⟩),
    SparseCore.bigSep_erase' (Finset.mem_erase.mpr ⟨hne cc0_scratch7 cc0_scratch6 (by decide), Finset.mem_erase.mpr ⟨hne cc0_scratch7 cc0_scratch5 (by decide), hmem cc0_scratch7 (by decide)⟩⟩),
    SparseCore.bigSep_erase' (Finset.mem_erase.mpr ⟨hne cc0_scratch8 cc0_scratch7 (by decide), Finset.mem_erase.mpr ⟨hne cc0_scratch8 cc0_scratch6 (by decide),
      Finset.mem_erase.mpr ⟨hne cc0_scratch8 cc0_scratch5 (by decide), hmem cc0_scratch8 (by decide)⟩⟩⟩),
    SparseCore.bigSep_erase' (Finset.mem_erase.mpr ⟨hne cc0_scoped0 cc0_scratch8 (by decide), Finset.mem_erase.mpr ⟨hne cc0_scoped0 cc0_scratch7 (by decide),
      Finset.mem_erase.mpr ⟨hne cc0_scoped0 cc0_scratch6 (by decide), Finset.mem_erase.mpr ⟨hne cc0_scoped0 cc0_scratch5 (by decide), hmem cc0_scoped0 (by decide)⟩⟩⟩⟩)]

/-- A buffer of the tile, at some contents. -/
abbrev own (b : Ref sig .scVector) : sProp 𝕄 := iprop(∃ f, (thr d i).loc b ↦{fullShare} f)

omit [FloatOps F] in
/-- The five buffers are among the tile's own. -/
theorem ownBufs_V :
    (ownBufs (thr d i) : sProp 𝕄)
      = iprop(own (F := F) d i cc0_scratch0 ∗ own (F := F) d i cc0_scratch1 ∗ own (F := F) d i cc0_scratch2 ∗ own (F := F) d i cc0_scratch3 ∗ own (F := F) d i cc0_scratch4
          ∗ bigSep ((((((ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2)).erase
              ((Proc.scVector (cV i) (jV i)).devRef cc0_scratch3)).erase ((Proc.scVector (cV i) (jV i)).devRef cc0_scratch4))
              fun b => iprop(∃ f, ((d, b) : Loc nD τ sig) ↦{fullShare} f)) := by
  have hne : ∀ a b : Ref sig .scVector, a ≠ b → (Proc.scVector (cV i) (jV i)).devRef a ≠ (Proc.scVector (cV i) (jV i)).devRef b := fun a b h e => h (Proc.devRef_injective _ e)
  unfold SparseCore.Cfg.ownBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr ⟨hne cc0_scratch1 cc0_scratch0 (by decide),
      SparseCore.Cfg.mem_ownRefs_of_owner (p := Proc.scVector (cV i) (jV i)) (b := (Proc.scVector (cV i) (jV i)).devRef cc0_scratch1) rfl⟩),
    SparseCore.bigSep_erase' (Finset.mem_erase.mpr ⟨hne cc0_scratch2 cc0_scratch1 (by decide), Finset.mem_erase.mpr ⟨hne cc0_scratch2 cc0_scratch0 (by decide),
      SparseCore.Cfg.mem_ownRefs_of_owner (p := Proc.scVector (cV i) (jV i)) (b := (Proc.scVector (cV i) (jV i)).devRef cc0_scratch2) rfl⟩⟩),
    SparseCore.bigSep_erase' (Finset.mem_erase.mpr ⟨hne cc0_scratch3 cc0_scratch2 (by decide), Finset.mem_erase.mpr ⟨hne cc0_scratch3 cc0_scratch1 (by decide),
      Finset.mem_erase.mpr ⟨hne cc0_scratch3 cc0_scratch0 (by decide),
      SparseCore.Cfg.mem_ownRefs_of_owner (p := Proc.scVector (cV i) (jV i)) (b := (Proc.scVector (cV i) (jV i)).devRef cc0_scratch3) rfl⟩⟩⟩),
    SparseCore.bigSep_erase' (Finset.mem_erase.mpr ⟨hne cc0_scratch4 cc0_scratch3 (by decide), Finset.mem_erase.mpr ⟨hne cc0_scratch4 cc0_scratch2 (by decide),
      Finset.mem_erase.mpr ⟨hne cc0_scratch4 cc0_scratch1 (by decide), Finset.mem_erase.mpr ⟨hne cc0_scratch4 cc0_scratch0 (by decide),
      SparseCore.Cfg.mem_ownRefs_of_owner (p := Proc.scVector (cV i) (jV i)) (b := (Proc.scVector (cV i) (jV i)).devRef cc0_scratch4) rfl⟩⟩⟩⟩)]

/-! ## The tile's rows as one set -/

/-- The elements of the cost volume and of the result that are the tile's. -/
def cvTile (i : grid0.Coords) : Finset S4x128x128x256.Idx := Finset.univ.filter fun x => (x 0).val = bI i ∧ (x 2).val / 16 = wid i % 8
def outTile (i : grid0.Coords) : Finset S4x27x128x256.Idx := Finset.univ.filter fun x => (x 0).val = bI i ∧ (x 2).val / 16 = wid i % 8

omit [FloatOps F] in
/-- Sixteen disjoint sets, as the eight even ones and the eight odd ones. -/
theorem pts_evenOdd {ℓ : Loc nD τ sig} {T : Finset (Idx ℓ)} {R : ℕ → Finset (Idx ℓ)} (hT : ∀ x, x ∈ T ↔ ∃ r, r < 16 ∧ x ∈ R r)
    (hR : ∀ r r' x, x ∈ R r → x ∈ R r' → r = r') (f : Buf (Elt F) ℓ) :
    (ℓ ↦[T]{fullShare} f : sProp 𝕄) = iprop((bigSep (Finset.range 8) fun j => ℓ ↦[R (2 * j + 0)]{fullShare} f) ∗ bigSep (Finset.range 8) fun j => ℓ ↦[R (2 * j + 1)]{fullShare} f) := by
  have e : T = ({0, 1} : Finset ℕ).biUnion fun q => (Finset.range 8).biUnion fun j => R (2 * j + q) := by
    ext x
    rw [hT]
    simp only [Finset.mem_biUnion, Finset.mem_insert, Finset.mem_singleton, Finset.mem_range]
    constructor
    · rintro ⟨r, hr, hx⟩
      refine ⟨r % 2, by omega, r / 2, by omega, ?_⟩
      rwa [show 2 * (r / 2) + r % 2 = r by omega]
    · rintro ⟨q, hq, j, hj, hx⟩
      exact ⟨2 * j + q, by omega, hx⟩
  rw [e, pointsTo_biUnion, SparseCore.bigSep_insert' (by decide), bigSep_singleton, pointsTo_biUnion, pointsTo_biUnion]
  · intro j _ j' _ h
    exact Finset.disjoint_left.mpr fun x hx hx' => h (by have := hR _ _ x hx hx'; omega)
  · intro j _ j' _ h
    exact Finset.disjoint_left.mpr fun x hx hx' => h (by have := hR _ _ x hx hx'; omega)
  · intro q hq q' hq' h
    refine Finset.disjoint_left.mpr fun x hx hx' => h ?_
    simp only [Finset.mem_biUnion, Finset.mem_insert, Finset.mem_singleton] at hx hx' hq hq'
    obtain ⟨j, -, hx⟩ := hx
    obtain ⟨j', -, hx'⟩ := hx'
    have := hR _ _ x hx hx'
    omega

theorem mem_cvTile {i : grid0.Coords} (x : S4x128x128x256.Idx) : x ∈ cvTile i ↔ ∃ r, r < 16 ∧ x ∈ cvRow i r := by
  simp only [cvTile, Finset.mem_filter, Finset.mem_univ, true_and, mem_cvRow]
  unfold hI
  constructor
  · rintro ⟨h0, h2⟩; exact ⟨(x 2).val % 16, by omega, h0, by omega⟩
  · rintro ⟨r, hr, h0, h2⟩; exact ⟨h0, by omega⟩
theorem mem_outTile {i : grid0.Coords} (x : S4x27x128x256.Idx) : x ∈ outTile i ↔ ∃ r, r < 16 ∧ x ∈ outRow i r := by
  simp only [outTile, Finset.mem_filter, Finset.mem_univ, true_and, mem_outRow]
  unfold hI
  constructor
  · rintro ⟨h0, h2⟩; exact ⟨(x 2).val % 16, by omega, h0, by omega⟩
  · rintro ⟨r, hr, h0, h2⟩; exact ⟨h0, by omega⟩

variable (cv : S4x128x128x256.Idx → F .f32) (dp : S4x1x128x256.Idx → F .f32) (fo : S4x27x128x256.Idx → F .f32)

/-- What a tile gets and what it brings back. -/
def TileIn : sProp 𝕄 := iprop((cvLoc d ↦[cvTile i]{fullShare} cv) ∗ (dispLoc d ↦[dispRows i]{fullShare} dp) ∗ outLoc d ↦[outTile i]{fullShare} fo)
def TileOut : sProp 𝕄 := iprop((cvLoc d ↦[cvTile i]{fullShare} cv) ∗ (dispLoc d ↦[dispRows i]{fullShare} dp) ∗ outLoc d ↦[outTile i]{fullShare} resE cv dp)

theorem cvTile_eq : (cvLoc d ↦[cvTile i]{fullShare} cv : sProp 𝕄) = iprop(CvRest d i cv 0 8 ∗ CvRest d i cv 1 8) := by
  unfold CvRest
  rw [Finset.erase_eq_of_notMem (by decide)]
  exact pts_evenOdd (ℓ := cvLoc d) (R := cvRow i) mem_cvTile (fun r r' x h h' => by
    have h := (mem_cvRow.mp h).2; have h' := (mem_cvRow.mp h').2; unfold hI at h h'; omega) cv

theorem cvRest_zero (q : ℕ) : CvRest d i cv q 8 = iprop((cvLoc d ↦[cvRow i q]{fullShare} cv) ∗ CvRest d i cv q 0) := by
  unfold CvRest
  rw [Finset.erase_eq_of_notMem (by decide : 8 ∉ Finset.range 8), SparseCore.bigSep_erase' (s := Finset.range 8) (i := 0) (by decide)]
  simp only [Nat.mul_zero, Nat.zero_add]

theorem outTile_new : (outLoc d ↦[outTile i]{fullShare} fo : sProp 𝕄) = iprop(NewRest d i fo 0 0 ∗ NewRest d i fo 1 0) := by
  unfold NewRest NewPc
  rw [← Finset.range_eq_Ico]
  exact pts_evenOdd (ℓ := outLoc d) (R := outRow i) mem_outTile (fun r r' x h h' => by
    have h := (mem_outRow.mp h).2; have h' := (mem_outRow.mp h').2; unfold hI at h h'; omega) fo

theorem outTile_done : (outLoc d ↦[outTile i]{fullShare} resE cv dp : sProp 𝕄) = iprop(DoneRest d i cv dp 0 9 ∗ DoneRest d i cv dp 1 9) :=
  pts_evenOdd (ℓ := outLoc d) (R := outRow i) mem_outTile (fun r r' x h h' => by
    have h := (mem_outRow.mp h).2; have h' := (mem_outRow.mp h').2; unfold hI at h h'; omega) (resE cv dp)

/-! ## The tile's program -/

set_option maxHeartbeats 1000000 in
/-- The program of tile `i`: from its rows it comes back with its rows of the result written. -/
theorem tile_body (hF : (K (F := F)).Facts) (O : CellTallies nD τ sig (HIx 1)) (W : Waits sig (HIx 1)) (hO : ∀ g, O g none = 0) :
    iprop(levAts (K (F := F)).L (K (F := F)).lev ∗ emp ∗ TileIn d i cv dp fo
        ∗ scopedBufs (thr d i) ∗ scopedSems0 (thr d i) ∗ owes (thr d i) O W)
      ⊢ wp frame (wpE (defs₀ (F := F)) 𝒱₀ (thr d i) none) Set.univ
          (cc0_sc_kernel i cvM (Memref.isWhole_whole _) dispM (Memref.isWhole_whole _) outM (Memref.isWhole_whole _)
            sA (Memref.isWhole_whole _) sB (Memref.isWhole_whole _) sD (Memref.isWhole_whole _) sX (Memref.isWhole_whole _) sY (Memref.isWhole_whole _)
            cc0_scratch5 cc0_scratch6 cc0_scratch7 cc0_scratch8 cc0_scoped0)
          fun _ => iprop(TileOut d i cv dp
            ∗ scopedBufs (thr d i) ∗ scopedSems0 (thr d i)
            ∗ ∃ W', ⌜∀ p ∈ W', p ∈ W ∨ p.2 = none⌝ ∗ owes (thr d i) O W') := by
  simp only [cc0_sc_kernel_eq_skeleton, k0_part32_eq_skeleton]
  unfold cc0_sc_kernel_skel
  simp only [k0_part32_eq_skeleton]
  unfold k0_part32_skel
  simp only [Prog.lift, Prog.bind_op, Prog.bind_ret, Prog.pure_eq_ret]
  rw [(K (F := F)).scopedBufs_V hF d (cV i) (jV i), SparseCore.Cfg.scopedSems0_V (Val := Elt F) d (cV i) (jV i), ownSems0_V, ownBufs_V]
  unfold TileIn TileOut
  rw [cvTile_eq, outTile_new, outTile_done, cvRest_zero (q := 0), cvRest_zero (q := 1)]
  iintro ⟨#Hlv, -, ⟨⟨⟨Hc0, Hr0⟩, ⟨Hc1, Hr1⟩⟩, Hdp, ⟨Hn0, Hn1⟩⟩, ⟨HbA, HbB, HbD, HbX, HbY, Hbufs⟩, ⟨Hs5, Hs6, Hs8, Hs9, Hs7, Hsems⟩, HO⟩
  ihave #Hmw := (show levAts (K (F := F)).L (K (F := F)).lev ⊢ MayWaits (thr d i) (none : HIx 1) O from
    (K (F := F)).mayWaits_none (thr := thr d i) hO) $$ Hlv
  ihave How : Ow (F := F) d i O W $$ [HO]
  · unfold Ow
    isplitr; · iexact Hmw
    iexists W
    isplitr; · ipureintro; exact fun p hp => .inl hp
    iexact HO
  iapply (step_fetchDisp (F := F) (d := d) (i := i) sD cc0_scoped0 dp (off1_at i)) $$ [Hdp HbD Hs7]
  · isplitl [Hdp]; · iexact Hdp
    unfold Idle
    isplitl [HbD]; · iexact HbD
    iexact Hs7
  iintro Hfl
  iapply (step_wait (F := F) (d := d) (i := i) (dstw := sD) (N := sD.view.dmaCredit) rfl) $$ [Hfl How]
  · isplitl [Hfl]; · iexact Hfl
    iexact How
  iintro ⟨⟨HD, Hdp⟩, Hs7, How⟩
  iapply (step_fetch (F := F) (d := d) (i := i) (r := 0) (by decide) (off2_at i 0) sA cc0_scratch5 (cv := cv)) $$ [Hc0 HbA Hs5]
  · isplitl [Hc0]; · iexact Hc0
    unfold Idle
    isplitl [HbA]; · iexact HbA
    iexact Hs5
  iintro Hi0
  iapply (step_fetch (F := F) (d := d) (i := i) (r := 1) (by decide) (off2_at i 1) sB cc0_scratch6 (cv := cv)) $$ [Hc1 HbB Hs6]
  · isplitl [Hc1]; · iexact Hc1
    unfold Idle
    isplitl [HbB]; · iexact HbB
    iexact Hs6
  iintro Hi1
  rw [wp_bind]
  ihave HI : Inv d i sA sB sD sX sY cc0_scratch5 cc0_scratch6 cc0_scratch7 cc0_scratch8 cv dp fo O W 0 $$ [Hi0 Hi1 HbX HbY Hs8 Hs9 HD How Hr0 Hr1 Hn0 Hn1]
  · unfold Inv
    rw [show InAt d i sA cc0_scratch5 cv 0 0 = InFl d i sA cc0_scratch5 cv 0 from rfl, show InAt d i sB cc0_scratch6 cv 1 0 = InFl d i sB cc0_scratch6 cv 1 from rfl,
      show OutAt d i sX cc0_scratch7 cv dp 0 0 = Idle d i sX cc0_scratch7 from rfl, show OutAt d i sY cc0_scratch8 cv dp 1 0 = Idle d i sY cc0_scratch8 from rfl]
    unfold Idle
    isplitl [Hi0]; · iexact Hi0
    isplitl [HbX Hs8]
    · isplitl [HbX]; · iexact HbX
      iexact Hs8
    isplitl [Hi1]; · iexact Hi1
    isplitl [HbY Hs9]
    · isplitl [HbY]; · iexact HbY
      iexact Hs9
    isplitl [HD]; · iexact HD
    isplitl [How]; · iexact How
    isplitl [Hr0]; · iexact Hr0
    isplitl [Hr1]; · iexact Hr1
    isplitl [Hn0]; · iexact Hn0
    isplitl [Hn1]; · iexact Hn1
    rw [show DoneRest d i cv dp 0 0 = iprop(emp) from rfl, show DoneRest d i cv dp 1 0 = iprop(emp) from rfl]
    isplitr <;> iempintro
  ihave Hwp := (loop_all d i sA (Memref.isWhole_whole _) sB (Memref.isWhole_whole _) sD (Memref.isWhole_whole _) sX (Memref.isWhole_whole _) sY (Memref.isWhole_whole _)
    cc0_scratch5 cc0_scratch6 cc0_scratch7 cc0_scratch8 cc0_scoped0 cv dp fo O W (View.set_whole _) (View.set_whole _) _) $$ HI
  iapply (wp_wand frame _ _) $$ Hwp
  iintro %u HI
  unfold Inv
  rw [show InAt d i sA cc0_scratch5 cv 0 8 = Idle d i sA cc0_scratch5 from rfl, show InAt d i sB cc0_scratch6 cv 1 8 = Idle d i sB cc0_scratch6 from rfl,
    show OutAt d i sX cc0_scratch7 cv dp 0 8 = OutFl d i sX cc0_scratch7 cv dp 14 from rfl, show OutAt d i sY cc0_scratch8 cv dp 1 8 = OutFl d i sY cc0_scratch8 cv dp 15 from rfl]
  unfold OutFl
  icases HI with ⟨HA, Hx, HB, Hy, HD, How, Hr0, Hr1, -, -, Hd0, Hd1⟩
  iapply (step_wait (F := F) (d := d) (i := i) (dstw := outSl (k0_off65 i 14#32) (k0_off65_inb i 0)) (N := outCredit) (Dl := Written d i sX cv dp 14) rfl) $$ [Hx How]
  · isplitl [Hx]; · iexact Hx
    iexact How
  iintro ⟨Hx, Hs8, How⟩
  iapply (step_wait (F := F) (d := d) (i := i) (dstw := outSl (k0_off65 i 15#32) (k0_off65_inb i 1)) (N := outCredit) (Dl := Written d i sY cv dp 15) rfl) $$ [Hy How]
  · isplitl [Hy]; · iexact Hy
    iexact How
  iintro ⟨Hy, Hs9, How⟩
  unfold Written Idle Disp Ow
  icases Hx with ⟨Hx, HbX⟩
  icases Hy with ⟨Hy, HbY⟩
  icases HA with ⟨HbA, Hs5⟩
  icases HB with ⟨HbB, Hs6⟩
  icases HD with ⟨%fD, -, HbD⟩
  icases How with ⟨-, HO⟩
  rw [wp_ret]
  imodintro
  isplitl [Hr0 Hr1 Hdp Hx Hy Hd0 Hd1]
  · rw [← cvRest_zero (q := 0), ← cvRest_zero (q := 1)]
    isplitl [Hr0 Hr1]
    · isplitl [Hr0]; · iexact Hr0
      iexact Hr1
    isplitl [Hdp]; · iexact Hdp
    rw [doneRest_give (q := 0) (k := 8), doneRest_give (q := 1) (k := 8),
      show PrevPc d i cv dp 0 8 = (outLoc d ↦[outRow i 14]{fullShare} resE cv dp) from rfl, show PrevPc d i cv dp 1 8 = (outLoc d ↦[outRow i 15]{fullShare} resE cv dp) from rfl]
    isplitl [Hx Hd0]
    · isplitl [Hx]; · iexact Hx
      iexact Hd0
    · isplitl [Hy]; · iexact Hy
      iexact Hd1
  isplitl [HbA HbB HbD HbX HbY Hbufs]
  · isplitl [HbA]; · iexact HbA
    isplitl [HbB]; · iexact HbB
    isplitl [HbD]; · iexists fD; iexact HbD
    isplitl [HbX]; · iexact HbX
    isplitl [HbY]; · iexact HbY
    iexact Hbufs
  isplitl [Hs5 Hs6 Hs8 Hs9 Hs7 Hsems]
  · isplitl [Hs5]; · iexact Hs5
    isplitl [Hs6]; · iexact Hs6
    isplitl [Hs8]; · iexact Hs8
    isplitl [Hs9]; · iexact Hs9
    isplitl [Hs7]; · iexact Hs7
    iexact Hsems
  iexact HO

end Tile

end Cert.Proof.Sc
-- ==== Proof.Sc.Launch.lean ====
/- The launch: @main hands the three arrays to the two SparseCores, each core hands its sixteen tiles their rows, and the
   rows come back with the result written. At the end: the program's run, with the contents of all four arrays. -/
module

public import Idealize.ShloMosaic.Lib.SparseCore.Quiescent
public import proofs.«01_k».proof.Proof.Sc.Tile

@[expose] public section

set_option maxRecDepth 65536

noncomputable section

namespace Cert.Proof.Sc

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells)
open Idealize.ShloMosaic.Transfers
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

local notation "𝕄" => MT nD τ sig (HIx 1) (Elt F) ℕ UU ℕ

/-! ## The tiles' coordinates and their sets -/

/-- The pair of coordinates of SparseCore `c` and tile `s`. -/
def crd (c : Fin 2) (s : Fin 16) : grid0.Coords :=
  fun | 0 => c | 1 => s | ⟨_ + 2, h⟩ => absurd h (Nat.not_lt.2 (Nat.le_add_left _ _))

theorem wid_crd (c : Fin 2) (s : Fin 16) : wid (crd c s) = 2 * s.val + c.val := rfl
omit [FloatOps F] in
theorem nCore_zero : (K (F := F)).nCore 0 = 2 := rfl
omit [FloatOps F] in
theorem nSub_zero : (K (F := F)).nSub 0 = 16 := rfl

omit [FloatOps F] in
/-- Whole arrays are the thirty-two tiles' pieces, core by core. -/
theorem pts_tiles {ℓ : Loc nD τ sig} {T : grid0.Coords → Finset (Idx ℓ)} (row : Idx ℓ → ℕ) (hrow : ∀ x, row x < 32)
    (hT : ∀ i x, x ∈ T i ↔ row x = wid i) (f : Buf (Elt F) ℓ) :
    (ℓ ↦{fullShare} f : sProp 𝕄) = bigSep Finset.univ fun c : Fin 2 => bigSep Finset.univ fun s : Fin 16 => ℓ ↦[T (crd c s)]{fullShare} f := by
  rw [← bigSep_univ_prod (fun a : Fin 2 × Fin 16 => (ℓ ↦[T (crd a.1 a.2)]{fullShare} f : sProp 𝕄)),
    ← pointsTo_biUnion Finset.univ (ℓ := ℓ) (fun a : Fin 2 × Fin 16 => T (crd a.1 a.2))]
  · congr 1
    refine (Finset.eq_univ_iff_forall.mpr fun x => ?_).symm
    rw [Finset.mem_biUnion]
    refine ⟨(⟨row x % 2, by omega⟩, ⟨row x / 2, by have := hrow x; omega⟩), Finset.mem_univ _, ?_⟩
    rw [hT, wid_crd]
    show row x = 2 * (row x / 2) + row x % 2
    omega
  · intro a _ b _ hab
    refine Finset.disjoint_left.mpr fun x hx hx' => hab ?_
    rw [hT, wid_crd] at hx hx'
    have h1 := a.1.isLt
    have h2 := b.1.isLt
    exact Prod.ext (Fin.ext (by omega)) (Fin.ext (by omega))

/-- The tile that works on an element. -/
def rowCv (x : S4x128x128x256.Idx) : ℕ := 8 * (x 0).val + (x 2).val / 16
def rowDp (x : S4x1x128x256.Idx) : ℕ := 8 * (x 0).val + (x 2).val / 16
def rowOut (x : S4x27x128x256.Idx) : ℕ := 8 * (x 0).val + (x 2).val / 16
theorem rowCv_lt (x : S4x128x128x256.Idx) : rowCv x < 32 := by
  have h0 : (x 0).val < 4 := (x 0).isLt; have h2 : (x 2).val < 128 := (x 2).isLt; unfold rowCv; omega
theorem rowDp_lt (x : S4x1x128x256.Idx) : rowDp x < 32 := by
  have h0 : (x 0).val < 4 := (x 0).isLt; have h2 : (x 2).val < 128 := (x 2).isLt; unfold rowDp; omega
theorem rowOut_lt (x : S4x27x128x256.Idx) : rowOut x < 32 := by
  have h0 : (x 0).val < 4 := (x 0).isLt; have h2 : (x 2).val < 128 := (x 2).isLt; unfold rowOut; omega
theorem mem_cvTile' (i : grid0.Coords) (x : S4x128x128x256.Idx) : x ∈ cvTile i ↔ rowCv x = wid i := by
  have h2 : (x 2).val < 128 := (x 2).isLt
  simp only [cvTile, Finset.mem_filter, Finset.mem_univ, true_and]; unfold rowCv bI; omega
theorem mem_dispTile' (i : grid0.Coords) (x : S4x1x128x256.Idx) : x ∈ dispRows i ↔ rowDp x = wid i := by
  have h2 : (x 2).val < 128 := (x 2).isLt
  rw [mem_dispRows]; unfold rowDp bI; omega
theorem mem_outTile' (i : grid0.Coords) (x : S4x27x128x256.Idx) : x ∈ outTile i ↔ rowOut x = wid i := by
  have h2 : (x 2).val < 128 := (x 2).isLt
  simp only [outTile, Finset.mem_filter, Finset.mem_univ, true_and]; unfold rowOut bI; omega

/-! ## What the launch carries -/

variable (m : (ℓ : Loc nD τ sig) → Buf (Elt F) ℓ) (ρ : Dev nD → PrngReg)

/-- The arrays at launch. -/
abbrev cvOf (d : Dev nD) : S4x128x128x256.Idx → F .f32 := m (cvLoc d)
abbrev dpOf (d : Dev nD) : S4x1x128x256.Idx → F .f32 := m (dispLoc d)
abbrev foOf (d : Dev nD) : S4x27x128x256.Idx → F .f32 := m (outLoc d)

abbrev goT (d : Dev nD) (c : Fin 2) (s : Fin 16) : sProp 𝕄 := TileIn d (crd c s) (cvOf m d) (dpOf m d) (foOf m d)
abbrev tdT (d : Dev nD) (c : Fin 2) (s : Fin 16) : sProp 𝕄 := TileOut d (crd c s) (cvOf m d) (dpOf m d)
abbrev stC (d : Dev nD) (c : Fin 2) : sProp 𝕄 := bigSep Finset.univ fun s : Fin 16 => goT m d c s
abbrev dnC (d : Dev nD) (c : Fin 2) : sProp 𝕄 := bigSep Finset.univ fun s : Fin 16 => tdT m d c s

instance goT_storable (d : Dev nD) (c : Fin 2) (s : Fin 16) : BI.Storable (upEmb : UEmb _ 𝕄) (goT m d c s) := by
  unfold goT TileIn; infer_instance
instance tdT_storable (d : Dev nD) (c : Fin 2) (s : Fin 16) : BI.Storable (upEmb : UEmb _ 𝕄) (tdT m d c s) := by
  unfold tdT TileOut; infer_instance

/-- The one call: each core gets its sixteen tiles' pieces and brings them back with the result written. -/
def P : (K (F := F)).Pay (nD := nD) (Val := Elt F) (Name := ℕ) (U := UU) where
  st := fun q d c => match q with | 0 => stC m d (Fin.cast nCore_zero c)
  dn := fun q d c => match q with | 0 => dnC m d (Fin.cast nCore_zero c)
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

instance P_storable : (P (F := F) m).IsStorable where
  st q d c := match q with | 0 => (inferInstance : BI.Storable (upEmb : UEmb _ 𝕄) (stC m d (Fin.cast nCore_zero c)))
  dn q d c := match q with | 0 => (inferInstance : BI.Storable (upEmb : UEmb _ 𝕄) (dnC m d (Fin.cast nCore_zero c)))
  go q d c i := match q with | 0 => (inferInstance : BI.Storable (upEmb : UEmb _ 𝕄) (goT m d (Fin.cast nCore_zero c) (Fin.cast nSub_zero i)))
  td q d c i := match q with | 0 => (inferInstance : BI.Storable (upEmb : UEmb _ 𝕄) (tdT m d (Fin.cast nCore_zero c) (Fin.cast nSub_zero i)))

/-! ## The tiles' obligation -/

theorem defs₀_vector (c : Fin τ.nSC) (s : Fin τ.nSub) :
    defs₀ (F := F) (.scVector c s) 0 ()
      = SparseCore.onTile hcore0 hsub0 (fun c s => cc0_sc_kernel (crd c s)
          cvM (Memref.isWhole_whole _) dispM (Memref.isWhole_whole _) outM (Memref.isWhole_whole _)
          sA (Memref.isWhole_whole _) sB (Memref.isWhole_whole _) sD (Memref.isWhole_whole _) sX (Memref.isWhole_whole _) sY (Memref.isWhole_whole _)
          cc0_scratch5 cc0_scratch6 cc0_scratch7 cc0_scratch8 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (d := d) (i := crd ⟨_, hci.1⟩ ⟨_, hci.2⟩) (cvOf m d) (dpOf m d) (foOf m d) hF O W hO).trans (wp_mono _ _ _ fun _ => obl_post)

/-! ## Core by core -/

omit [FloatOps F] in
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show stC m d (Fin.cast nCore_zero c) ⊢ |={Set.univ}=> iprop(
      (bigSep Finset.univ fun i : Fin ((K (F := F)).nSub 0) => goT m d (Fin.cast nCore_zero c) (Fin.cast nSub_zero i))
      ∗ ((bigSep Finset.univ fun i : Fin ((K (F := F)).nSub 0) => tdT m d (Fin.cast nCore_zero c) (Fin.cast nSub_zero i))
          -∗ dnC m d (Fin.cast nCore_zero c)))
  rw [bigSep_subs (F := F) (fun i => goT m d (Fin.cast nCore_zero c) i), bigSep_subs (F := F) (fun i => tdT m d (Fin.cast nCore_zero c) i)]
  iintro H; imodintro
  isplitl [H]; · iexact H
  iintro H; iexact H

/-- All cores' pieces together are the whole arrays. -/
theorem st0_eq (d : Dev nD) : (bigSep Finset.univ fun c : Fin ((K (F := F)).nCore 0) => (P m).st 0 d c)
    = iprop((cvLoc d ↦{fullShare} cvOf m d) ∗ (dispLoc d ↦{fullShare} dpOf m d) ∗ outLoc d ↦{fullShare} foOf m d) := by
  show (bigSep Finset.univ fun c : Fin ((K (F := F)).nCore 0) => stC m d (Fin.cast nCore_zero c)) = _
  rw [bigSep_cores (F := F) (fun c => stC m d c)]
  unfold stC goT TileIn
  simp only [bigSep_sep']
  rw [pts_tiles (ℓ := cvLoc d) (T := cvTile) rowCv rowCv_lt mem_cvTile', pts_tiles (ℓ := dispLoc d) (T := dispRows) rowDp rowDp_lt mem_dispTile',
    pts_tiles (ℓ := outLoc d) (T := outTile) rowOut rowOut_lt mem_outTile']
theorem dn0_eq (d : Dev nD) : (bigSep Finset.univ fun c : Fin ((K (F := F)).nCore 0) => (P m).dn 0 d c)
    = iprop((cvLoc d ↦{fullShare} cvOf m d) ∗ (dispLoc d ↦{fullShare} dpOf m d) ∗ outLoc d ↦{fullShare} resE (cvOf m d) (dpOf m d)) := by
  show (bigSep Finset.univ fun c : Fin ((K (F := F)).nCore 0) => dnC m d (Fin.cast nCore_zero c)) = _
  rw [bigSep_cores (F := F) (fun c => dnC m d c)]
  unfold dnC tdT TileOut
  simp only [bigSep_sep']
  rw [pts_tiles (ℓ := cvLoc d) (T := cvTile) rowCv rowCv_lt mem_cvTile', pts_tiles (ℓ := dispLoc d) (T := dispRows) rowDp rowDp_lt mem_dispTile',
    pts_tiles (ℓ := outLoc d) (T := outTile) rowOut rowOut_lt mem_outTile']

/-! ## The launch element -/

def u₀ : UU := (initOf (K (F := F)).hsCells (K (F := F)).hsToks, 1)

omit [FloatOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## @main on the TensorCore -/

abbrev radLoc (d : Dev nD) : Loc nD τ sig := (SparseCore.T d).loc main_arg1

omit [FloatOps F] in
theorem unscopedBufs_eq (d : Dev nD) (W : (b : Ref sig .tc) → Buf (Elt F) ((d.tc : Thread nD τ).loc b)) :
    (unscopedBufs d W : sProp 𝕄) = iprop((cvLoc d ↦{fullShare} W main_arg0) ∗ (radLoc d ↦{fullShare} W main_arg1)
      ∗ (dispLoc d ↦{fullShare} W main_arg2) ∗ outLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- The four arrays at the end. -/
abbrev FIN (d : Dev nD) : sProp 𝕄 := iprop((cvLoc d ↦{fullShare} cvOf m d) ∗ (radLoc d ↦{fullShare} m (radLoc d))
  ∗ (dispLoc d ↦{fullShare} dpOf m d) ∗ outLoc d ↦{fullShare} resE (cvOf m d) (dpOf m d))

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hc, Hr, Hd, Ho⟩, Hts, -⟩, -⟩
  iapply ((K (F := F)).wp_run (D (F := F)) 𝒱 (EH := EH) (P := P m) κ d 0) $$ [Hst Hc Hr Hd Ho Hb Hts]
  isplitr; · iexact Hctx
  isplitl [Hst]; · iexact Hst
  isplitl [Hc Hd Ho]
  · rw [st0_eq]
    isplitl [Hc]; · iexact Hc
    isplitl [Hd]; · iexact Hd
    iexact Ho
  iintro ⟨Hst, Hdn⟩
  ihave Hdn' := (Entails.of_eq (dn0_eq m d)) $$ Hdn
  icases Hdn' with ⟨Hc, Hd, Ho⟩
  imodintro
  isplitl [Hst]; · iexact Hst
  isplitr [Hb Hts]
  · isplitl [Hc]; · iexact Hc
    isplitl [Hr]; · iexact Hr
    isplitl [Hd]; · iexact Hd
    iexact Ho
  isplitl [Hb] <;> iassumption

/-! ## The run -/

/-- What the final memory holds: the three arguments as they were, the result `resE` of them. -/
def fq (d : Dev nD) (s' : Phys nD τ sig (Elt F)) : Prop :=
  s'.mem.mem (cvLoc d) = m (cvLoc d) ∧ s'.mem.mem (radLoc d) = m (radLoc d) ∧ s'.mem.mem (dispLoc d) = m (dispLoc d)
    ∧ s'.mem.mem (outLoc d) = resE (cvOf m d) (dpOf m d)

theorem hfin (d : Dev nD) (s' : Phys nD τ sig (Elt F)) : iprop(FIN m d ∗ SI s') ⊢ (⌜fq m d s'⌝ : sProp 𝕄) := by
  iintro ⟨⟨Hc, Hr, Hd, Ho⟩, HSI⟩
  ihave H := (persistent_entails_right (SI_pointsTo_agree (st := s') (ℓ := cvLoc d) (I := Finset.univ) (q := fullShare) (f := m (cvLoc d)))) $$ [HSI Hc]
  · isplitl [HSI] <;> iassumption
  icases H with ⟨%h1, HSI, -⟩
  ihave H := (persistent_entails_right (SI_pointsTo_agree (st := s') (ℓ := radLoc d) (I := Finset.univ) (q := fullShare) (f := m (radLoc d)))) $$ [HSI Hr]
  · isplitl [HSI] <;> iassumption
  icases H with ⟨%h2, HSI, -⟩
  ihave H := (persistent_entails_right (SI_pointsTo_agree (st := s') (ℓ := dispLoc d) (I := Finset.univ) (q := fullShare) (f := m (dispLoc d)))) $$ [HSI Hd]
  · isplitl [HSI] <;> iassumption
  icases H with ⟨%h3, HSI, -⟩
  ihave H := (SI_pointsTo_agree (st := s') (ℓ := outLoc d) (I := Finset.univ) (q := fullShare) (f := resE (cvOf m d) (dpOf m d))) $$ [HSI Ho]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

def QC : PUnit × MemSt nD τ sig (Elt F) → Prop := fun r =>
  (∀ c : Dev nD, r.2.mem (cvLoc c) = m (cvLoc c) ∧ r.2.mem (radLoc c) = m (radLoc c) ∧ r.2.mem (dispLoc c) = m (dispLoc c)
    ∧ r.2.mem (outLoc c) = resE (cvOf m c) (dpOf m c)) ∧ r.2.sem = fun _ => 0

/-- The program's run: it ends with the arguments unchanged, the result `resE` of them, and every counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Sc
-- ==== Proof.Frames.lean ====
/- The frames: each program ends without fault, leaves its three arguments as they were and every counter at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Sc.Launch
public import Idealize.ShloMosaic.Lib.Quiescent

@[expose] public section

noncomputable section

namespace Cert.Proof

open Idealize.ShloMosaic Idealize.SL.Sem

/-- The kernel on machine words: its run, without the result's value. -/
theorem frame_kernel : Cert.quiescent_Kernel := fun m ρ _ =>
  (θ_run Cert.KernelIdeal.defs _ _).mono (fun _ h => ⟨fun c => ⟨(h.1 c).1, (h.1 c).2.1, (h.1 c).2.2.1⟩, h.2⟩)
    (Sc.run_main (F := Bits) m ρ)

/-- The kernel over the extended reals: its run, without the result's value. -/
theorem frame_kernelIdeal : Cert.quiescent_KernelIdeal := fun m ρ _ =>
  (θ_run Cert.KernelIdeal.defs _ _).mono (fun _ h => ⟨fun c => ⟨(h.1 c).1, (h.1 c).2.1, (h.1 c).2.2.1⟩, h.2⟩)
    (Sc.run_main (F := Ideal) m ρ)

/-- The reference over the extended reals: its run, without the result's value. It has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same two frames where the precondition holds, which they do not need. -/
theorem frame_kernelIdeal_in_range : Cert.quiescent_KernelIdeal_pre_in_range := fun m ρ _ => frame_kernelIdeal m ρ trivial
theorem frame_referenceIdeal_in_range : Cert.quiescent_ReferenceIdeal_pre_in_range := fun m ρ _ => frame_referenceIdeal m ρ trivial

/-- The idealized kernel is the kernel: no operation of it was rewritten. -/
theorem preserves : Cert.preserves_Kernel_KernelIdeal := trivial

end Cert.Proof

end
-- ==== Proof.Math.Sample.lean ====
/- The sampling of one column, over the reals: between the two samples beside a position, by the position's fractional part.
   The reference takes the rows at the position's clipped ceiling and clipped floor and weighs them with the distance to
   the clipped ceiling; the kernel takes the integer part of the disparity, clips the two rows each by itself and weighs
   them with the fractional part. Both are `sample`. -/
module

public import Idealize.ShloMosaic.PureOps.Ideal

@[expose] public section

noncomputable section

namespace Cert.Proof.Math

/-- The integer `k` clipped between 0 and `M`. -/
def clip (M : ℕ) (k : ℤ) : ℤ := min (M : ℤ) (max 0 k)

theorem clip_nonneg (M : ℕ) (k : ℤ) : 0 ≤ clip M k := by unfold clip; omega
theorem clip_le (M : ℕ) (k : ℤ) : clip M k ≤ M := by unfold clip; omega
theorem clip_toNat_le (M : ℕ) (k : ℤ) : (clip M k).toNat ≤ M := by have := clip_le M k; omega
theorem clip_toNat_lt (M : ℕ) (k : ℤ) : (clip M k).toNat < M + 1 := Nat.lt_succ_of_le (clip_toNat_le M k)

/-- The column `V` (rows `0 … M`), read at tap `j` of nine around the position `a`: with `a`'s integer part `n` and
    fractional part `f`, the rows `n + j - 4` and `n + j - 3`, each clipped, weighed `1 - f` and `f`. -/
def sample (V : ℕ → ℝ) (M : ℕ) (a : ℝ) (j : ℕ) : ℝ :=
  (1 - Int.fract a) * V (clip M (⌊a⌋ + j - 4)).toNat + Int.fract a * V (clip M (⌊a⌋ + j - 3)).toNat

/-- The tap's position. -/
def pos (a : ℝ) (j : ℕ) : ℝ := a - 4 + j

theorem pos_eq (a : ℝ) (j : ℕ) : pos a j = Int.fract a + ((⌊a⌋ + j - 4 : ℤ) : ℝ) := by
  unfold pos; push_cast; linarith [Int.floor_add_fract a]

theorem floor_pos (a : ℝ) (j : ℕ) : ⌊pos a j⌋ = ⌊a⌋ + j - 4 := by
  rw [pos_eq, Int.floor_add_intCast, Int.floor_fract]; omega

theorem ceil_pos_of_zero (a : ℝ) (j : ℕ) (h : Int.fract a = 0) : ⌈pos a j⌉ = ⌊a⌋ + j - 4 := by
  rw [pos_eq, h, zero_add, Int.ceil_intCast]

theorem ceil_pos_of_pos (a : ℝ) (j : ℕ) (h : Int.fract a ≠ 0) : ⌈pos a j⌉ = ⌊a⌋ + j - 3 := by
  rw [pos_eq, Int.ceil_add_intCast]
  have h0 : 0 < Int.fract a := lt_of_le_of_ne (Int.fract_nonneg a) (Ne.symm h)
  have h1 : ⌈Int.fract a⌉ = 1 := by
    rw [Int.ceil_eq_iff]; push_cast; exact ⟨by linarith, (Int.fract_lt_one a).le⟩
  omega

/-- The reference's two rows and weights give `sample`. -/
theorem ref_sample (V : ℕ → ℝ) (M : ℕ) (a : ℝ) (j : ℕ) :
    V (clip M ⌈pos a j⌉).toNat * (1 - (((clip M ⌈pos a j⌉ : ℤ) : ℝ) - pos a j))
      + V (clip M ⌊pos a j⌋).toNat * (((clip M ⌈pos a j⌉ : ℤ) : ℝ) - pos a j) = sample V M a j := by
  rw [floor_pos]
  unfold sample
  by_cases h : Int.fract a = 0
  · rw [ceil_pos_of_zero a j h, h]; ring
  · rw [ceil_pos_of_pos a j h, pos_eq]
    set k : ℤ := ⌊a⌋ + j - 4 with hk
    have hk1 : ⌊a⌋ + j - 3 = k + 1 := by omega
    rw [hk1]
    rcases le_or_gt (k + 1) 0 with hlo | hlo
    · have e1 : clip M (k + 1) = 0 := by unfold clip; omega
      have e0 : clip M k = 0 := by unfold clip; omega
      rw [e1, e0]; ring
    · rcases le_or_gt (M : ℤ) k with hhi | hhi
      · have e1 : clip M (k + 1) = M := by unfold clip; omega
        have e0 : clip M k = M := by unfold clip; omega
        rw [e1, e0]; ring
      · have e1 : clip M (k + 1) = k + 1 := by unfold clip; omega
        have e0 : clip M k = k := by unfold clip; omega
        rw [e1, e0]; push_cast; ring

/-- The mean of the rows `2 p` and `2 p + 1`. -/
def half2 (V : ℕ → ℝ) : ℕ → ℝ := fun p => (V (2 * p) + V (2 * p + 1)) / 2

/-- Channel `n` of 27: three levels of nine taps, on the column, on its means of two and on its means of four rows, at the
    disparity, its half and its quarter. -/
def channel (V : ℕ → ℝ) (d : ℝ) (n : ℕ) : ℝ :=
  if n < 9 then sample V 127 d n
  else if n < 18 then sample (half2 V) 63 (d / 2) (n - 9)
  else sample (half2 (half2 V)) 31 (d / 4) (n - 18)

end Cert.Proof.Math

end
-- ==== Proof.Math.KernelReal.lean ====
/- The kernel's cell over the extended reals: on a real column and a real disparity of at least 0 and below 128, channel `n`
   of the kernel's arithmetic is the real number `channel`. -/
module

public import proofs.«01_k».proof.Proof.Math.Sample
public import proofs.«01_k».proof.Proof.Sc.Values
public import Idealize.ShloMosaic.PureOps.Ideal.Laws

@[expose] public section

set_option maxRecDepth 16384

noncomputable section

namespace Cert.Proof.Math

open Idealize.ShloMosaic Cert.Proof.Sc

/-! ## Constants and conversions -/

theorem one_eq : (one : Ideal .f32) = ((1 : ℝ) : EReal) := by
  show Ideal.ofBits .f32 0x3F800000#32 = _
  simp [Ideal.ofBits, Ideal.ieee, -EReal.coe_mul]; norm_num
theorem half_eq : (half : Ideal .f32) = ((1 / 2 : ℝ) : EReal) := by
  show Ideal.ofBits .f32 0x3F000000#32 = _
  simp [Ideal.ofBits, Ideal.ieee, -EReal.coe_mul]; norm_num
theorem quarter_eq : (quarter : Ideal .f32) = ((1 / 4 : ℝ) : EReal) := by
  show Ideal.ofBits .f32 0x3E800000#32 = _
  simp [Ideal.ofBits, Ideal.ieee, -EReal.coe_mul]; norm_num

/-- A nonnegative real below 2^31 - 1 converts to its integer part. -/
theorem fptosi_real (a : ℝ) (h0 : 0 ≤ a) (h1 : a < 2147483647) :
    FloatOps.fptosi (F := Ideal) (φ := .f32) 32 ((a : ℝ) : EReal) = BitVec.ofInt 32 ⌊a⌋ := by
  show Ideal.fptosi 32 (a : EReal) = _
  unfold Ideal.fptosi
  rw [Ideal.toIntClamped_coe, if_pos h0]
  have hz : 0 ≤ ⌊a⌋ := Int.floor_nonneg.mpr h0
  have hl : ⌊a⌋ < 2147483647 := by rw [Int.floor_lt]; exact_mod_cast h1
  congr 1
  norm_num
  omega

/-- The signed value of a small nonnegative integer's word. -/
theorem toInt_ofInt (z : ℤ) (h0 : 0 ≤ z) (h1 : z < 2147483648) : (BitVec.ofInt 32 z).toInt = z := by
  rw [BitVec.toInt_ofInt]
  have h : z.bmod (2 ^ 32) = z := by
    rw [Int.bmod_eq_of_le] <;> omega
  exact h

theorem sitofp_real (z : ℤ) (h0 : 0 ≤ z) (h1 : z < 2147483648) :
    (FloatOps.sitofp .f32 (BitVec.ofInt 32 z) : Ideal .f32) = (((z : ℤ) : ℝ) : EReal) := by
  show (((BitVec.ofInt 32 z).toInt : ℝ) : EReal) = _
  rw [toInt_ofInt z h0 h1]

theorem addf_real (a b : ℝ) : (FloatOps.addf ((a : ℝ) : EReal) ((b : ℝ) : EReal) : Ideal .f32) = ((a + b : ℝ) : EReal) :=
  (EReal.coe_add a b).symm
theorem subf_real (a b : ℝ) : (FloatOps.subf ((a : ℝ) : EReal) ((b : ℝ) : EReal) : Ideal .f32) = ((a - b : ℝ) : EReal) :=
  (EReal.coe_sub a b).symm
theorem mulf_real (a b : ℝ) : (FloatOps.mulf ((a : ℝ) : EReal) ((b : ℝ) : EReal) : Ideal .f32) = ((a * b : ℝ) : EReal) :=
  (EReal.coe_mul a b).symm

theorem sel_one (a b : Ideal .f32) : Scalar.select 1#1 a b = a := if_pos rfl
theorem sel_zero (a b : Ideal .f32) : Scalar.select 0#1 a b = b := if_neg (by decide)

/-! ## The words of the rows -/

/-- Level 0's row, from the integer part. -/
theorem row_word : ∀ (N : Fin 128) (j : Fin 10),
    (IntOp.minsi 127#32 (IntOp.maxsi 0#32 (IntOp.addi (IntOp.subi (BitVec.ofInt 32 (N.val : ℤ)) 4#32) (BitVec.ofNat 32 j.val)))).toNat
      = (clip 127 ((N.val : ℤ) + j.val - 4)).toNat := by decide +kernel

/-- The first pair's word, from the integer part of the quarter. -/
abbrev qbOf (N : ℕ) : BitVec 32 := IntOp.subi (IntOp.muli 2#32 (BitVec.ofInt 32 (N : ℤ))) 8#32

/-- A pair's first row. -/
theorem pair_word : ∀ (N : Fin 32) (k : Fin 20),
    (IntOp.shli .vector (IntOp.minsi 63#32 (IntOp.maxsi 0#32 (IntOp.addi (qbOf N.val) (BitVec.ofNat 32 k.val)))) 1#32).toNat
      = 2 * (clip 63 (2 * (N.val : ℤ) + k.val - 8)).toNat := by decide +kernel

/-- The choice of level 1's first pair. -/
theorem mask_word : ∀ (N : Fin 32) (e : Fin 2),
    IntOp.cmpi .eq (IntOp.subi (IntOp.subi (BitVec.ofInt 32 ((2 * N.val + e.val : ℕ) : ℤ)) 4#32) (qbOf N.val)) 5#32
      = if e.val = 1 then 1#1 else 0#1 := by decide +kernel

/-- The upper correction of level 2 is made where the tap lies past the last row. -/
theorem above_word : ∀ (N : Fin 32) (j : Fin 10), 5 ≤ j.val →
    IntOp.cmpi .sge (qbOf N.val) (BitVec.ofNat 32 (63 - 2 * j.val)) = if 36 ≤ N.val + j.val then 1#1 else 0#1 := by decide +kernel

/-- The lower correction of level 2 is made where the tap lies before the first row. -/
theorem below_word : ∀ (N : Fin 32) (j : Fin 10), j.val ≤ 3 →
    IntOp.cmpi .sle (qbOf N.val) (BitVec.ofNat 32 (4294967295 - 2 * j.val)) = if N.val + j.val ≤ 3 then 1#1 else 0#1 := by decide +kernel

section
variable (v : ℕ → ℝ) (r : ℝ) (h0 : 0 ≤ r) (h1 : r < 128)
include h0 h1

/-- The real column as a column of extended reals. -/
abbrev col (v : ℕ → ℝ) : ℕ → Ideal .f32 := fun n => ((v n : ℝ) : EReal)

/-! ## Level 0 -/

theorem floor0 : ∃ N : Fin 128, ⌊r⌋ = (N.val : ℤ) := by
  have hz : 0 ≤ ⌊r⌋ := Int.floor_nonneg.mpr h0
  have hl : ⌊r⌋ < 128 := by rw [Int.floor_lt]; exact_mod_cast h1
  exact ⟨⟨⌊r⌋.toNat, by omega⟩, by simp only []; omega⟩

theorem t0_real : t0 (F := Ideal) ((r : ℝ) : EReal) = BitVec.ofInt 32 ⌊r⌋ := fptosi_real r h0 (by linarith)

theorem fr0_real : fr0 (F := Ideal) ((r : ℝ) : EReal) = ((Int.fract r : ℝ) : EReal) := by
  obtain ⟨N, hN⟩ := floor0 r h0 h1
  unfold fr0
  rw [t0_real r h0 h1, sitofp_real _ (by omega) (by omega), subf_real]; rfl

theorem row0_real (j : ℕ) (hj : j < 10) : (row0 (F := Ideal) ((r : ℝ) : EReal) j).toNat = (clip 127 (⌊r⌋ + j - 4)).toNat := by
  obtain ⟨N, hN⟩ := floor0 r h0 h1
  unfold row0
  rw [t0_real r h0 h1, hN]; exact row_word N ⟨j, hj⟩

theorem lvl0_real (j : ℕ) (hj : j < 9) : lvl0 (F := Ideal) (col v) ((r : ℝ) : EReal) j = ((sample v 127 r j : ℝ) : EReal) := by
  unfold lvl0 w0a s0
  rw [fr0_real r h0 h1, row0_real r h0 h1 j (by omega), row0_real r h0 h1 (j + 1) (by omega), one_eq, subf_real]
  show FloatOps.addf (F := Ideal) (φ := .f32) (FloatOps.mulf (F := Ideal) (φ := .f32) _ ((v _ : ℝ) : EReal)) (FloatOps.mulf (F := Ideal) (φ := .f32) _ ((v _ : ℝ) : EReal)) = _
  rw [mulf_real, mulf_real, addf_real]
  unfold sample
  rw [show (⌊r⌋ + ((j + 1 : ℕ) : ℤ) - 4) = ⌊r⌋ + (j : ℤ) - 3 from by push_cast; omega]

/-! ## The pairs -/

theorem floor12 : ∃ (N : Fin 32) (e : Fin 2), ⌊r / 4⌋ = (N.val : ℤ) ∧ ⌊r / 2⌋ = ((2 * N.val + e.val : ℕ) : ℤ) := by
  have hz : 0 ≤ ⌊r / 4⌋ := Int.floor_nonneg.mpr (by linarith)
  have hl : ⌊r / 4⌋ < 32 := by rw [Int.floor_lt]; push_cast; linarith
  have a1 : (⌊r / 4⌋ : ℝ) ≤ r / 4 := Int.floor_le _
  have a2 : r / 4 < ⌊r / 4⌋ + 1 := Int.lt_floor_add_one _
  have b1 : (⌊r / 2⌋ : ℝ) ≤ r / 2 := Int.floor_le _
  have b2 : r / 2 < ⌊r / 2⌋ + 1 := Int.lt_floor_add_one _
  have c1 : 2 * ⌊r / 4⌋ < ⌊r / 2⌋ + 1 := by
    have : ((2 * ⌊r / 4⌋ : ℤ) : ℝ) < ((⌊r / 2⌋ + 1 : ℤ) : ℝ) := by push_cast; linarith
    exact_mod_cast this
  have c2 : ⌊r / 2⌋ < 2 * ⌊r / 4⌋ + 2 := by
    have : ((⌊r / 2⌋ : ℤ) : ℝ) < ((2 * ⌊r / 4⌋ + 2 : ℤ) : ℝ) := by push_cast; linarith
    exact_mod_cast this
  exact ⟨⟨⌊r / 4⌋.toNat, by omega⟩, ⟨(⌊r / 2⌋ - 2 * ⌊r / 4⌋).toNat, by omega⟩, by simp only []; omega, by simp only []; omega⟩

theorem t1_real : t1 (F := Ideal) ((r : ℝ) : EReal) = BitVec.ofInt 32 ⌊r / 2⌋ := by
  unfold t1
  rw [half_eq, mulf_real, show r * (1 / 2) = r / 2 from by ring]
  exact fptosi_real _ (by linarith) (by linarith)

theorem t2_real : t2 (F := Ideal) ((r : ℝ) : EReal) = BitVec.ofInt 32 ⌊r / 4⌋ := by
  unfold t2
  rw [quarter_eq, mulf_real, show r * (1 / 4) = r / 4 from by ring]
  exact fptosi_real _ (by linarith) (by linarith)

theorem fr1_real : fr1 (F := Ideal) ((r : ℝ) : EReal) = ((Int.fract (r / 2) : ℝ) : EReal) := by
  obtain ⟨N, e, -, hN⟩ := floor12 r h0 h1
  unfold fr1
  rw [t1_real r h0 h1, sitofp_real _ (by omega) (by omega), half_eq, mulf_real, subf_real, show r * (1 / 2) = r / 2 from by ring]; rfl

theorem fr2_real : fr2 (F := Ideal) ((r : ℝ) : EReal) = ((Int.fract (r / 4) : ℝ) : EReal) := by
  obtain ⟨N, e, hN, -⟩ := floor12 r h0 h1
  unfold fr2
  rw [t2_real r h0 h1, sitofp_real _ (by omega) (by omega), quarter_eq, mulf_real, subf_real, show r * (1 / 4) = r / 4 from by ring]; rfl

theorem qb_real (N : Fin 32) (hN : ⌊r / 4⌋ = (N.val : ℤ)) : qb (F := Ideal) ((r : ℝ) : EReal) = qbOf N.val := by
  unfold qb; rw [t2_real r h0 h1, hN]

/-- Pair `k` of the twenty is twice the mean of the clipped pair's rows. -/
theorem pr_real (k : ℕ) (hk : k < 20) :
    pr (F := Ideal) (col v) ((r : ℝ) : EReal) k = ((2 * half2 v (clip 63 (2 * ⌊r / 4⌋ + k - 8)).toNat : ℝ) : EReal) := by
  obtain ⟨N, e, hN, -⟩ := floor12 r h0 h1
  unfold pr
  rw [prow_succ]
  have hp : (prow (F := Ideal) ((r : ℝ) : EReal) k).toNat = 2 * (clip 63 (2 * ⌊r / 4⌋ + k - 8)).toNat := by
    unfold prow
    rw [qb_real r h0 h1 N hN, hN]; exact pair_word N ⟨k, hk⟩
  rw [hp]
  show FloatOps.addf (F := Ideal) (φ := .f32) ((v _ : ℝ) : EReal) ((v _ : ℝ) : EReal) = _
  rw [addf_real]
  unfold half2
  congr 1; ring

/-! ## Level 1 -/

theorem s1_real (j : ℕ) (hj : j < 10) :
    s1 (F := Ideal) (col v) ((r : ℝ) : EReal) j = ((2 * half2 v (clip 63 (⌊r / 2⌋ + j - 4)).toNat : ℝ) : EReal) := by
  obtain ⟨N, e, hN, hE⟩ := floor12 r h0 h1
  unfold s1 emask
  rw [qb_real r h0 h1 N hN, t1_real r h0 h1, hE, mask_word N e, pr_real v r h0 h1 (5 + j) (by omega),
    pr_real v r h0 h1 (4 + j) (by omega)]
  have he := e.isLt
  by_cases h : e.val = 1
  · rw [if_pos h, sel_one, hN, h,
      show (2 * (N.val : ℤ) + ((5 + j : ℕ) : ℤ) - 8) = ((2 * N.val + 1 : ℕ) : ℤ) + (j : ℤ) - 4 from by push_cast; omega]
  · have h' : e.val = 0 := by omega
    rw [if_neg h, sel_zero, hN, h',
      show (2 * (N.val : ℤ) + ((4 + j : ℕ) : ℤ) - 8) = ((2 * N.val + 0 : ℕ) : ℤ) + (j : ℤ) - 4 from by push_cast; omega]

theorem lvl1_real (j : ℕ) (hj : j < 9) :
    lvl1 (F := Ideal) (col v) ((r : ℝ) : EReal) j = ((sample (half2 v) 63 (r / 2) j : ℝ) : EReal) := by
  unfold lvl1 w0b w1b
  rw [fr1_real r h0 h1, s1_real v r h0 h1 j (by omega), s1_real v r h0 h1 (j + 1) (by omega), half_eq, mulf_real, subf_real,
    mulf_real, mulf_real, addf_real]
  unfold sample
  rw [show (⌊r / 2⌋ + ((j + 1 : ℕ) : ℤ) - 4) = ⌊r / 2⌋ + (j : ℤ) - 3 from by push_cast; omega]
  congr 1; ring

/-! ## Level 2 -/

theorem s2_real (j : ℕ) (hj : j < 10) :
    s2 (F := Ideal) (col v) ((r : ℝ) : EReal) j = ((4 * half2 (half2 v) (clip 31 (⌊r / 4⌋ + j - 4)).toNat : ℝ) : EReal) := by
  obtain ⟨N, e, hN, -⟩ := floor12 r h0 h1
  have hNl := N.isLt
  have hp62 : p62 (F := Ideal) (col v) = ((2 * half2 v 62 : ℝ) : EReal) := by
    show FloatOps.addf (F := Ideal) (φ := .f32) ((v 124 : ℝ) : EReal) ((v 125 : ℝ) : EReal) = _
    rw [addf_real]; unfold half2; congr 1; norm_num; ring
  have hp1 : p1 (F := Ideal) (col v) = ((2 * half2 v 1 : ℝ) : EReal) := by
    show FloatOps.addf (F := Ideal) (φ := .f32) ((v 2 : ℝ) : EReal) ((v 3 : ℝ) : EReal) = _
    rw [addf_real]; unfold half2; congr 1; norm_num; ring
  have hev : ev (F := Ideal) (col v) ((r : ℝ) : EReal) j
      = ((2 * half2 v (2 * (clip 31 (⌊r / 4⌋ + j - 4)).toNat) : ℝ) : EReal) := by
    unfold ev
    rw [qb_real r h0 h1 N hN, hp62, pr_real v r h0 h1 (2 * j) (by omega), hN]
    have key : ¬ 36 ≤ N.val + j → (clip 63 (2 * (N.val : ℤ) + ((2 * j : ℕ) : ℤ) - 8)).toNat = 2 * (clip 31 ((N.val : ℤ) + j - 4)).toNat := by
      intro h; unfold clip; push_cast; omega
    by_cases h5 : 5 ≤ j
    · rw [if_pos h5, above_word N ⟨j, hj⟩ h5]
      by_cases h : 36 ≤ N.val + j
      · rw [if_pos h, sel_one, show 2 * (clip 31 ((N.val : ℤ) + j - 4)).toNat = 62 from by unfold clip; omega]
      · rw [if_neg h, sel_zero, key h]
    · rw [if_neg h5, key (by omega)]
  have hod : od (F := Ideal) (col v) ((r : ℝ) : EReal) j
      = ((2 * half2 v (2 * (clip 31 (⌊r / 4⌋ + j - 4)).toNat + 1) : ℝ) : EReal) := by
    unfold od
    rw [qb_real r h0 h1 N hN, hp1, pr_real v r h0 h1 (2 * j + 1) (by omega), hN]
    have key : ¬ N.val + j ≤ 3 → (clip 63 (2 * (N.val : ℤ) + ((2 * j + 1 : ℕ) : ℤ) - 8)).toNat = 2 * (clip 31 ((N.val : ℤ) + j - 4)).toNat + 1 := by
      intro h; unfold clip; push_cast; omega
    by_cases h3 : j ≤ 3
    · rw [if_pos h3, below_word N ⟨j, hj⟩ h3]
      by_cases h : N.val + j ≤ 3
      · rw [if_pos h, sel_one, show 2 * (clip 31 ((N.val : ℤ) + j - 4)).toNat + 1 = 1 from by unfold clip; omega]
      · rw [if_neg h, sel_zero, key h]
    · rw [if_neg h3, key (by omega)]
  unfold s2
  rw [hev, hod, addf_real]
  congr 1
  show _ = 4 * ((half2 v (2 * (clip 31 (⌊r / 4⌋ + j - 4)).toNat) + half2 v (2 * (clip 31 (⌊r / 4⌋ + j - 4)).toNat + 1)) / 2)
  ring

theorem lvl2_real (j : ℕ) (hj : j < 9) :
    lvl2 (F := Ideal) (col v) ((r : ℝ) : EReal) j = ((sample (half2 (half2 v)) 31 (r / 4) j : ℝ) : EReal) := by
  unfold lvl2 w0c w1c
  rw [fr2_real r h0 h1, s2_real v r h0 h1 j (by omega), s2_real v r h0 h1 (j + 1) (by omega), quarter_eq, mulf_real, subf_real,
    mulf_real, mulf_real, addf_real]
  unfold sample
  rw [show (⌊r / 4⌋ + ((j + 1 : ℕ) : ℤ) - 4) = ⌊r / 4⌋ + (j : ℤ) - 3 from by push_cast; omega]
  congr 1; ring

/-- Channel `n` of the kernel's cell is the real channel. -/
theorem outS_real (n : ℕ) (hn : n < 27) :
    outS (F := Ideal) (col v) ((r : ℝ) : EReal) n = ((channel v r n : ℝ) : EReal) := by
  unfold outS channel
  by_cases h9 : n < 9
  · rw [if_pos h9, if_pos h9]; exact lvl0_real v r h0 h1 n h9
  · rw [if_neg h9, if_neg h9]
    by_cases h18 : n < 18
    · rw [if_pos h18, if_pos h18]; exact lvl1_real v r h0 h1 (n - 9) (by omega)
    · rw [if_neg h18, if_neg h18]; exact lvl2_real v r h0 h1 (n - 18) (by omega)

end

end Cert.Proof.Math

end
-- ==== Proof.Math.Pre.lean ====
/- What the precondition says over the extended reals: the radius is 4, the volume is real everywhere, and the disparities are
   real numbers of at least 0 and below 128. -/
module

public import proofs.«01_k».proof.Proof.Gen.Pre_in_range
public import proofs.«01_k».proof.Proof.Math.KernelReal
public import Idealize.ShloMosaic.Lib.IdealHost
public import Idealize.ShloMosaic.Lib.ReduceAll

@[expose] public section

noncomputable section

namespace Cert.Proof.Math

open Cert.Pre_in_range Cert.Pre_in_range.Gen
open Idealize.ShloMosaic Idealize.ShloMosaic.ValueIdx

instance : Subsingleton S_.Idx := ⟨fun a b => funext fun i => i.elim0⟩

theorem bits_infinity : Ideal.ofBits .f32 0x7F800000#32 = (⊤ : EReal) := by simp [Ideal.ofBits, Ideal.ieee]
theorem bits_128 : Ideal.ofBits .f32 0x43000000#32 = ((128 : ℝ) : EReal) := by
  simp [Ideal.ofBits, Ideal.ieee, -EReal.coe_mul]; norm_num

/-- A truth value's word is 1 exactly when it is true. -/
theorem word_true {b : Bool} : BitVec.ofBool b = 1#1 ↔ b = true := by cases b <;> decide

/-- An extended real of finite magnitude is real. -/
theorem real_of_abs (x : EReal) (h : max x (-x) < ⊤) : x = ((x.toReal : ℝ) : EReal) := by
  obtain ⟨h1, h2⟩ := max_lt_iff.mp h
  refine (EReal.coe_toReal h1.ne ?_).symm
  rintro rfl
  simp at h2

/-- An extended real of at least 0 and below 128 is a real number there. -/
theorem real_of_range (x : EReal) (h0 : 0 ≤ x) (h1 : x < ((128 : ℝ) : EReal)) :
    x = ((x.toReal : ℝ) : EReal) ∧ 0 ≤ x.toReal ∧ x.toReal < 128 := by
  have e : x = ((x.toReal : ℝ) : EReal) := by
    refine (EReal.coe_toReal ?_ ?_).symm
    · rintro rfl; exact absurd h1 (by simp)
    · rintro rfl; exact absurd h0 (by simp)
  rw [e] at h0 h1
  exact ⟨e, by exact_mod_cast h0, by exact_mod_cast h1⟩

/-- The precondition, read. -/
theorem in_range_read (cv : FVec Ideal S4x128x128x256 .f32) (rad : IVec S_ 32) (dp : FVec Ideal S4x1x128x256 .f32)
    (h : fn (F := Ideal) cv rad dp = fun _ => 1#1) :
    rad ix0 = 4#32 ∧ (∀ i, cv i = (((cv i : EReal).toReal : ℝ) : EReal))
      ∧ ∀ i, dp i = (((dp i : EReal).toReal : ℝ) : EReal) ∧ 0 ≤ (dp i : EReal).toReal ∧ (dp i : EReal).toReal < 128 := by
  have h' := congrFun h ix0
  dsimp only [fn] at h'
  obtain ⟨h123, hlt⟩ := IntOp.andi_eq_one.1 h'
  obtain ⟨h12, hge⟩ := IntOp.andi_eq_one.1 h123
  obtain ⟨hrad, habs⟩ := IntOp.andi_eq_one.1 h12
  refine ⟨?_, fun i => ?_, fun i => ?_⟩
  · have e : IntOp.cmpi .eq (rad ix0) 4#32 = 1#1 := hrad
    simpa [IntOp.cmpi, word_true] using e
  · have e : Ideal.cmp .olt (max (cv i : EReal) (-(cv i : EReal))) (Ideal.ofBits .f32 0x7F800000#32) = 1#1 :=
      Host.reduce_andi_all _ _ _ _ _ habs i
    rw [bits_infinity] at e
    exact real_of_abs _ (by simpa [Ideal.cmp, word_true] using e)
  · have e0 : Ideal.cmp .oge (dp i : EReal) (Ideal.ofBits .f32 0x00000000#32) = 1#1 := Host.reduce_andi_all _ _ _ _ _ hge i
    have e1 : Ideal.cmp .olt (dp i : EReal) (Ideal.ofBits .f32 0x43000000#32) = 1#1 := Host.reduce_andi_all _ _ _ _ _ hlt i
    rw [Ideal.ofBits_zero_f32] at e0
    rw [bits_128] at e1
    exact real_of_range _ (by simpa [Ideal.cmp, word_true] using e0) (by simpa [Ideal.cmp, word_true] using e1)

end Cert.Proof.Math

end
-- ==== Proof.Ref.Gather.lean ====
/- The reference's gather along the disparity axis (`take_along_axis`), read at one entry: the operand of shape
   `[4, D, 128, 256]` at the row the index array names, at the entry's own batch, height and width. -/
module

public import Idealize.ShloMosaic.Lib.ValueIdx

@[expose] public section

noncomputable section

namespace Cert.Proof.Ref

open Idealize.ShloMosaic Idealize.ShloMosaic.ValueIdx

/-- The gather's dimension numbers for an operand of `D` rows. -/
abbrev rowDims (D : ℕ)
    (wf : GatherDims.WF ⟨4, ![4, D, 128, 256]⟩ ⟨5, ![4, 9, 128, 256, 1]⟩ ⟨4, ![4, 9, 128, 256]⟩ [] [1] [0, 2, 3] [1] [0, 2, 3] 4 ![1, 1, 1, 1]) :
    GatherDims ⟨4, ![4, D, 128, 256]⟩ ⟨5, ![4, 9, 128, 256, 1]⟩ ⟨4, ![4, 9, 128, 256]⟩ where
  offsetDims := []
  collapsedSliceDims := [1]
  operandBatchingDims := [0, 2, 3]
  startIndicesBatchingDims := [0, 2, 3]
  startIndexMap := [1]
  indexVectorDim := 4
  sliceSizes := ![1, 1, 1, 1]
  wf := wf

/-- On an axis that the operand shares with the index array, the entry read has the result's own coordinate. -/
theorem shared_coord (D : ℕ) (wf) (idx : IVec ⟨5, ![4, 9, 128, 256, 1]⟩ 32) (y : (⟨4, ![4, 9, 128, 256]⟩ : Shape).Idx)
    (a : Fin 4) (ha : a ∈ (rowDims D wf).operandBatchingDims) :
    (rowDims D wf).start y idx a + (rowDims D wf).batchCoord y a + (rowDims D wf).offCoord y a = (rowDims D wf).batchCoord y a := by
  rw [GatherDims.start_batching _ _ _ _ ha,
    GatherDims.offCoord_eq_zero _ _ _ (fun h => ((GatherDims.mem_sKept _ _).mp h).2 ha), Nat.zero_add, Nat.add_zero]

/-- The gather at `(b, j, h, w)` is the operand at row `idx (b, j, h, w, 0)`, when that word is a row's number. -/
theorem gather_row {α : Type} (D : ℕ) (wf) (x : (⟨4, ![4, D, 128, 256]⟩ : Shape).Idx → α)
    (idx : IVec ⟨5, ![4, 9, 128, 256, 1]⟩ 32) (b : Fin 4) (j : Fin 9) (h : Fin 128) (w : Fin 256) (r : Fin D)
    (hr : (idx (ix5 b j h w (0 : Fin 1))).toInt = (r.val : ℤ)) :
    Host.gather (rowDims D wf) x idx (ix4 b j h w) = x (ix4 b r h w) := by
  unfold Host.gather
  congr 1
  funext a
  refine Fin.ext ?_
  show (rowDims D wf).start (ix4 b j h w) idx a + (rowDims D wf).batchCoord (ix4 b j h w) a
      + (rowDims D wf).offCoord (ix4 b j h w) a = _
  match a with
  | ⟨0, _⟩ =>
    refine (shared_coord D wf idx _ 0 (by simp)).trans ?_
    unfold GatherDims.batchCoord
    rw [dif_pos (show (0 : Fin 4) ∈ (rowDims D wf).operandBatchingDims by simp)]
    rfl
  | ⟨2, _⟩ =>
    refine (shared_coord D wf idx _ 2 (by simp)).trans ?_
    unfold GatherDims.batchCoord
    rw [dif_pos (show (2 : Fin 4) ∈ (rowDims D wf).operandBatchingDims by simp)]
    rfl
  | ⟨3, _⟩ =>
    refine (shared_coord D wf idx _ 3 (by simp)).trans ?_
    unfold GatherDims.batchCoord
    rw [dif_pos (show (3 : Fin 4) ∈ (rowDims D wf).operandBatchingDims by simp)]
    rfl
  | ⟨1, _⟩ =>
    show (rowDims D wf).start (ix4 b j h w) idx (1 : Fin 4) + (rowDims D wf).batchCoord (ix4 b j h w) (1 : Fin 4)
      + (rowDims D wf).offCoord (ix4 b j h w) (1 : Fin 4) = r.val
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 4) ∈ (rowDims D wf).startIndexMap from List.mem_singleton.mpr rfl)]
    have hsi : (rowDims D wf).siIdx (ix4 b j h w) ⟨List.idxOf (1 : Fin 4) (rowDims D wf).startIndexMap,
        List.idxOf_lt_length_iff.2 (List.mem_singleton.mpr rfl)⟩ = ix5 b j h w (0 : Fin 1) := by
      funext c; refine Fin.ext ?_
      match c with
      | ⟨0, _⟩ => rfl
      | ⟨1, _⟩ => rfl
      | ⟨2, _⟩ => rfl
      | ⟨3, _⟩ => rfl
      | ⟨4, _⟩ => rfl
    rw [hsi, hr]
    show min ((r.val : ℤ)).toNat (D - 1) = r.val
    have := r.isLt
    omega

end Cert.Proof.Ref

end
-- ==== Proof.Ref.Level.lean ====
/- One level of the reference, over the extended reals: the positions of its nine taps, their clipped ceilings and floors, the
   rows gathered there and their weighted sum. At a level whose column is real and whose disparity is real and not negative,
   the level's entry is the real number `sample`. The level is stated once, for any number of rows. -/
module

public import proofs.«01_k».proof.Proof.Gen.ReferenceIdeal
public import proofs.«01_k».proof.Proof.Math.KernelReal
public import proofs.«01_k».proof.Proof.Ref.Gather
public import Idealize.ShloMosaic.Lib.IdealHost
public import Idealize.ShloMosaic.Lib.ReduceAll
public import Idealize.ShloMosaic.Lib.Pipeline.Value

@[expose] public section

noncomputable section

namespace Cert.Proof.Ref

open Cert.ReferenceIdeal Cert.ReferenceIdeal.Gen
open Idealize.ShloMosaic Idealize.ShloMosaic.ValueIdx Cert.Proof.Math

/-! ## The level's text -/

section
variable {F : FTy → Type} [FloatOps F]

/-- The level's disparity: the disparity over the level's scale, a word `k`. -/
def dispV (D : FVec F S4x1x128x256 .f32) (k : BitVec 32) : FVec F S4x1x128x256 .f32 :=
  Host.divf (mulf D (broadcastInDim S4x1x128x256 ![] bcast_S_S4x1x128x256 (constant S_ .f32 0x3F800000#32))) (broadcastInDim S4x1x128x256 ![] bcast_S_S4x1x128x256 (constant S_ .f32 k))

/-- The lower end of the taps: the disparity less the radius. -/
def lowV (A : FVec F S4x1x128x256 .f32) (rad : IVec S_ 32) : FVec F S4x1x128x256 .f32 :=
  subf A (broadcastInDim S4x1x128x256 ![] bcast_S_S4x1x128x256 (sitofp .f32 rad))

/-- The step between taps: the upper end less the lower, over 8. -/
def stepV (A : FVec F S4x1x128x256 .f32) (rad : IVec S_ 32) : FVec F S4x1x128x256 .f32 :=
  Host.divf (mulf (subf (addf A (broadcastInDim S4x1x128x256 ![] bcast_S_S4x1x128x256 (sitofp .f32 rad))) (lowV A rad)) (broadcastInDim S4x1x128x256 ![] bcast_S_S4x1x128x256 (constant S_ .f32 0x3F800000#32))) (broadcastInDim S4x1x128x256 ![] bcast_S_S4x1x128x256 (constant S_ .f32 0x41000000#32))

/-- The nine positions. -/
def candV (A : FVec F S4x1x128x256 .f32) (rad : IVec S_ 32) : FVec F S4x9x128x256 .f32 :=
  addf (broadcastInDim S4x9x128x256 ![0, 1, 2, 3] bcast_S4x1x128x256_S4x9x128x256_0_1_2_3 (lowV A rad)) (mulf (broadcastInDim S4x9x128x256 ![0, 1, 2, 3] bcast_S1x9x1x1_S4x9x128x256_0_1_2_3 (shapeCast _ (sitofp .f32 (iotaInDim S9 32 0)) shapeCasts_S9_S1x9x1x1)) (broadcastInDim S4x9x128x256 ![0, 1, 2, 3] bcast_S4x1x128x256_S4x9x128x256_0_1_2_3 (stepV A rad)))

/-- The values `X`, moved by the rounded `R` less `X`, clipped between 0 and `q`. -/
def clipV (q : BitVec 32) (R X : FVec F S4x9x128x256 .f32) : FVec F S4x9x128x256 .f32 :=
  minimumf (broadcastInDim S4x9x128x256 ![] bcast_S_S4x9x128x256 (sitofp .f32 (constantI S_ 32 q))) (maximumf (broadcastInDim S4x9x128x256 ![] bcast_S_S4x9x128x256 (sitofp .f32 (constantI S_ 32 0#32))) (addf (subf R X) X))

/-- The rows' numbers, with `p` added to a negative one, as an array of index vectors of length one. -/
def wrapV (p : BitVec 32) (I : IVec S4x9x128x256 32) : IVec S4x9x128x256x1 32 :=
  shapeCast _ (select (cmpi .slt I (broadcastInDim S4x9x128x256 ![] bcast_S_S4x9x128x256 (constantI S_ 32 0#32))) (addi I (broadcastInDim S4x9x128x256 ![] bcast_S_S4x9x128x256 (constantI S_ 32 p))) I) shapeCasts_S4x9x128x256_S4x9x128x256x1

/-- Where the rows' numbers lie between 0 and `q`. -/
def maskV (q : BitVec 32) (J : IVec S4x9x128x256x1 32) : IVec S4x9x128x256 1 :=
  Host.reduce IntOp.andi (andi (cmpi .sge J (broadcastInDim S4x9x128x256x1 ![] bcast_S_S4x9x128x256x1 (constantI S_ 32 0#32))) (cmpi .sle J (broadcastInDim S4x9x128x256x1 ![0, 1, 2, 3, 4] bcast_S1x1x1x1x1_S4x9x128x256x1_0_1_2_3_4 (broadcastInDim S1x1x1x1x1 ![4] bcast_S1_S1x1x1x1x1_4 (constantI S1 32 q))))) (constantI S_ 1 1#1) reducesTo_S4x9x128x256x1_S4x9x128x256_d4 h_S_

/-- The rows gathered, where their numbers are in range. -/
def takeV {S : Shape} (g : GatherDims S S4x9x128x256x1 S4x9x128x256) (q : BitVec 32) (T : FVec F S .f32) (J : IVec S4x9x128x256x1 32) :
    FVec F S4x9x128x256 .f32 :=
  select (maskV q J) (Host.gather g T J) (broadcastInDim S4x9x128x256 ![] bcast_S_S4x9x128x256 (constant S_ .f32 0x7FC00000#32))

/-- The level: the two gathered rows, weighed. -/
def levelV {S : Shape} (g : GatherDims S S4x9x128x256x1 S4x9x128x256) (q p : BitVec 32) (T : FVec F S .f32) (X : FVec F S4x9x128x256 .f32) :
    FVec F S4x9x128x256 .f32 :=
  addf (mulf (takeV g q T (wrapV p (fptosi 32 (clipV q (Host.ceil X) X)))) (subf (broadcastInDim S4x9x128x256 ![] bcast_S_S4x9x128x256 (constant S_ .f32 0x3F800000#32)) (subf (clipV q (Host.ceil X) X) X)))
    (mulf (takeV g q T (wrapV p (fptosi 32 (clipV q (Host.floor X) X)))) (subf (clipV q (Host.ceil X) X) X))

end

/-! ## Constants and broadcasts -/

theorem bits_one : Ideal.ofBits .f32 0x3F800000#32 = ((1 : ℝ) : EReal) := one_eq
theorem bits_two : Ideal.ofBits .f32 0x40000000#32 = ((2 : ℝ) : EReal) := by
  simp [Ideal.ofBits, Ideal.ieee, -EReal.coe_mul]; norm_num
theorem bits_four : Ideal.ofBits .f32 0x40800000#32 = ((4 : ℝ) : EReal) := by
  simp [Ideal.ofBits, Ideal.ieee, -EReal.coe_mul]; norm_num
theorem bits_eight : Ideal.ofBits .f32 0x41000000#32 = ((8 : ℝ) : EReal) := by
  simp [Ideal.ofBits, Ideal.ieee, -EReal.coe_mul]; norm_num

theorem bcast_disp {α : Type} (x : S4x1x128x256.Idx → α) (b : Fin 4) (j : Fin 9) (h : Fin 128) (w : Fin 256) :
    broadcastInDim S4x9x128x256 ![0, 1, 2, 3] bcast_S4x1x128x256_S4x9x128x256_0_1_2_3 x (ix4 b j h w) = x (ix4 b (0 : Fin 1) h w) := by
  refine broadcastInDim_apply _ _ _ _ _ fun a => ?_
  match a with
  | ⟨0, _⟩ => rfl
  | ⟨1, _⟩ => rfl
  | ⟨2, _⟩ => rfl
  | ⟨3, _⟩ => rfl

theorem bcast_taps {α : Type} (x : S1x9x1x1.Idx → α) (b : Fin 4) (j : Fin 9) (h : Fin 128) (w : Fin 256) :
    broadcastInDim S4x9x128x256 ![0, 1, 2, 3] bcast_S1x9x1x1_S4x9x128x256_0_1_2_3 x (ix4 b j h w)
      = x (ix4 (0 : Fin 1) j (0 : Fin 1) (0 : Fin 1)) := by
  refine broadcastInDim_apply _ _ _ _ _ fun a => ?_
  match a with
  | ⟨0, _⟩ => rfl
  | ⟨1, _⟩ => rfl
  | ⟨2, _⟩ => rfl
  | ⟨3, _⟩ => rfl

theorem taps_read {α : Type} (x : S9.Idx → α) (j : Fin 9) :
    shapeCast S1x9x1x1 x shapeCasts_S9_S1x9x1x1 (ix4 (0 : Fin 1) j (0 : Fin 1) (0 : Fin 1)) = x (ix1 j) := by
  refine shapeCast_apply _ _ _ _ ?_
  rw [Shape.rowMajor_val_one, Shape.rowMajor_val_four]
  show j.val = ((0 * 9 + j.val) * 1 + 0) * 1 + 0
  omega

theorem one_longer {α : Type} (x : S4x9x128x256.Idx → α) (b : Fin 4) (j : Fin 9) (h : Fin 128) (w : Fin 256) (z : Fin 1) :
    shapeCast S4x9x128x256x1 x shapeCasts_S4x9x128x256_S4x9x128x256x1 (ix5 b j h w z) = x (ix4 b j h w) := by
  refine shapeCast_apply _ _ _ _ ?_
  rw [Shape.rowMajor_val_five, Shape.rowMajor_val_four]
  show (((b.val * 9 + j.val) * 128 + h.val) * 256 + w.val) = (((b.val * 9 + j.val) * 128 + h.val) * 256 + w.val) * 1 + z.val
  have := z.isLt
  omega

/-! ## The positions -/

/-- The level's disparity where the disparity is the real `d` and the scale's word is the real `s`, not zero. -/
theorem dispV_real (D : FVec Ideal S4x1x128x256 .f32) (k : BitVec 32) (s : ℝ) (hs : s ≠ 0) (hk : Ideal.ofBits .f32 k = ((s : ℝ) : EReal))
    (i : S4x1x128x256.Idx) (d : ℝ) (hd : D i = ((d : ℝ) : EReal)) : dispV D k i = ((d / s : ℝ) : EReal) := by
  unfold dispV
  rw [hostDivf_apply, mulf_apply, broadcastInDim_scalar_apply, broadcastInDim_scalar_apply, constant_apply, constant_apply, bits_one, hk, hd,
    Ideal.div_coe hs, ← EReal.coe_mul, ← EReal.coe_mul]
  congr 1; ring

theorem radius_real (rad : IVec S_ 32) (hrad : rad ix0 = 4#32) : (sitofp .f32 rad : FVec Ideal S_ .f32) ix0 = ((4 : ℝ) : EReal) := by
  rw [sitofp_apply, hrad]
  show (((4#32 : BitVec 32).toInt : ℝ) : EReal) = _
  rw [show (4#32 : BitVec 32).toInt = 4 from by decide]; norm_num

/-- Tap `j`'s position. -/
theorem candV_real (A : FVec Ideal S4x1x128x256 .f32) (rad : IVec S_ 32) (hrad : rad ix0 = 4#32)
    (b : Fin 4) (j : Fin 9) (h : Fin 128) (w : Fin 256) (a : ℝ) (ha : A (ix4 b (0 : Fin 1) h w) = ((a : ℝ) : EReal)) :
    candV A rad (ix4 b j h w) = ((pos a j.val : ℝ) : EReal) := by
  have hlow : lowV A rad (ix4 b (0 : Fin 1) h w) = ((a - 4 : ℝ) : EReal) := by
    unfold lowV
    rw [subf_apply, broadcastInDim_scalar_apply, radius_real rad hrad, ha, ← EReal.coe_sub]
  have hstep : stepV A rad (ix4 b (0 : Fin 1) h w) = ((1 : ℝ) : EReal) := by
    unfold stepV
    rw [hostDivf_apply, mulf_apply, subf_apply, addf_apply, hlow, broadcastInDim_scalar_apply, broadcastInDim_scalar_apply,
      broadcastInDim_scalar_apply, constant_apply, constant_apply, radius_real rad hrad, ha, bits_one, bits_eight,
      ← EReal.coe_add, ← EReal.coe_sub, ← EReal.coe_mul, Ideal.div_coe (by norm_num), ← EReal.coe_mul]
    congr 1; ring
  have hj : (sitofp .f32 (iotaInDim S9 32 0) : FVec Ideal S9 .f32) (ix1 j) = ((j.val : ℝ) : EReal) := by
    rw [sitofp_apply, iotaInDim_apply]
    show FloatOps.sitofp (F := Ideal) .f32 (BitVec.ofNat 32 j.val) = _
    have := j.isLt
    rw [show BitVec.ofNat 32 j.val = BitVec.ofInt 32 (j.val : ℤ) from (BitVec.ofInt_natCast 32 j.val).symm, sitofp_real _ (by omega) (by omega)]
    norm_num
  unfold candV
  rw [addf_apply, mulf_apply, bcast_disp, bcast_disp, bcast_taps, taps_read, hlow, hstep, hj, ← EReal.coe_mul, ← EReal.coe_add]
  unfold pos
  congr 1; ring

/-! ## The clipped rows -/

theorem coe_max (a b : ℝ) : max ((a : ℝ) : EReal) ((b : ℝ) : EReal) = ((max a b : ℝ) : EReal) :=
  (EReal.coe_strictMono.monotone.map_max).symm
theorem coe_min (a b : ℝ) : min ((a : ℝ) : EReal) ((b : ℝ) : EReal) = ((min a b : ℝ) : EReal) :=
  (EReal.coe_strictMono.monotone.map_min).symm

/-- A rounded position, clipped, is the clipped integer. -/
theorem clipV_real (M : ℕ) (hM : M < 2147483648) (R X : FVec Ideal S4x9x128x256 .f32) (i : S4x9x128x256.Idx) (z : ℤ) (x : ℝ)
    (hz : R i = (((z : ℤ) : ℝ) : EReal)) (hx : X i = ((x : ℝ) : EReal)) :
    clipV (BitVec.ofInt 32 (M : ℤ)) R X i = (((clip M z : ℤ) : ℝ) : EReal) := by
  unfold clipV
  rw [minimumf_apply, maximumf_apply, addf_apply, subf_apply, broadcastInDim_scalar_apply, broadcastInDim_scalar_apply, hz, hx,
    sitofp_apply, sitofp_apply]
  show min (FloatOps.sitofp (F := Ideal) .f32 (BitVec.ofInt 32 (M : ℤ))) (max (FloatOps.sitofp (F := Ideal) .f32 (BitVec.ofInt 32 (0 : ℤ))) _) = _
  rw [sitofp_real _ (by omega) (by omega), sitofp_real _ (by omega) (by omega), ← EReal.coe_sub, ← EReal.coe_add, coe_max, coe_min]
  unfold clip
  congr 1
  push_cast
  congr 2; ring

/-- The word of a clipped integer. -/
theorem fptosi_clip (M : ℕ) (hM : M < 2147483647) (z : ℤ) (C : FVec Ideal S4x9x128x256 .f32) (i : S4x9x128x256.Idx)
    (hC : C i = (((clip M z : ℤ) : ℝ) : EReal)) : (fptosi 32 C : IVec S4x9x128x256 32) i = BitVec.ofInt 32 (clip M z) := by
  have h0 := clip_nonneg M z
  have h1 := clip_le M z
  show FloatOps.fptosi (F := Ideal) (φ := .f32) 32 (C i) = _
  rw [hC, fptosi_real _ (by exact_mod_cast h0) (by exact_mod_cast (show clip M z < 2147483647 by omega)), Int.floor_intCast]

/-- A row's number that is not negative is left as it is. -/
theorem wrapV_real (p : BitVec 32) (I : IVec S4x9x128x256 32) (b : Fin 4) (j : Fin 9) (h : Fin 128) (w : Fin 256) (e : Fin 1) (z : ℤ)
    (h0 : 0 ≤ z) (h1 : z < 2147483648) (hI : I (ix4 b j h w) = BitVec.ofInt 32 z) : wrapV p I (ix5 b j h w e) = BitVec.ofInt 32 z := by
  unfold wrapV
  rw [one_longer, select_apply, hI]
  have hc : cmpi .slt I (broadcastInDim S4x9x128x256 ![] bcast_S_S4x9x128x256 (constantI S_ 32 0#32)) (ix4 b j h w) = 0#1 := by
    refine eq_zero_of_ne_one fun hn => ?_
    have h' : IntOp.cmpi .slt (I (ix4 b j h w)) 0#32 = 1#1 := hn
    rw [IntOp.cmpi_slt, hI, toInt_ofInt z h0 h1] at h'
    have : (0#32 : BitVec 32).toInt = 0 := by decide
    omega
  rw [hc, select_zero]

/-- Row numbers between 0 and `M` are in range everywhere. -/
theorem maskV_one (M : ℕ) (hM : M < 2147483648) (J : IVec S4x9x128x256x1 32)
    (hJ : ∀ i, ∃ z : ℤ, 0 ≤ z ∧ z ≤ M ∧ J i = BitVec.ofInt 32 z) (i : S4x9x128x256.Idx) :
    maskV (BitVec.ofInt 32 (M : ℤ)) J i = 1#1 := by
  unfold maskV
  refine Host.reduce_andi_one _ _ _ _ _ rfl fun k => ?_
  obtain ⟨z, h0, h1, hz⟩ := hJ k
  refine IntOp.andi_eq_one.2 ⟨?_, ?_⟩
  · show IntOp.cmpi .sge (J k) 0#32 = 1#1
    rw [IntOp.cmpi_sge, hz, toInt_ofInt z h0 (by omega)]
    have : (0#32 : BitVec 32).toInt = 0 := by decide
    omega
  · show IntOp.cmpi .sle (J k) (BitVec.ofInt 32 (M : ℤ)) = 1#1
    rw [IntOp.cmpi_sle, hz, toInt_ofInt z h0 (by omega), toInt_ofInt _ (by omega) (by omega)]
    omega

/-- The rows taken at clipped row numbers. -/
theorem takeV_real (M : ℕ) (hM : M < 2147483647) (wf) (p : BitVec 32) (T : FVec Ideal ⟨4, ![4, M + 1, 128, 256]⟩ .f32)
    (C : FVec Ideal S4x9x128x256 .f32) (z : S4x9x128x256.Idx → ℤ) (hC : ∀ i, C i = (((clip M (z i) : ℤ) : ℝ) : EReal))
    (b : Fin 4) (j : Fin 9) (h : Fin 128) (w : Fin 256) :
    takeV (rowDims (M + 1) wf) (BitVec.ofInt 32 (M : ℤ)) T (wrapV p (fptosi 32 C)) (ix4 b j h w)
      = T (ix4 b (⟨(clip M (z (ix4 b j h w))).toNat, clip_toNat_lt M _⟩ : Fin (M + 1)) h w) := by
  have hJ : ∀ (b : Fin 4) (j : Fin 9) (h : Fin 128) (w : Fin 256) (e : Fin 1),
      wrapV p (fptosi 32 C) (ix5 b j h w e) = BitVec.ofInt 32 (clip M (z (ix4 b j h w))) := fun b j h w e => by
    have h1 := clip_le M (z (ix4 b j h w))
    exact wrapV_real p _ b j h w e _ (clip_nonneg _ _) (by omega) (fptosi_clip M hM _ C _ (hC _))
  unfold takeV
  rw [select_apply, maskV_one M (by omega), select_one]
  · refine gather_row (M + 1) wf T _ b j h w _ ?_
    have h0 := clip_nonneg M (z (ix4 b j h w))
    have h1 := clip_le M (z (ix4 b j h w))
    rw [hJ, toInt_ofInt _ h0 (by omega)]
    show _ = (((clip M (z (ix4 b j h w))).toNat : ℕ) : ℤ)
    omega
  · intro i
    exact ⟨clip M (z (ix4 (i 0) (i 1) (i 2) (i 3))), clip_nonneg _ _, clip_le _ _,
      (congrArg (wrapV p (fptosi 32 C)) (eq_ix5 i)).trans (hJ (i 0) (i 1) (i 2) (i 3) (i 4))⟩

/-! ## The level -/

/-- On real disparities and a real column, entry `(b, j, h, w)` of a level of `M + 1` rows is `sample`. -/
theorem levelV_real (M : ℕ) (hM : M < 2147483647) (wf) (p : BitVec 32) (T : FVec Ideal ⟨4, ![4, M + 1, 128, 256]⟩ .f32)
    (A : FVec Ideal S4x1x128x256 .f32) (rad : IVec S_ 32) (hrad : rad ix0 = 4#32)
    (a : Fin 4 → Fin 128 → Fin 256 → ℝ) (ha : ∀ b h w, A (ix4 b (0 : Fin 1) h w) = ((a b h w : ℝ) : EReal))
    (b : Fin 4) (j : Fin 9) (h : Fin 128) (w : Fin 256) (v : ℕ → ℝ)
    (hv : ∀ n : Fin (M + 1), T (ix4 b n h w) = ((v n.val : ℝ) : EReal)) :
    levelV (rowDims (M + 1) wf) (BitVec.ofInt 32 (M : ℤ)) p T (candV A rad) (ix4 b j h w) = ((sample v M (a b h w) j.val : ℝ) : EReal) := by
  have hX : ∀ i : S4x9x128x256.Idx, candV A rad i = ((pos (a (i 0) (i 2) (i 3)) (i 1).val : ℝ) : EReal) := fun i => by
    rw [eq_ix4 i]; exact candV_real A rad hrad _ _ _ _ _ (ha _ _ _)
  have hce : ∀ i : S4x9x128x256.Idx, clipV (BitVec.ofInt 32 (M : ℤ)) (Host.ceil (candV A rad)) (candV A rad) i
      = (((clip M ⌈pos (a (i 0) (i 2) (i 3)) (i 1).val⌉ : ℤ) : ℝ) : EReal) := fun i =>
    clipV_real M (by omega) _ _ i _ _ (by
      show Ideal.liftRound Int.ceil (candV A rad i) = _
      rw [hX]; rfl) (hX i)
  have hfl : ∀ i : S4x9x128x256.Idx, clipV (BitVec.ofInt 32 (M : ℤ)) (Host.floor (candV A rad)) (candV A rad) i
      = (((clip M ⌊pos (a (i 0) (i 2) (i 3)) (i 1).val⌋ : ℤ) : ℝ) : EReal) := fun i =>
    clipV_real M (by omega) _ _ i _ _ (by
      show Ideal.liftRound Int.floor (candV A rad i) = _
      rw [hX]; rfl) (hX i)
  unfold levelV
  rw [addf_apply, mulf_apply, mulf_apply, subf_apply, subf_apply, broadcastInDim_scalar_apply, constant_apply, bits_one,
    takeV_real M hM wf p T _ _ hce, takeV_real M hM wf p T _ _ hfl, hce, hX, hv, hv]
  rw [← EReal.coe_sub, ← EReal.coe_sub, ← EReal.coe_mul, ← EReal.coe_mul, ← EReal.coe_add]
  exact congrArg _ (ref_sample v M (a b h w) j.val)

end Cert.Proof.Ref

end
-- ==== Proof.Ref.Result.lean ====
/- The reference's result over the extended reals: on a real volume, the radius 4 and real disparities that are not negative,
   its entry `(b, n, h, w)` is the real number `channel` of the volume's column and of the disparity at `(b, h, w)`. -/
module

public import proofs.«01_k».proof.Proof.Gen.ReferenceIdeal.Run
public import proofs.«01_k».proof.Proof.Ref.Level

@[expose] public section

set_option maxRecDepth 8192

noncomputable section

namespace Cert.Proof.Ref

open Cert.ReferenceIdeal Cert.ReferenceIdeal.Gen Cert.ReferenceIdeal.Value
open Idealize.ShloMosaic Idealize.ShloMosaic.ValueIdx Idealize.ShloMosaic.StableHlo Cert.Proof.Math

/-! ## The means of pairs of rows -/

/-- A volume of `E = 2 D` real rows, its rows averaged in pairs: row `p` is the mean of rows `2 p` and `2 p + 1`. -/
theorem mean_real (E D : ℕ) (hE : E = 2 * D) (x : FVec Ideal ⟨4, ![4, E, 128, 256]⟩ .f32)
    (hsc : Shape.ShapeCasts ⟨4, ![4, E, 128, 256]⟩ ⟨5, ![4, D, 2, 128, 256]⟩)
    (hr : Shape.ReducesTo ⟨5, ![4, D, 2, 128, 256]⟩ [2] ⟨4, ![4, D, 128, 256]⟩)
    (hr' : Shape.Reduces ⟨5, ![4, D, 2, 128, 256]⟩ [2] ⟨4, ![4, D, 128, 256]⟩)
    (hb : S_.BroadcastsInDim ⟨4, ![4, D, 128, 256]⟩ ![]) (b : Fin 4) (h : Fin 128) (w : Fin 256) (v : ℕ → ℝ)
    (hv : ∀ n : Fin E, x (ix4 b n h w) = ((v n.val : ℝ) : EReal)) (p : Fin D) :
    Host.divf (Host.reduceAdd (shapeCast ⟨5, ![4, D, 2, 128, 256]⟩ x hsc) (constant S_ .f32 0x00000000#32) hr h_S_)
      (broadcastInDim ⟨4, ![4, D, 128, 256]⟩ ![] hb (constant S_ .f32 0x40000000#32)) (ix4 b p h w) = ((half2 v p.val : ℝ) : EReal) := by
  have hp := p.isLt
  have key : ∀ k : Fin 2, shapeCast ⟨5, ![4, D, 2, 128, 256]⟩ x hsc (hr'.lift (ix4 b p h w) k) = ((v (2 * p.val + k.val) : ℝ) : EReal) := fun k => by
    have hk := k.isLt
    have hl : hr'.lift (ix4 b p h w) k = ix5 b p k h w := by
      funext c; refine Fin.ext ?_
      match c with
      | ⟨0, _⟩ => rfl
      | ⟨1, _⟩ => rfl
      | ⟨2, _⟩ => rfl
      | ⟨3, _⟩ => rfl
      | ⟨4, _⟩ => rfl
    rw [hl]
    refine (shapeCast_apply x hsc (ix5 b p k h w) (ix4 b (⟨2 * p.val + k.val, by omega⟩ : Fin E) h w) ?_).trans (hv _)
    rw [Shape.rowMajor_val_four, Shape.rowMajor_val_five]
    show ((b.val * E + (2 * p.val + k.val)) * 128 + h.val) * 256 + w.val = (((b.val * D + p.val) * 2 + k.val) * 128 + h.val) * 256 + w.val
    subst hE
    ring
  rw [hostDivf_apply, hostReduceAdd_apply, Ideal.hostReduceAdd_single hr hr', broadcastInDim_scalar_apply, constant_apply, constant_apply,
    Ideal.ofBits_zero_f32, bits_two, zero_add, Ideal.div_coe (by norm_num)]
  rw [show (∑ k : Fin (Shape.size ⟨5, ![4, D, 2, 128, 256]⟩ 2), shapeCast ⟨5, ![4, D, 2, 128, 256]⟩ x hsc (hr'.lift (ix4 b p h w) k))
      = ∑ k : Fin 2, ((v (2 * p.val + k.val) : ℝ) : EReal) from Finset.sum_congr rfl fun k _ => key k,
    Fin.sum_univ_two, ← EReal.coe_add, ← EReal.coe_mul]
  unfold half2
  congr 1
  show (v (2 * p.val + 0) + v (2 * p.val + 1)) * (1 / 2) = _
  rw [Nat.add_zero]; ring

/-! ## The three levels side by side -/

section
variable (V0 : Valuation τ sig (Elt Ideal))

/-- The three arguments. -/
abbrev argC : FVec Ideal S4x128x128x256 .f32 := V0 (Proc.devRef .tc main_arg0)
abbrev argR : IVec S_ 32 := V0 (Proc.devRef .tc main_arg1)
abbrev argD : FVec Ideal S4x1x128x256 .f32 := V0 (Proc.devRef .tc main_arg2)

/-- The three levels. -/
abbrev lev0 : FVec Ideal S4x9x128x256 .f32 :=
  levelV gather_S4x128x128x256_S4x9x128x256x1_S4x9x128x256_n_1_023_023_1_4_1111 127#32 128#32 (argC V0) (candV (dispV (argD V0) 0x3F800000#32) (argR V0))
abbrev lev1 : FVec Ideal S4x9x128x256 .f32 :=
  levelV gather_S4x64x128x256_S4x9x128x256x1_S4x9x128x256_n_1_023_023_1_4_1111 63#32 64#32 (res_main_v3 V0) (candV (dispV (argD V0) 0x40000000#32) (argR V0))
abbrev lev2 : FVec Ideal S4x9x128x256 .f32 :=
  levelV gather_S4x32x128x256_S4x9x128x256x1_S4x9x128x256_n_1_023_023_1_4_1111 31#32 32#32 (res_main_v7 V0) (candV (dispV (argD V0) 0x40800000#32) (argR V0))

/-- The three levels in a list. -/
abbrev levels : List ((s : Shape) × (s.Idx → EReal)) := [⟨S4x9x128x256, lev0 V0⟩, ⟨S4x9x128x256, lev1 V0⟩, ⟨S4x9x128x256, lev2 V0⟩]

/-- The result is the three levels, one after the other along the channels. -/
theorem res_levels : res_main_v128 V0
    = concatenate S4x27x128x256 1 (levels V0)
        concatenates_S4x9x128x256_S4x9x128x256_S4x9x128x256_S4x27x128x256_d1 := rfl

variable (v : Fin 4 → Fin 128 → Fin 256 → ℕ → ℝ) (d : Fin 4 → Fin 128 → Fin 256 → ℝ)
  (hv : ∀ b h w (n : Fin 128), argC V0 (ix4 b n h w) = ((v b h w n.val : ℝ) : EReal))
  (hr : argR V0 ix0 = 4#32)
  (hd : ∀ b h w, argD V0 (ix4 b (0 : Fin 1) h w) = ((d b h w : ℝ) : EReal))

include hv in
/-- The first pyramid level's volume. -/
theorem v3_real (b : Fin 4) (h : Fin 128) (w : Fin 256) (p : Fin 64) :
    (res_main_v3 V0 : FVec Ideal S4x64x128x256 .f32) (ix4 b p h w) = ((half2 (v b h w) p.val : ℝ) : EReal) :=
  mean_real 128 64 rfl (argC V0) shapeCasts_S4x128x128x256_S4x64x2x128x256 reducesTo_S4x64x2x128x256_S4x64x128x256_d2 (by decide)
    bcast_S_S4x64x128x256 b h w (v b h w) (hv b h w) p

include hv in
/-- The second pyramid level's volume. -/
theorem v7_real (b : Fin 4) (h : Fin 128) (w : Fin 256) (p : Fin 32) :
    (res_main_v7 V0 : FVec Ideal S4x32x128x256 .f32) (ix4 b p h w) = ((half2 (half2 (v b h w)) p.val : ℝ) : EReal) :=
  mean_real 64 32 rfl (res_main_v3 V0) shapeCasts_S4x64x128x256_S4x32x2x128x256 reducesTo_S4x32x2x128x256_S4x32x128x256_d2 (by decide)
    bcast_S_S4x32x128x256 b h w (half2 (v b h w)) (v3_real V0 v hv b h w) p

include hv hr hd in
theorem lev0_real (b : Fin 4) (j : Fin 9) (h : Fin 128) (w : Fin 256) :
    lev0 V0 (ix4 b j h w) = ((sample (v b h w) 127 (d b h w) j.val : ℝ) : EReal) := by
  have e := levelV_real 127 (by omega) gather_S4x128x128x256_S4x9x128x256x1_S4x9x128x256_n_1_023_023_1_4_1111_wf 128#32 (argC V0)
    (dispV (argD V0) 0x3F800000#32) (argR V0) hr (fun b h w => d b h w / 1)
    (fun b h w => dispV_real _ _ 1 one_ne_zero bits_one _ _ (hd b h w)) b j h w (v b h w) (hv b h w)
  rw [div_one] at e
  exact e

include hv hr hd in
theorem lev1_real (b : Fin 4) (j : Fin 9) (h : Fin 128) (w : Fin 256) :
    lev1 V0 (ix4 b j h w) = ((sample (half2 (v b h w)) 63 (d b h w / 2) j.val : ℝ) : EReal) :=
  levelV_real 63 (by omega) gather_S4x64x128x256_S4x9x128x256x1_S4x9x128x256_n_1_023_023_1_4_1111_wf 64#32 (res_main_v3 V0)
    (dispV (argD V0) 0x40000000#32) (argR V0) hr (fun b h w => d b h w / 2)
    (fun b h w => dispV_real _ _ 2 two_ne_zero bits_two _ _ (hd b h w)) b j h w (half2 (v b h w)) (v3_real V0 v hv b h w)

include hv hr hd in
theorem lev2_real (b : Fin 4) (j : Fin 9) (h : Fin 128) (w : Fin 256) :
    lev2 V0 (ix4 b j h w) = ((sample (half2 (half2 (v b h w))) 31 (d b h w / 4) j.val : ℝ) : EReal) :=
  levelV_real 31 (by omega) gather_S4x32x128x256_S4x9x128x256x1_S4x9x128x256_n_1_023_023_1_4_1111_wf 32#32 (res_main_v7 V0)
    (dispV (argD V0) 0x40800000#32) (argR V0) hr (fun b h w => d b h w / 4)
    (fun b h w => dispV_real _ _ 4 four_ne_zero bits_four _ _ (hd b h w)) b j h w (half2 (half2 (v b h w))) (v7_real V0 v hv b h w)

/-- One piece of the result: channels `9 k … 9 k + 8`. -/
theorem res_piece (k : ℕ) (hk : k < 3) (x : FVec Ideal S4x9x128x256 .f32)
    (hx : (levels V0)[k] = ⟨S4x9x128x256, x⟩)
    (hpre : (((levels V0).take k).map (·.1)
      |>.map fun s => if h : s.rank = S4x27x128x256.rank then s.size ((1 : Fin 4).cast h.symm) else 0).sum = 9 * k)
    (b : Fin 4) (n : Fin 27) (j : Fin 9) (h : Fin 128) (w : Fin 256) (hn : 9 * k + j.val = n.val) :
    (res_main_v128 V0 : FVec Ideal S4x27x128x256 .f32) (ix4 b n h w) = x (ix4 b j h w) := by
  rw [res_levels]
  refine concatenate_apply_piece (t := S4x27x128x256) 1 (levels V0) _ (ix4 b n h w) k hk S4x9x128x256 x hx rfl (9 * k) hpre (ix4 b j h w) (fun c hc => ?_) hn
  match c with
  | ⟨0, _⟩ => rfl
  | ⟨1, _⟩ => exact absurd rfl hc
  | ⟨2, _⟩ => rfl
  | ⟨3, _⟩ => rfl

include hv hr hd in
/-- The reference's entry. -/
theorem ref_real (b : Fin 4) (n : Fin 27) (h : Fin 128) (w : Fin 256) :
    (res_main_v128 V0 : FVec Ideal S4x27x128x256 .f32) (ix4 b n h w) = ((channel (v b h w) (d b h w) n.val : ℝ) : EReal) := by
  have hn := n.isLt
  unfold channel
  by_cases h9 : n.val < 9
  · rw [if_pos h9]
    exact (res_piece V0 0 (by omega) (lev0 V0) rfl rfl b n ⟨n.val, h9⟩ h w (by simp)).trans (lev0_real V0 v d hv hr hd b _ h w)
  · rw [if_neg h9]
    by_cases h18 : n.val < 18
    · rw [if_pos h18]
      exact (res_piece V0 1 (by omega) (lev1 V0) rfl rfl b n ⟨n.val - 9, by omega⟩ h w (by simp; omega)).trans
        (lev1_real V0 v d hv hr hd b _ h w)
    · rw [if_neg h18]
      exact (res_piece V0 2 (by omega) (lev2 V0) rfl rfl b n ⟨n.val - 18, by omega⟩ h w (by simp; omega)).trans
        (lev2_real V0 v d hv hr hd b _ h w)

end

end Cert.Proof.Ref

end
-- ==== Proof.Algebraic.lean ====
/- Kernel and reference compute the same array over the extended reals: entry by entry both are the real number `channel`. -/
module

public import proofs.«01_k».proof.Defs
public import proofs.«01_k».proof.Proof.Gen.Kernel
public import proofs.«01_k».proof.Proof.Math.Pre
public import proofs.«01_k».proof.Proof.Ref.Result
public import proofs.«01_k».proof.Proof.Sc.Launch

@[expose] public section

noncomputable section

namespace Cert.Proof

open Idealize.ShloMosaic Idealize.SL.Sem Idealize.ShloMosaic.ValueIdx Idealize.ShloMosaic.StableHlo
open Cert.Proof.Math Cert.Proof.Ref

/-- The two results agree where the precondition holds: `cv`, `rad`, `dp` are the arguments, which the reference's launch
    contents `V0` hold. -/
theorem results_agree (cv : FVec Ideal Cert.Pre_in_range.S4x128x128x256 .f32) (rad : IVec Cert.Pre_in_range.S_ 32)
    (dp : FVec Ideal Cert.Pre_in_range.S4x1x128x256 .f32) (hpre : Cert.Pre_in_range.fn (F := Ideal) cv rad dp = fun _ => 1#1)
    (V0 : Valuation Cert.ReferenceIdeal.τ Cert.ReferenceIdeal.sig (Elt Ideal)) (hC : argC V0 = cv) (hR : argR V0 = rad) (hD : argD V0 = dp) :
    (Cert.ReferenceIdeal.Value.res_main_v128 V0 : FVec Ideal Cert.ReferenceIdeal.S4x27x128x256 .f32) = Sc.resE (F := Ideal) cv dp := by
  obtain ⟨hrad, hcv, hdp⟩ := in_range_read cv rad dp hpre
  funext x
  -- the column and the disparity as reals, by batch, height and width
  let v : Fin 4 → Fin 128 → Fin 256 → ℕ → ℝ := fun b h w n =>
    (cv (ix4 b (⟨n % 128, Nat.mod_lt _ (by decide)⟩ : Fin 128) h w) : EReal).toReal
  let d : Fin 4 → Fin 128 → Fin 256 → ℝ := fun b h w => (dp (ix4 b (0 : Fin 1) h w) : EReal).toReal
  have hv : ∀ b h w (n : Fin 128), argC V0 (ix4 b n h w) = ((v b h w n.val : ℝ) : EReal) := fun b h w n => by
    rw [hC]
    have e : (⟨n.val % 128, Nat.mod_lt _ (by decide)⟩ : Fin 128) = n := Fin.ext (Nat.mod_eq_of_lt n.isLt)
    show _ = (((cv (ix4 b (⟨n.val % 128, Nat.mod_lt _ (by decide)⟩ : Fin 128) h w) : EReal).toReal : ℝ) : EReal)
    rw [e]; exact hcv _
  have hd : ∀ b h w, argD V0 (ix4 b (0 : Fin 1) h w) = ((d b h w : ℝ) : EReal) := fun b h w => by
    rw [hD]; exact (hdp _).1
  have href := ref_real V0 v d hv (by rw [hR]; exact hrad) hd (x 0) (x 1) (x 2) (x 3)
  have hker := outS_real (v (x 0) (x 2) (x 3)) (d (x 0) (x 2) (x 3)) (hdp _).2.1 (hdp _).2.2 (x 1).val (x 1).isLt
  have hx : x = ix4 (x 0) (x 1) (x 2) (x 3) := eq_ix4 x
  refine (congrArg (Cert.ReferenceIdeal.Value.res_main_v128 V0 : FVec Ideal Cert.ReferenceIdeal.S4x27x128x256 .f32) hx).trans (href.trans (hker.symm.trans ?_))
  unfold Sc.resE
  have e1 : (fun n => ((v (x 0) (x 2) (x 3) n : ℝ) : EReal))
      = fun n => cv (ix4 (x 0) (⟨n % 128, Nat.mod_lt _ (by decide)⟩ : Fin 128) (x 2) (x 3)) := funext fun n => (hcv _).symm
  have e2 : ((d (x 0) (x 2) (x 3) : ℝ) : EReal) = dp (ix4 (x 0) (0 : Fin 1) (x 2) (x 3)) := (hdp _).1.symm
  exact congrArg₂ (fun a b => Sc.outS (F := Ideal) a b (x 1).val) e1 e2

/-- The kernel and the reference compute the same function over the extended reals, where the precondition holds. -/
theorem algebraic : Cert.algebraic_KernelIdeal_ReferenceIdeal_pre_in_range := by
  intro m ρ m' ρ' hpre hag
  refine ⟨fun c => Sc.resE (F := Ideal) (Sc.cvOf m c) (Sc.dpOf m c),
    (θ_run Cert.KernelIdeal.defs _ _).mono (fun _ h c => ⟨(h.1 c).2.2.2, (h.1 c).1, (h.1 c).2.1, (h.1 c).2.2.1⟩) (Sc.run_main (F := Ideal) m ρ), ?_⟩
  refine (θ_run Cert.ReferenceIdeal.defs _ _).mono (fun _ h c => ⟨(h c).1.trans ?_, (h c).2⟩)
    (Cert.ReferenceIdeal.Value.run (F := Ideal) m' ρ')
  exact results_agree _ _ _ (hpre c) (launchContents m' c) (hag c).1 (hag c).2.1 (hag c).2.2

end Cert.Proof

end
-- ==== Proof.lean ====
/- The proof of the certificate's claim. The programs' side conditions come from the generated modules; the frames are
   `Proof/Frames.lean`'s, the equation with the reference is `Proof/Algebraic.lean`'s. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Frames
public import proofs.«01_k».proof.Proof.Algebraic

@[expose] public section

noncomputable section

namespace Cert.Proof

/-- Everything the certificate claims. -/
theorem claim : Cert.Claim := ⟨Cert.Kernel.Gen.facts, Cert.KernelIdeal.Gen.facts, Cert.ReferenceIdeal.Gen.facts,
  Cert.Pre_in_range.Gen.facts, frame_kernel, frame_kernelIdeal, frame_kernelIdeal_in_range, frame_referenceIdeal,
  frame_referenceIdeal_in_range, preserves, algebraic⟩

end Cert.Proof

end
